-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_LastFfn (m : (ℓ : Loc Cert.LastFfn.nD Cert.LastFfn.τ Cert.LastFfn.sig) → Buf (Elt Bits) ℓ) : Prop :=
  True

def Pre_LastFfnIdeal (m : (ℓ : Loc Cert.LastFfnIdeal.nD Cert.LastFfnIdeal.τ Cert.LastFfnIdeal.sig) → Buf (Elt Ideal) ℓ) : Prop :=
  True

def Pre_LastFfnRefIdeal (m : (ℓ : Loc Cert.LastFfnRefIdeal.nD Cert.LastFfnRefIdeal.τ Cert.LastFfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Rnn (m : (ℓ : Loc Cert.Rnn.nD Cert.Rnn.τ Cert.Rnn.sig) → Buf (Elt Bits) ℓ) : Prop :=
  True

def Pre_RnnIdeal (m : (ℓ : Loc Cert.RnnIdeal.nD Cert.RnnIdeal.τ Cert.RnnIdeal.sig) → Buf (Elt Ideal) ℓ) : Prop :=
  True

def Pre_RnnRefIdeal (m : (ℓ : Loc Cert.RnnRefIdeal.nD Cert.RnnRefIdeal.τ Cert.RnnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_LastFfn [hLastFfn : Cert.LastFfn.Facts] : Prop :=
  ∀ (m : (ℓ : Loc Cert.LastFfn.nD Cert.LastFfn.τ Cert.LastFfn.sig) → Buf (Elt Bits) ℓ) (g : Dev Cert.LastFfn.nD → PrngReg), Pre_LastFfn m →
    θ_run (Cert.LastFfn.defs (F := Bits)) (onTc (τ := Cert.LastFfn.τ) (Cert.LastFfn.main (F := Bits))) ⟨m, fun _ => 0, g⟩ (fun r => (∀ c : Dev Cert.LastFfn.nD,
      r.2.mem ((c.tc : Thread Cert.LastFfn.nD Cert.LastFfn.τ).loc Cert.LastFfn.main_arg0) = m ((c.tc : Thread Cert.LastFfn.nD Cert.LastFfn.τ).loc Cert.LastFfn.main_arg0)
      ∧ r.2.mem ((c.tc : Thread Cert.LastFfn.nD Cert.LastFfn.τ).loc Cert.LastFfn.main_arg1) = m ((c.tc : Thread Cert.LastFfn.nD Cert.LastFfn.τ).loc Cert.LastFfn.main_arg1)
      ∧ r.2.mem ((c.tc : Thread Cert.LastFfn.nD Cert.LastFfn.τ).loc Cert.LastFfn.main_arg2) = m ((c.tc : Thread Cert.LastFfn.nD Cert.LastFfn.τ).loc Cert.LastFfn.main_arg2)
      ∧ r.2.mem ((c.tc : Thread Cert.LastFfn.nD Cert.LastFfn.τ).loc Cert.LastFfn.main_arg3) = m ((c.tc : Thread Cert.LastFfn.nD Cert.LastFfn.τ).loc Cert.LastFfn.main_arg3)
      ∧ r.2.mem ((c.tc : Thread Cert.LastFfn.nD Cert.LastFfn.τ).loc Cert.LastFfn.main_arg4) = m ((c.tc : Thread Cert.LastFfn.nD Cert.LastFfn.τ).loc Cert.LastFfn.main_arg4))
      ∧ r.2.sem = fun _ => 0)

def quiescent_LastFfnIdeal [hLastFfnIdeal : Cert.LastFfnIdeal.Facts] : Prop :=
  ∀ (m : (ℓ : Loc Cert.LastFfnIdeal.nD Cert.LastFfnIdeal.τ Cert.LastFfnIdeal.sig) → Buf (Elt Ideal) ℓ) (g : Dev Cert.LastFfnIdeal.nD → PrngReg), Pre_LastFfnIdeal m →
    θ_run (Cert.LastFfnIdeal.defs (F := Ideal)) (onTc (τ := Cert.LastFfnIdeal.τ) (Cert.LastFfnIdeal.main (F := Ideal))) ⟨m, fun _ => 0, g⟩ (fun r => (∀ c : Dev Cert.LastFfnIdeal.nD,
      r.2.mem ((c.tc : Thread Cert.LastFfnIdeal.nD Cert.LastFfnIdeal.τ).loc Cert.LastFfnIdeal.main_arg0) = m ((c.tc : Thread Cert.LastFfnIdeal.nD Cert.LastFfnIdeal.τ).loc Cert.LastFfnIdeal.main_arg0)
      ∧ r.2.mem ((c.tc : Thread Cert.LastFfnIdeal.nD Cert.LastFfnIdeal.τ).loc Cert.LastFfnIdeal.main_arg1) = m ((c.tc : Thread Cert.LastFfnIdeal.nD Cert.LastFfnIdeal.τ).loc Cert.LastFfnIdeal.main_arg1)
      ∧ r.2.mem ((c.tc : Thread Cert.LastFfnIdeal.nD Cert.LastFfnIdeal.τ).loc Cert.LastFfnIdeal.main_arg2) = m ((c.tc : Thread Cert.LastFfnIdeal.nD Cert.LastFfnIdeal.τ).loc Cert.LastFfnIdeal.main_arg2)
      ∧ r.2.mem ((c.tc : Thread Cert.LastFfnIdeal.nD Cert.LastFfnIdeal.τ).loc Cert.LastFfnIdeal.main_arg3) = m ((c.tc : Thread Cert.LastFfnIdeal.nD Cert.LastFfnIdeal.τ).loc Cert.LastFfnIdeal.main_arg3)
      ∧ r.2.mem ((c.tc : Thread Cert.LastFfnIdeal.nD Cert.LastFfnIdeal.τ).loc Cert.LastFfnIdeal.main_arg4) = m ((c.tc : Thread Cert.LastFfnIdeal.nD Cert.LastFfnIdeal.τ).loc Cert.LastFfnIdeal.main_arg4))
      ∧ r.2.sem = fun _ => 0)

def quiescent_LastFfnRefIdeal [hLastFfnRefIdeal : Cert.LastFfnRefIdeal.Facts] : Prop :=
  ∀ (m : (ℓ : Loc Cert.LastFfnRefIdeal.nD Cert.LastFfnRefIdeal.τ Cert.LastFfnRefIdeal.sig) → Buf (Elt Ideal) ℓ) (g : Dev Cert.LastFfnRefIdeal.nD → PrngReg), Pre_LastFfnRefIdeal m →
    θ_run (Cert.LastFfnRefIdeal.defs (F := Ideal)) (onTc (τ := Cert.LastFfnRefIdeal.τ) (Cert.LastFfnRefIdeal.main (F := Ideal))) ⟨m, fun _ => 0, g⟩ (fun r => (∀ c : Dev Cert.LastFfnRefIdeal.nD,
      r.2.mem ((c.tc : Thread Cert.LastFfnRefIdeal.nD Cert.LastFfnRefIdeal.τ).loc Cert.LastFfnRefIdeal.main_arg0) = m ((c.tc : Thread Cert.LastFfnRefIdeal.nD Cert.LastFfnRefIdeal.τ).loc Cert.LastFfnRefIdeal.main_arg0)
      ∧ r.2.mem ((c.tc : Thread Cert.LastFfnRefIdeal.nD Cert.LastFfnRefIdeal.τ).loc Cert.LastFfnRefIdeal.main_arg1) = m ((c.tc : Thread Cert.LastFfnRefIdeal.nD Cert.LastFfnRefIdeal.τ).loc Cert.LastFfnRefIdeal.main_arg1)
      ∧ r.2.mem ((c.tc : Thread Cert.LastFfnRefIdeal.nD Cert.LastFfnRefIdeal.τ).loc Cert.LastFfnRefIdeal.main_arg2) = m ((c.tc : Thread Cert.LastFfnRefIdeal.nD Cert.LastFfnRefIdeal.τ).loc Cert.LastFfnRefIdeal.main_arg2)
      ∧ r.2.mem ((c.tc : Thread Cert.LastFfnRefIdeal.nD Cert.LastFfnRefIdeal.τ).loc Cert.LastFfnRefIdeal.main_arg3) = m ((c.tc : Thread Cert.LastFfnRefIdeal.nD Cert.LastFfnRefIdeal.τ).loc Cert.LastFfnRefIdeal.main_arg3)
      ∧ r.2.mem ((c.tc : Thread Cert.LastFfnRefIdeal.nD Cert.LastFfnRefIdeal.τ).loc Cert.LastFfnRefIdeal.main_arg4) = m ((c.tc : Thread Cert.LastFfnRefIdeal.nD Cert.LastFfnRefIdeal.τ).loc Cert.LastFfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3)
      ∧ r.2.mem ((c.tc : Thread Cert.Sconv.nD Cert.Sconv.τ).loc Cert.Sconv.main_arg4) = m ((c.tc : Thread Cert.Sconv.nD Cert.Sconv.τ).loc Cert.Sconv.main_arg4))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
      ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)
      ∧ r.2.mem ((c.tc : Thread Cert.SconvRefIdeal.nD Cert.SconvRefIdeal.τ).loc Cert.SconvRefIdeal.main_arg4) = m ((c.tc : Thread Cert.SconvRefIdeal.nD Cert.SconvRefIdeal.τ).loc Cert.SconvRefIdeal.main_arg4))
      ∧ r.2.sem = fun _ => 0)

def quiescent_Rnn [hRnn : Cert.Rnn.Facts] : Prop :=
  ∀ (m : (ℓ : Loc Cert.Rnn.nD Cert.Rnn.τ Cert.Rnn.sig) → Buf (Elt Bits) ℓ) (g : Dev Cert.Rnn.nD → PrngReg), Pre_Rnn m →
    θ_run (Cert.Rnn.defs (F := Bits)) (onTc (τ := Cert.Rnn.τ) (Cert.Rnn.main (F := Bits))) ⟨m, fun _ => 0, g⟩ (fun r => (∀ c : Dev Cert.Rnn.nD,
      r.2.mem ((c.tc : Thread Cert.Rnn.nD Cert.Rnn.τ).loc Cert.Rnn.main_arg0) = m ((c.tc : Thread Cert.Rnn.nD Cert.Rnn.τ).loc Cert.Rnn.main_arg0)
      ∧ r.2.mem ((c.tc : Thread Cert.Rnn.nD Cert.Rnn.τ).loc Cert.Rnn.main_arg1) = m ((c.tc : Thread Cert.Rnn.nD Cert.Rnn.τ).loc Cert.Rnn.main_arg1)
      ∧ r.2.mem ((c.tc : Thread Cert.Rnn.nD Cert.Rnn.τ).loc Cert.Rnn.main_arg2) = m ((c.tc : Thread Cert.Rnn.nD Cert.Rnn.τ).loc Cert.Rnn.main_arg2)
      ∧ r.2.mem ((c.tc : Thread Cert.Rnn.nD Cert.Rnn.τ).loc Cert.Rnn.main_arg3) = m ((c.tc : Thread Cert.Rnn.nD Cert.Rnn.τ).loc Cert.Rnn.main_arg3)
      ∧ r.2.mem ((c.tc : Thread Cert.Rnn.nD Cert.Rnn.τ).loc Cert.Rnn.main_arg4) = m ((c.tc : Thread Cert.Rnn.nD Cert.Rnn.τ).loc Cert.Rnn.main_arg4)
      ∧ r.2.mem ((c.tc : Thread Cert.Rnn.nD Cert.Rnn.τ).loc Cert.Rnn.main_arg5) = m ((c.tc : Thread Cert.Rnn.nD Cert.Rnn.τ).loc Cert.Rnn.main_arg5)
      ∧ r.2.mem ((c.tc : Thread Cert.Rnn.nD Cert.Rnn.τ).loc Cert.Rnn.main_arg6) = m ((c.tc : Thread Cert.Rnn.nD Cert.Rnn.τ).loc Cert.Rnn.main_arg6)
      ∧ r.2.mem ((c.tc : Thread Cert.Rnn.nD Cert.Rnn.τ).loc Cert.Rnn.main_arg7) = m ((c.tc : Thread Cert.Rnn.nD Cert.Rnn.τ).loc Cert.Rnn.main_arg7)
      ∧ r.2.mem ((c.tc : Thread Cert.Rnn.nD Cert.Rnn.τ).loc Cert.Rnn.main_arg8) = m ((c.tc : Thread Cert.Rnn.nD Cert.Rnn.τ).loc Cert.Rnn.main_arg8)
      ∧ r.2.mem ((c.tc : Thread Cert.Rnn.nD Cert.Rnn.τ).loc Cert.Rnn.main_arg9) = m ((c.tc : Thread Cert.Rnn.nD Cert.Rnn.τ).loc Cert.Rnn.main_arg9)
      ∧ r.2.mem ((c.tc : Thread Cert.Rnn.nD Cert.Rnn.τ).loc Cert.Rnn.main_arg10) = m ((c.tc : Thread Cert.Rnn.nD Cert.Rnn.τ).loc Cert.Rnn.main_arg10))
      ∧ r.2.sem = fun _ => 0)

def quiescent_RnnIdeal [hRnnIdeal : Cert.RnnIdeal.Facts] : Prop :=
  ∀ (m : (ℓ : Loc Cert.RnnIdeal.nD Cert.RnnIdeal.τ Cert.RnnIdeal.sig) → Buf (Elt Ideal) ℓ) (g : Dev Cert.RnnIdeal.nD → PrngReg), Pre_RnnIdeal m →
    θ_run (Cert.RnnIdeal.defs (F := Ideal)) (onTc (τ := Cert.RnnIdeal.τ) (Cert.RnnIdeal.main (F := Ideal))) ⟨m, fun _ => 0, g⟩ (fun r => (∀ c : Dev Cert.RnnIdeal.nD,
      r.2.mem ((c.tc : Thread Cert.RnnIdeal.nD Cert.RnnIdeal.τ).loc Cert.RnnIdeal.main_arg0) = m ((c.tc : Thread Cert.RnnIdeal.nD Cert.RnnIdeal.τ).loc Cert.RnnIdeal.main_arg0)
      ∧ r.2.mem ((c.tc : Thread Cert.RnnIdeal.nD Cert.RnnIdeal.τ).loc Cert.RnnIdeal.main_arg1) = m ((c.tc : Thread Cert.RnnIdeal.nD Cert.RnnIdeal.τ).loc Cert.RnnIdeal.main_arg1)
      ∧ r.2.mem ((c.tc : Thread Cert.RnnIdeal.nD Cert.RnnIdeal.τ).loc Cert.RnnIdeal.main_arg2) = m ((c.tc : Thread Cert.RnnIdeal.nD Cert.RnnIdeal.τ).loc Cert.RnnIdeal.main_arg2)
      ∧ r.2.mem ((c.tc : Thread Cert.RnnIdeal.nD Cert.RnnIdeal.τ).loc Cert.RnnIdeal.main_arg3) = m ((c.tc : Thread Cert.RnnIdeal.nD Cert.RnnIdeal.τ).loc Cert.RnnIdeal.main_arg3)
      ∧ r.2.mem ((c.tc : Thread Cert.RnnIdeal.nD Cert.RnnIdeal.τ).loc Cert.RnnIdeal.main_arg4) = m ((c.tc : Thread Cert.RnnIdeal.nD Cert.RnnIdeal.τ).loc Cert.RnnIdeal.main_arg4)
      ∧ r.2.mem ((c.tc : Thread Cert.RnnIdeal.nD Cert.RnnIdeal.τ).loc Cert.RnnIdeal.main_arg5) = m ((c.tc : Thread Cert.RnnIdeal.nD Cert.RnnIdeal.τ).loc Cert.RnnIdeal.main_arg5)
      ∧ r.2.mem ((c.tc : Thread Cert.RnnIdeal.nD Cert.RnnIdeal.τ).loc Cert.RnnIdeal.main_arg6) = m ((c.tc : Thread Cert.RnnIdeal.nD Cert.RnnIdeal.τ).loc Cert.RnnIdeal.main_arg6)
      ∧ r.2.mem ((c.tc : Thread Cert.RnnIdeal.nD Cert.RnnIdeal.τ).loc Cert.RnnIdeal.main_arg7) = m ((c.tc : Thread Cert.RnnIdeal.nD Cert.RnnIdeal.τ).loc Cert.RnnIdeal.main_arg7)
      ∧ r.2.mem ((c.tc : Thread Cert.RnnIdeal.nD Cert.RnnIdeal.τ).loc Cert.RnnIdeal.main_arg8) = m ((c.tc : Thread Cert.RnnIdeal.nD Cert.RnnIdeal.τ).loc Cert.RnnIdeal.main_arg8)
      ∧ r.2.mem ((c.tc : Thread Cert.RnnIdeal.nD Cert.RnnIdeal.τ).loc Cert.RnnIdeal.main_arg9) = m ((c.tc : Thread Cert.RnnIdeal.nD Cert.RnnIdeal.τ).loc Cert.RnnIdeal.main_arg9)
      ∧ r.2.mem ((c.tc : Thread Cert.RnnIdeal.nD Cert.RnnIdeal.τ).loc Cert.RnnIdeal.main_arg10) = m ((c.tc : Thread Cert.RnnIdeal.nD Cert.RnnIdeal.τ).loc Cert.RnnIdeal.main_arg10))
      ∧ r.2.sem = fun _ => 0)

def quiescent_RnnRefIdeal [hRnnRefIdeal : Cert.RnnRefIdeal.Facts] : Prop :=
  ∀ (m : (ℓ : Loc Cert.RnnRefIdeal.nD Cert.RnnRefIdeal.τ Cert.RnnRefIdeal.sig) → Buf (Elt Ideal) ℓ) (g : Dev Cert.RnnRefIdeal.nD → PrngReg), Pre_RnnRefIdeal m →
    θ_run (Cert.RnnRefIdeal.defs (F := Ideal)) (onTc (τ := Cert.RnnRefIdeal.τ) (Cert.RnnRefIdeal.main (F := Ideal))) ⟨m, fun _ => 0, g⟩ (fun r => (∀ c : Dev Cert.RnnRefIdeal.nD,
      r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6)
      ∧ r.2.mem ((c.tc : Thread Cert.RnnRefIdeal.nD Cert.RnnRefIdeal.τ).loc Cert.RnnRefIdeal.main_arg7) = m ((c.tc : Thread Cert.RnnRefIdeal.nD Cert.RnnRefIdeal.τ).loc Cert.RnnRefIdeal.main_arg7)
      ∧ r.2.mem ((c.tc : Thread Cert.RnnRefIdeal.nD Cert.RnnRefIdeal.τ).loc Cert.RnnRefIdeal.main_arg8) = m ((c.tc : Thread Cert.RnnRefIdeal.nD Cert.RnnRefIdeal.τ).loc Cert.RnnRefIdeal.main_arg8)
      ∧ r.2.mem ((c.tc : Thread Cert.RnnRefIdeal.nD Cert.RnnRefIdeal.τ).loc Cert.RnnRefIdeal.main_arg9) = m ((c.tc : Thread Cert.RnnRefIdeal.nD Cert.RnnRefIdeal.τ).loc Cert.RnnRefIdeal.main_arg9)
      ∧ r.2.mem ((c.tc : Thread Cert.RnnRefIdeal.nD Cert.RnnRefIdeal.τ).loc Cert.RnnRefIdeal.main_arg10) = m ((c.tc : Thread Cert.RnnRefIdeal.nD Cert.RnnRefIdeal.τ).loc Cert.RnnRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_LastFfn_LastFfnIdeal : Prop :=
  True

def algebraic_LastFfnIdeal_LastFfnRefIdeal [hLastFfnIdeal : Cert.LastFfnIdeal.Facts] [hLastFfnRefIdeal : Cert.LastFfnRefIdeal.Facts] : Prop :=
  ∀ (m : (ℓ : Loc Cert.LastFfnIdeal.nD Cert.LastFfnIdeal.τ Cert.LastFfnIdeal.sig) → Buf (Elt Ideal) ℓ) (g : Dev Cert.LastFfnIdeal.nD → PrngReg)
    (m' : (ℓ : Loc Cert.LastFfnRefIdeal.nD Cert.LastFfnRefIdeal.τ Cert.LastFfnRefIdeal.sig) → Buf (Elt Ideal) ℓ) (g' : Dev Cert.LastFfnRefIdeal.nD → PrngReg), Pre_LastFfnIdeal m →
    (∀ c : Dev Cert.LastFfnIdeal.nD,
      m' ((c.tc : Thread Cert.LastFfnRefIdeal.nD Cert.LastFfnRefIdeal.τ).loc Cert.LastFfnRefIdeal.main_arg0) = m ((c.tc : Thread Cert.LastFfnIdeal.nD Cert.LastFfnIdeal.τ).loc Cert.LastFfnIdeal.main_arg0)
      ∧ m' ((c.tc : Thread Cert.LastFfnRefIdeal.nD Cert.LastFfnRefIdeal.τ).loc Cert.LastFfnRefIdeal.main_arg1) = m ((c.tc : Thread Cert.LastFfnIdeal.nD Cert.LastFfnIdeal.τ).loc Cert.LastFfnIdeal.main_arg1)
      ∧ m' ((c.tc : Thread Cert.LastFfnRefIdeal.nD Cert.LastFfnRefIdeal.τ).loc Cert.LastFfnRefIdeal.main_arg2) = m ((c.tc : Thread Cert.LastFfnIdeal.nD Cert.LastFfnIdeal.τ).loc Cert.LastFfnIdeal.main_arg2)
      ∧ m' ((c.tc : Thread Cert.LastFfnRefIdeal.nD Cert.LastFfnRefIdeal.τ).loc Cert.LastFfnRefIdeal.main_arg3) = m ((c.tc : Thread Cert.LastFfnIdeal.nD Cert.LastFfnIdeal.τ).loc Cert.LastFfnIdeal.main_arg3)
      ∧ m' ((c.tc : Thread Cert.LastFfnRefIdeal.nD Cert.LastFfnRefIdeal.τ).loc Cert.LastFfnRefIdeal.main_arg4) = m ((c.tc : Thread Cert.LastFfnIdeal.nD Cert.LastFfnIdeal.τ).loc Cert.LastFfnIdeal.main_arg4)) →
    ∃ (v0 : (c : Dev Cert.LastFfnIdeal.nD) → Buf (Elt Ideal) ((c.tc : Thread Cert.LastFfnIdeal.nD Cert.LastFfnIdeal.τ).loc Cert.LastFfnIdeal.main_v4)),
      θ_run (Cert.LastFfnIdeal.defs (F := Ideal)) (onTc (τ := Cert.LastFfnIdeal.τ) (Cert.LastFfnIdeal.main (F := Ideal))) ⟨m, fun _ => 0, g⟩ (fun r => ∀ c : Dev Cert.LastFfnIdeal.nD,
          r.2.mem ((c.tc : Thread Cert.LastFfnIdeal.nD Cert.LastFfnIdeal.τ).loc Cert.LastFfnIdeal.main_v4) = v0 c
          ∧ r.2.mem ((c.tc : Thread Cert.LastFfnIdeal.nD Cert.LastFfnIdeal.τ).loc Cert.LastFfnIdeal.main_arg0) = m ((c.tc : Thread Cert.LastFfnIdeal.nD Cert.LastFfnIdeal.τ).loc Cert.LastFfnIdeal.main_arg0)
          ∧ r.2.mem ((c.tc : Thread Cert.LastFfnIdeal.nD Cert.LastFfnIdeal.τ).loc Cert.LastFfnIdeal.main_arg1) = m ((c.tc : Thread Cert.LastFfnIdeal.nD Cert.LastFfnIdeal.τ).loc Cert.LastFfnIdeal.main_arg1)
          ∧ r.2.mem ((c.tc : Thread Cert.LastFfnIdeal.nD Cert.LastFfnIdeal.τ).loc Cert.LastFfnIdeal.main_arg2) = m ((c.tc : Thread Cert.LastFfnIdeal.nD Cert.LastFfnIdeal.τ).loc Cert.LastFfnIdeal.main_arg2)
          ∧ r.2.mem ((c.tc : Thread Cert.LastFfnIdeal.nD Cert.LastFfnIdeal.τ).loc Cert.LastFfnIdeal.main_arg3) = m ((c.tc : Thread Cert.LastFfnIdeal.nD Cert.LastFfnIdeal.τ).loc Cert.LastFfnIdeal.main_arg3)
          ∧ r.2.mem ((c.tc : Thread Cert.LastFfnIdeal.nD Cert.LastFfnIdeal.τ).loc Cert.LastFfnIdeal.main_arg4) = m ((c.tc : Thread Cert.LastFfnIdeal.nD Cert.LastFfnIdeal.τ).loc Cert.LastFfnIdeal.main_arg4))
      ∧ θ_run (Cert.LastFfnRefIdeal.defs (F := Ideal)) (onTc (τ := Cert.LastFfnRefIdeal.τ) (Cert.LastFfnRefIdeal.main (F := Ideal))) ⟨m', fun _ => 0, g'⟩ (fun r => ∀ c : Dev Cert.LastFfnRefIdeal.nD,
          r.2.mem ((c.tc : Thread Cert.LastFfnRefIdeal.nD Cert.LastFfnRefIdeal.τ).loc Cert.LastFfnRefIdeal.main_v40) = v0 c
          ∧ r.2.mem ((c.tc : Thread Cert.LastFfnRefIdeal.nD Cert.LastFfnRefIdeal.τ).loc Cert.LastFfnRefIdeal.main_arg0) = m' ((c.tc : Thread Cert.LastFfnRefIdeal.nD Cert.LastFfnRefIdeal.τ).loc Cert.LastFfnRefIdeal.main_arg0)
          ∧ r.2.mem ((c.tc : Thread Cert.LastFfnRefIdeal.nD Cert.LastFfnRefIdeal.τ).loc Cert.LastFfnRefIdeal.main_arg1) = m' ((c.tc : Thread Cert.LastFfnRefIdeal.nD Cert.LastFfnRefIdeal.τ).loc Cert.LastFfnRefIdeal.main_arg1)
          ∧ r.2.mem ((c.tc : Thread Cert.LastFfnRefIdeal.nD Cert.LastFfnRefIdeal.τ).loc Cert.LastFfnRefIdeal.main_arg2) = m' ((c.tc : Thread Cert.LastFfnRefIdeal.nD Cert.LastFfnRefIdeal.τ).loc Cert.LastFfnRefIdeal.main_arg2)
          ∧ r.2.mem ((c.tc : Thread Cert.LastFfnRefIdeal.nD Cert.LastFfnRefIdeal.τ).loc Cert.LastFfnRefIdeal.main_arg3) = m' ((c.tc : Thread Cert.LastFfnRefIdeal.nD Cert.LastFfnRefIdeal.τ).loc Cert.LastFfnRefIdeal.main_arg3)
          ∧ r.2.mem ((c.tc : Thread Cert.LastFfnRefIdeal.nD Cert.LastFfnRefIdeal.τ).loc Cert.LastFfnRefIdeal.main_arg4) = m' ((c.tc : Thread Cert.LastFfnRefIdeal.nD Cert.LastFfnRefIdeal.τ).loc Cert.LastFfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)
      ∧ m' ((c.tc : Thread Cert.SconvRefIdeal.nD Cert.SconvRefIdeal.τ).loc Cert.SconvRefIdeal.main_arg4) = m ((c.tc : Thread Cert.SconvIdeal.nD Cert.SconvIdeal.τ).loc Cert.SconvIdeal.main_arg4)) →
    ∃ (v0 : (c : Dev Cert.SconvIdeal.nD) → Buf (Elt Ideal) ((c.tc : Thread Cert.SconvIdeal.nD Cert.SconvIdeal.τ).loc Cert.SconvIdeal.main_v3)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v3) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
          ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v52) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3)
          ∧ r.2.mem ((c.tc : Thread Cert.SconvRefIdeal.nD Cert.SconvRefIdeal.τ).loc Cert.SconvRefIdeal.main_arg4) = m' ((c.tc : Thread Cert.SconvRefIdeal.nD Cert.SconvRefIdeal.τ).loc Cert.SconvRefIdeal.main_arg4))

def preserves_Rnn_RnnIdeal : Prop :=
  True

def algebraic_RnnIdeal_RnnRefIdeal [hRnnIdeal : Cert.RnnIdeal.Facts] [hRnnRefIdeal : Cert.RnnRefIdeal.Facts] : Prop :=
  ∀ (m : (ℓ : Loc Cert.RnnIdeal.nD Cert.RnnIdeal.τ Cert.RnnIdeal.sig) → Buf (Elt Ideal) ℓ) (g : Dev Cert.RnnIdeal.nD → PrngReg)
    (m' : (ℓ : Loc Cert.RnnRefIdeal.nD Cert.RnnRefIdeal.τ Cert.RnnRefIdeal.sig) → Buf (Elt Ideal) ℓ) (g' : Dev Cert.RnnRefIdeal.nD → PrngReg), Pre_RnnIdeal m →
    (∀ c : Dev Cert.RnnIdeal.nD,
      m' ((c.tc : Thread Cert.RnnRefIdeal.nD Cert.RnnRefIdeal.τ).loc Cert.RnnRefIdeal.main_arg0) = m ((c.tc : Thread Cert.RnnIdeal.nD Cert.RnnIdeal.τ).loc Cert.RnnIdeal.main_arg0)
      ∧ m' ((c.tc : Thread Cert.RnnRefIdeal.nD Cert.RnnRefIdeal.τ).loc Cert.RnnRefIdeal.main_arg1) = m ((c.tc : Thread Cert.RnnIdeal.nD Cert.RnnIdeal.τ).loc Cert.RnnIdeal.main_arg1)
      ∧ m' ((c.tc : Thread Cert.RnnRefIdeal.nD Cert.RnnRefIdeal.τ).loc Cert.RnnRefIdeal.main_arg2) = m ((c.tc : Thread Cert.RnnIdeal.nD Cert.RnnIdeal.τ).loc Cert.RnnIdeal.main_arg2)
      ∧ m' ((c.tc : Thread Cert.RnnRefIdeal.nD Cert.RnnRefIdeal.τ).loc Cert.RnnRefIdeal.main_arg3) = m ((c.tc : Thread Cert.RnnIdeal.nD Cert.RnnIdeal.τ).loc Cert.RnnIdeal.main_arg3)
      ∧ m' ((c.tc : Thread Cert.RnnRefIdeal.nD Cert.RnnRefIdeal.τ).loc Cert.RnnRefIdeal.main_arg4) = m ((c.tc : Thread Cert.RnnIdeal.nD Cert.RnnIdeal.τ).loc Cert.RnnIdeal.main_arg4)
      ∧ m' ((c.tc : Thread Cert.RnnRefIdeal.nD Cert.RnnRefIdeal.τ).loc Cert.RnnRefIdeal.main_arg5) = m ((c.tc : Thread Cert.RnnIdeal.nD Cert.RnnIdeal.τ).loc Cert.RnnIdeal.main_arg5)
      ∧ m' ((c.tc : Thread Cert.RnnRefIdeal.nD Cert.RnnRefIdeal.τ).loc Cert.RnnRefIdeal.main_arg6) = m ((c.tc : Thread Cert.RnnIdeal.nD Cert.RnnIdeal.τ).loc Cert.RnnIdeal.main_arg6)
      ∧ m' ((c.tc : Thread Cert.RnnRefIdeal.nD Cert.RnnRefIdeal.τ).loc Cert.RnnRefIdeal.main_arg7) = m ((c.tc : Thread Cert.RnnIdeal.nD Cert.RnnIdeal.τ).loc Cert.RnnIdeal.main_arg7)
      ∧ m' ((c.tc : Thread Cert.RnnRefIdeal.nD Cert.RnnRefIdeal.τ).loc Cert.RnnRefIdeal.main_arg8) = m ((c.tc : Thread Cert.RnnIdeal.nD Cert.RnnIdeal.τ).loc Cert.RnnIdeal.main_arg8)
      ∧ m' ((c.tc : Thread Cert.RnnRefIdeal.nD Cert.RnnRefIdeal.τ).loc Cert.RnnRefIdeal.main_arg9) = m ((c.tc : Thread Cert.RnnIdeal.nD Cert.RnnIdeal.τ).loc Cert.RnnIdeal.main_arg9)
      ∧ m' ((c.tc : Thread Cert.RnnRefIdeal.nD Cert.RnnRefIdeal.τ).loc Cert.RnnRefIdeal.main_arg10) = m ((c.tc : Thread Cert.RnnIdeal.nD Cert.RnnIdeal.τ).loc Cert.RnnIdeal.main_arg10)) →
    ∃ (v0 : (c : Dev Cert.RnnIdeal.nD) → Buf (Elt Ideal) ((c.tc : Thread Cert.RnnIdeal.nD Cert.RnnIdeal.τ).loc Cert.RnnIdeal.main_v35)),
      θ_run (Cert.RnnIdeal.defs (F := Ideal)) (onTc (τ := Cert.RnnIdeal.τ) (Cert.RnnIdeal.main (F := Ideal))) ⟨m, fun _ => 0, g⟩ (fun r => ∀ c : Dev Cert.RnnIdeal.nD,
          r.2.mem ((c.tc : Thread Cert.RnnIdeal.nD Cert.RnnIdeal.τ).loc Cert.RnnIdeal.main_v35) = v0 c
          ∧ r.2.mem ((c.tc : Thread Cert.RnnIdeal.nD Cert.RnnIdeal.τ).loc Cert.RnnIdeal.main_arg0) = m ((c.tc : Thread Cert.RnnIdeal.nD Cert.RnnIdeal.τ).loc Cert.RnnIdeal.main_arg0)
          ∧ r.2.mem ((c.tc : Thread Cert.RnnIdeal.nD Cert.RnnIdeal.τ).loc Cert.RnnIdeal.main_arg1) = m ((c.tc : Thread Cert.RnnIdeal.nD Cert.RnnIdeal.τ).loc Cert.RnnIdeal.main_arg1)
          ∧ r.2.mem ((c.tc : Thread Cert.RnnIdeal.nD Cert.RnnIdeal.τ).loc Cert.RnnIdeal.main_arg2) = m ((c.tc : Thread Cert.RnnIdeal.nD Cert.RnnIdeal.τ).loc Cert.RnnIdeal.main_arg2)
          ∧ r.2.mem ((c.tc : Thread Cert.RnnIdeal.nD Cert.RnnIdeal.τ).loc Cert.RnnIdeal.main_arg3) = m ((c.tc : Thread Cert.RnnIdeal.nD Cert.RnnIdeal.τ).loc Cert.RnnIdeal.main_arg3)
          ∧ r.2.mem ((c.tc : Thread Cert.RnnIdeal.nD Cert.RnnIdeal.τ).loc Cert.RnnIdeal.main_arg4) = m ((c.tc : Thread Cert.RnnIdeal.nD Cert.RnnIdeal.τ).loc Cert.RnnIdeal.main_arg4)
          ∧ r.2.mem ((c.tc : Thread Cert.RnnIdeal.nD Cert.RnnIdeal.τ).loc Cert.RnnIdeal.main_arg5) = m ((c.tc : Thread Cert.RnnIdeal.nD Cert.RnnIdeal.τ).loc Cert.RnnIdeal.main_arg5)
          ∧ r.2.mem ((c.tc : Thread Cert.RnnIdeal.nD Cert.RnnIdeal.τ).loc Cert.RnnIdeal.main_arg6) = m ((c.tc : Thread Cert.RnnIdeal.nD Cert.RnnIdeal.τ).loc Cert.RnnIdeal.main_arg6)
          ∧ r.2.mem ((c.tc : Thread Cert.RnnIdeal.nD Cert.RnnIdeal.τ).loc Cert.RnnIdeal.main_arg7) = m ((c.tc : Thread Cert.RnnIdeal.nD Cert.RnnIdeal.τ).loc Cert.RnnIdeal.main_arg7)
          ∧ r.2.mem ((c.tc : Thread Cert.RnnIdeal.nD Cert.RnnIdeal.τ).loc Cert.RnnIdeal.main_arg8) = m ((c.tc : Thread Cert.RnnIdeal.nD Cert.RnnIdeal.τ).loc Cert.RnnIdeal.main_arg8)
          ∧ r.2.mem ((c.tc : Thread Cert.RnnIdeal.nD Cert.RnnIdeal.τ).loc Cert.RnnIdeal.main_arg9) = m ((c.tc : Thread Cert.RnnIdeal.nD Cert.RnnIdeal.τ).loc Cert.RnnIdeal.main_arg9)
          ∧ r.2.mem ((c.tc : Thread Cert.RnnIdeal.nD Cert.RnnIdeal.τ).loc Cert.RnnIdeal.main_arg10) = m ((c.tc : Thread Cert.RnnIdeal.nD Cert.RnnIdeal.τ).loc Cert.RnnIdeal.main_arg10))
      ∧ θ_run (Cert.RnnRefIdeal.defs (F := Ideal)) (onTc (τ := Cert.RnnRefIdeal.τ) (Cert.RnnRefIdeal.main (F := Ideal))) ⟨m', fun _ => 0, g'⟩ (fun r => ∀ c : Dev Cert.RnnRefIdeal.nD,
          r.2.mem ((c.tc : Thread Cert.RnnRefIdeal.nD Cert.RnnRefIdeal.τ).loc Cert.RnnRefIdeal.main_v131) = v0 c
          ∧ r.2.mem ((c.tc : Thread Cert.RnnRefIdeal.nD Cert.RnnRefIdeal.τ).loc Cert.RnnRefIdeal.main_arg0) = m' ((c.tc : Thread Cert.RnnRefIdeal.nD Cert.RnnRefIdeal.τ).loc Cert.RnnRefIdeal.main_arg0)
          ∧ r.2.mem ((c.tc : Thread Cert.RnnRefIdeal.nD Cert.RnnRefIdeal.τ).loc Cert.RnnRefIdeal.main_arg1) = m' ((c.tc : Thread Cert.RnnRefIdeal.nD Cert.RnnRefIdeal.τ).loc Cert.RnnRefIdeal.main_arg1)
          ∧ r.2.mem ((c.tc : Thread Cert.RnnRefIdeal.nD Cert.RnnRefIdeal.τ).loc Cert.RnnRefIdeal.main_arg2) = m' ((c.tc : Thread Cert.RnnRefIdeal.nD Cert.RnnRefIdeal.τ).loc Cert.RnnRefIdeal.main_arg2)
          ∧ r.2.mem ((c.tc : Thread Cert.RnnRefIdeal.nD Cert.RnnRefIdeal.τ).loc Cert.RnnRefIdeal.main_arg3) = m' ((c.tc : Thread Cert.RnnRefIdeal.nD Cert.RnnRefIdeal.τ).loc Cert.RnnRefIdeal.main_arg3)
          ∧ r.2.mem ((c.tc : Thread Cert.RnnRefIdeal.nD Cert.RnnRefIdeal.τ).loc Cert.RnnRefIdeal.main_arg4) = m' ((c.tc : Thread Cert.RnnRefIdeal.nD Cert.RnnRefIdeal.τ).loc Cert.RnnRefIdeal.main_arg4)
          ∧ r.2.mem ((c.tc : Thread Cert.RnnRefIdeal.nD Cert.RnnRefIdeal.τ).loc Cert.RnnRefIdeal.main_arg5) = m' ((c.tc : Thread Cert.RnnRefIdeal.nD Cert.RnnRefIdeal.τ).loc Cert.RnnRefIdeal.main_arg5)
          ∧ r.2.mem ((c.tc : Thread Cert.RnnRefIdeal.nD Cert.RnnRefIdeal.τ).loc Cert.RnnRefIdeal.main_arg6) = m' ((c.tc : Thread Cert.RnnRefIdeal.nD Cert.RnnRefIdeal.τ).loc Cert.RnnRefIdeal.main_arg6)
          ∧ r.2.mem ((c.tc : Thread Cert.RnnRefIdeal.nD Cert.RnnRefIdeal.τ).loc Cert.RnnRefIdeal.main_arg7) = m' ((c.tc : Thread Cert.RnnRefIdeal.nD Cert.RnnRefIdeal.τ).loc Cert.RnnRefIdeal.main_arg7)
          ∧ r.2.mem ((c.tc : Thread Cert.RnnRefIdeal.nD Cert.RnnRefIdeal.τ).loc Cert.RnnRefIdeal.main_arg8) = m' ((c.tc : Thread Cert.RnnRefIdeal.nD Cert.RnnRefIdeal.τ).loc Cert.RnnRefIdeal.main_arg8)
          ∧ r.2.mem ((c.tc : Thread Cert.RnnRefIdeal.nD Cert.RnnRefIdeal.τ).loc Cert.RnnRefIdeal.main_arg9) = m' ((c.tc : Thread Cert.RnnRefIdeal.nD Cert.RnnRefIdeal.τ).loc Cert.RnnRefIdeal.main_arg9)
          ∧ r.2.mem ((c.tc : Thread Cert.RnnRefIdeal.nD Cert.RnnRefIdeal.τ).loc Cert.RnnRefIdeal.main_arg10) = m' ((c.tc : Thread Cert.RnnRefIdeal.nD Cert.RnnRefIdeal.τ).loc Cert.RnnRefIdeal.main_arg10))

def preserves_Qkv_QkvIdeal : Prop :=
  IdealRules.named_const.Statement Cert.QkvIdeal.κ "q_scale" .f32 0x3E0293EE#32 (((Real.sqrt 128)⁻¹ * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v17_0)) (v1 : (c : Dev Cert.QkvIdeal.nD) → Buf (Elt Ideal) ((c.tc : Thread Cert.QkvIdeal.nD Cert.QkvIdeal.τ).loc Cert.QkvIdeal.main_v17_1)) (v2 : (c : Dev Cert.QkvIdeal.nD) → Buf (Elt Ideal) ((c.tc : Thread Cert.QkvIdeal.nD Cert.QkvIdeal.τ).loc Cert.QkvIdeal.main_v17_2)) (v3 : (c : Dev Cert.QkvIdeal.nD) → Buf (Elt Ideal) ((c.tc : Thread Cert.QkvIdeal.nD Cert.QkvIdeal.τ).loc Cert.QkvIdeal.main_v17_3)) (v4 : (c : Dev Cert.QkvIdeal.nD) → Buf (Elt Ideal) ((c.tc : Thread Cert.QkvIdeal.nD Cert.QkvIdeal.τ).loc Cert.QkvIdeal.main_v17_4)) (v5 : (c : Dev Cert.QkvIdeal.nD) → Buf (Elt Ideal) ((c.tc : Thread Cert.QkvIdeal.nD Cert.QkvIdeal.τ).loc Cert.QkvIdeal.main_v17_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v17_0) = v0 c
          ∧ r.2.mem ((c.tc : Thread Cert.QkvIdeal.nD Cert.QkvIdeal.τ).loc Cert.QkvIdeal.main_v17_1) = v1 c
          ∧ r.2.mem ((c.tc : Thread Cert.QkvIdeal.nD Cert.QkvIdeal.τ).loc Cert.QkvIdeal.main_v17_2) = v2 c
          ∧ r.2.mem ((c.tc : Thread Cert.QkvIdeal.nD Cert.QkvIdeal.τ).loc Cert.QkvIdeal.main_v17_3) = v3 c
          ∧ r.2.mem ((c.tc : Thread Cert.QkvIdeal.nD Cert.QkvIdeal.τ).loc Cert.QkvIdeal.main_v17_4) = v4 c
          ∧ r.2.mem ((c.tc : Thread Cert.QkvIdeal.nD Cert.QkvIdeal.τ).loc Cert.QkvIdeal.main_v17_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v97) = v0 c
          ∧ r.2.mem ((c.tc : Thread Cert.QkvRefIdeal.nD Cert.QkvRefIdeal.τ).loc Cert.QkvRefIdeal.main_v98) = v1 c
          ∧ r.2.mem ((c.tc : Thread Cert.QkvRefIdeal.nD Cert.QkvRefIdeal.τ).loc Cert.QkvRefIdeal.main_v99) = v2 c
          ∧ r.2.mem ((c.tc : Thread Cert.QkvRefIdeal.nD Cert.QkvRefIdeal.τ).loc Cert.QkvRefIdeal.main_v100) = v3 c
          ∧ r.2.mem ((c.tc : Thread Cert.QkvRefIdeal.nD Cert.QkvRefIdeal.τ).loc Cert.QkvRefIdeal.main_v102) = v4 c
          ∧ r.2.mem ((c.tc : Thread Cert.QkvRefIdeal.nD Cert.QkvRefIdeal.τ).loc Cert.QkvRefIdeal.main_v103) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hFfn : Cert.Ffn.Facts) (hFfnIdeal : Cert.FfnIdeal.Facts) (hFfnRefIdeal : Cert.FfnRefIdeal.Facts) (hLastFfn : Cert.LastFfn.Facts) (hLastFfnIdeal : Cert.LastFfnIdeal.Facts) (hLastFfnRefIdeal : Cert.LastFfnRefIdeal.Facts) (hMerge : Cert.Merge.Facts) (hMergeIdeal : Cert.MergeIdeal.Facts) (hMergeRefIdeal : Cert.MergeRefIdeal.Facts) (hSconv : Cert.Sconv.Facts) (hSconvIdeal : Cert.SconvIdeal.Facts) (hSconvRefIdeal : Cert.SconvRefIdeal.Facts) (hRnn : Cert.Rnn.Facts) (hRnnIdeal : Cert.RnnIdeal.Facts) (hRnnRefIdeal : Cert.RnnRefIdeal.Facts) (hQkv : Cert.Qkv.Facts) (hQkvIdeal : Cert.QkvIdeal.Facts) (hQkvRefIdeal : Cert.QkvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_LastFfn (hLastFfn := hLastFfn)
    ∧ quiescent_LastFfnIdeal (hLastFfnIdeal := hLastFfnIdeal)
    ∧ quiescent_LastFfnRefIdeal (hLastFfnRefIdeal := hLastFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sconv (hSconv := hSconv)
    ∧ quiescent_SconvIdeal (hSconvIdeal := hSconvIdeal)
    ∧ quiescent_SconvRefIdeal (hSconvRefIdeal := hSconvRefIdeal)
    ∧ quiescent_Rnn (hRnn := hRnn)
    ∧ quiescent_RnnIdeal (hRnnIdeal := hRnnIdeal)
    ∧ quiescent_RnnRefIdeal (hRnnRefIdeal := hRnnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_LastFfn_LastFfnIdeal
    ∧ algebraic_LastFfnIdeal_LastFfnRefIdeal (hLastFfnIdeal := hLastFfnIdeal) (hLastFfnRefIdeal := hLastFfnRefIdeal)
    ∧ preserves_Merge_MergeIdeal
    ∧ algebraic_MergeIdeal_MergeRefIdeal (hMergeIdeal := hMergeIdeal) (hMergeRefIdeal := hMergeRefIdeal)
    ∧ preserves_Sconv_SconvIdeal
    ∧ algebraic_SconvIdeal_SconvRefIdeal (hSconvIdeal := hSconvIdeal) (hSconvRefIdeal := hSconvRefIdeal)
    ∧ preserves_Rnn_RnnIdeal
    ∧ algebraic_RnnIdeal_RnnRefIdeal (hRnnIdeal := hRnnIdeal) (hRnnRefIdeal := hRnnRefIdeal)
    ∧ preserves_Qkv_QkvIdeal
    ∧ algebraic_QkvIdeal_QkvRefIdeal (hQkvIdeal := hQkvIdeal) (hQkvRefIdeal := hQkvRefIdeal)
-- ==== Ffn.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== LastFfn.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastFfnRefIdeal.lean ====
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Merge.lean ====
abbrev S16384x1024 : Shape := ⟨2, ![16384, 1024]⟩
abbrev S2x1024 : Shape := ⟨2, ![2, 1024]⟩
abbrev S2x1024x10312 : Shape := ⟨3, ![2, 1024, 10312]⟩
abbrev S2x1024x1024 : Shape := ⟨3, ![2, 1024, 1024]⟩
abbrev S2x1x1024 : Shape := ⟨3, ![2, 1, 1024]⟩
abbrev S2x1024x3072 : Shape := ⟨3, ![2, 1024, 3072]⟩
abbrev S512x1024 : Shape := ⟨2, ![512, 1024]⟩
abbrev S1x1x1024 : Shape := ⟨3, ![1, 1, 1024]⟩
abbrev S1x1024x3072 : Shape := ⟨3, ![1, 1024, 3072]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S2x1024x1024, .f32⟩
  | .hbm, ⟨7, _⟩ => ⟨S2x1024x1024, .f32⟩
  | .hbm, ⟨8, _⟩ => ⟨S2x1x1024, .f32⟩
  | .hbm, ⟨9, _⟩ => ⟨S2x1024x3072, .f32⟩
  | .hbm, ⟨10, _⟩ => ⟨S2x1024x3072, .bf16⟩
  | .hbm, ⟨11, _⟩ => ⟨S2x1024x1024, .bf16⟩
  | .hbm, ⟨12, _⟩ => ⟨S2x1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S2x1024 : Shape := ⟨2, ![2, 1024]⟩
abbrev S2x1024x10312 : Shape := ⟨3, ![2, 1024, 10312]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x10312 : Shape := ⟨3, ![1, 1024, 10312]⟩
abbrev S1024x10312 : Shape := ⟨2, ![1024, 10312]⟩
abbrev S16384x10312 : Shape := ⟨2, ![16384, 10312]⟩
abbrev S16384x3072 : Shape := ⟨2, ![16384, 3072]⟩
abbrev S16384x3x1024 : Shape := ⟨3, ![16384, 3, 1024]⟩
abbrev S1x1024x1024 : Shape := ⟨3, ![1, 1024, 1024]⟩
abbrev S1024x1024 : Shape := ⟨2, ![1024, 1024]⟩
abbrev S16384x1x1024 : Shape := ⟨3, ![16384, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S2x1024x1024, .f32⟩
  | .hbm, ⟨7, _⟩ => ⟨S2x1024x1024, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x10312, .f32⟩
  | .hbm, ⟨27, _⟩ => ⟨S1024x10312, .f32⟩
  | .hbm, ⟨28, _⟩ => ⟨S16384x10312, .f32⟩
  | .hbm, ⟨29, _⟩ => ⟨S16384x3072, .f32⟩
  | .hbm, ⟨30, _⟩ => ⟨S16384x3x1024, .f32⟩
  | .hbm, ⟨31, _⟩ => ⟨S16384x3x1024, .f32⟩
  | .hbm, ⟨32, _⟩ => ⟨S16384x3x1024, .f32⟩
  | .hbm, ⟨33, _⟩ => ⟨S_, .f32⟩
  | .hbm, ⟨34, _⟩ => ⟨S16384x3x1024, .f32⟩
  | .hbm, ⟨35, _⟩ => ⟨S16384x3x1024, .f32⟩
  | .hbm, ⟨36, _⟩ => ⟨S_, .f32⟩
  | .hbm, ⟨37, _⟩ => ⟨S16384x3x1024, .f32⟩
  | .hbm, ⟨38, _⟩ => ⟨S16384x3x1024, .f32⟩
  | .hbm, ⟨39, _⟩ => ⟨S16384x1024, .f32⟩
  | .hbm, ⟨40, _⟩ => ⟨S1x1024x1024, .f32⟩
  | .hbm, ⟨41, _⟩ => ⟨S1024x1024, .f32⟩
  | .hbm, ⟨42, _⟩ => ⟨S16384x1024, .f32⟩
  | .hbm, ⟨43, _⟩ => ⟨S16384x1x1024, .f32⟩
  | .hbm, ⟨44, _⟩ => ⟨S16384x1024, .f32⟩
  | .hbm, ⟨45, _⟩ => ⟨S16384x1024, .f32⟩
  | .hbm, ⟨46, _⟩ => ⟨S16384x1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024x1024, .f32⟩
  | .hbm, ⟨55, _⟩ => ⟨S1024x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Sconv.lean ====
abbrev S16384x1024 : Shape := ⟨2, ![16384, 1024]⟩
abbrev S2x1024 : Shape := ⟨2, ![2, 1024]⟩
abbrev S2x1024x10312 : Shape := ⟨3, ![2, 1024, 10312]⟩
abbrev S2x3x1024 : Shape := ⟨3, ![2, 3, 1024]⟩
abbrev S2x1024x1024 : Shape := ⟨3, ![2, 1024, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x1024 : Shape := ⟨3, ![1, 1024, 1024]⟩
abbrev S1x3x1024 : Shape := ⟨3, ![1, 3, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩
abbrev S1x8x1024 : Shape := ⟨3, ![1, 8, 1024]⟩
abbrev S63x8x1024 : Shape := ⟨3, ![63, 8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S2x3x1024, .f32⟩
  | .hbm, ⟨4, _⟩ => ⟨S2x1024x1024, .f32⟩
  | .hbm, ⟨5, _⟩ => ⟨S2x1x1024, .f32⟩
  | .hbm, ⟨6, _⟩ => ⟨S2x1024x10312, .bf16⟩
  | .hbm, ⟨7, _⟩ => ⟨S2x1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x3x1024, .f32⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SconvRefIdeal.lean ====
abbrev S16384x1024 : Shape := ⟨2, ![16384, 1024]⟩
abbrev S2x1024 : Shape := ⟨2, ![2, 1024]⟩
abbrev S2x1024x10312 : Shape := ⟨3, ![2, 1024, 10312]⟩
abbrev S2x3x1024 : Shape := ⟨3, ![2, 3, 1024]⟩
abbrev S2x1024x1024 : Shape := ⟨3, ![2, 1024, 1024]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x10312 : Shape := ⟨3, ![1, 1024, 10312]⟩
abbrev S1024x10312 : Shape := ⟨2, ![1024, 10312]⟩
abbrev S4x4096x10312 : Shape := ⟨3, ![4, 4096, 10312]⟩
abbrev S1x3x1024 : Shape := ⟨3, ![1, 3, 1024]⟩
abbrev S3x1024 : Shape := ⟨2, ![3, 1024]⟩
abbrev S4x4098x1024 : Shape := ⟨3, ![4, 4098, 1024]⟩
abbrev S1x1024x1024 : Shape := ⟨3, ![1, 1024, 1024]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S2x3x1024, .f32⟩
  | .hbm, ⟨4, _⟩ => ⟨S2x1024x1024, .f32⟩
  | .hbm, ⟨5, _⟩ => ⟨S4x4096x1024, .f32⟩
  | .hbm, ⟨6, _⟩ => ⟨S1x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1x1024x10312, .f32⟩
  | .hbm, ⟨25, _⟩ => ⟨S1024x10312, .f32⟩
  | .hbm, ⟨26, _⟩ => ⟨S4x4096x10312, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1x3x1024, .f32⟩
  | .hbm, ⟨32, _⟩ => ⟨S3x1024, .f32⟩
  | .hbm, ⟨33, _⟩ => ⟨S_, .i32⟩
  | .hbm, ⟨34, _⟩ => ⟨S_, .f32⟩
  | .hbm, ⟨35, _⟩ => ⟨S4x4098x1024, .f32⟩
  | .hbm, ⟨36, _⟩ => ⟨S4x4096x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S1x1024x1024, .f32⟩
  | .hbm, ⟨61, _⟩ => ⟨S1024x1024, .f32⟩
  | .hbm, ⟨62, _⟩ => ⟨S4x4096x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Rnn.lean ====
abbrev S16384x1024 : Shape := ⟨2, ![16384, 1024]⟩
abbrev S2x1024 : Shape := ⟨2, ![2, 1024]⟩
abbrev S2x1024x10312 : Shape := ⟨3, ![2, 1024, 10312]⟩
abbrev S2x4x1024 : Shape := ⟨3, ![2, 4, 1024]⟩
abbrev S2x16x64x64 : Shape := ⟨4, ![2, 16, 64, 64]⟩
abbrev S2x1024x1024 : Shape := ⟨3, ![2, 1024, 1024]⟩
abbrev S2x4x4x64x64 : Shape := ⟨5, ![2, 4, 4, 64, 64]⟩
abbrev S4x4 : Shape := ⟨2, ![4, 4]⟩
abbrev S_ : Shape := ⟨0, ![]⟩
abbrev S2x4x4x64x1x64 : Shape := ⟨6, ![2, 4, 4, 64, 1, 64]⟩
abbrev S1x1x4x1x4x1 : Shape := ⟨6, ![1, 1, 4, 1, 4, 1]⟩
abbrev S2x4x4x64x4x64 : Shape := ⟨6, ![2, 4, 4, 64, 4, 64]⟩
abbrev S2x4x256x256 : Shape := ⟨4, ![2, 4, 256, 256]⟩
abbrev S2x4x256x512 : Shape := ⟨4, ![2, 4, 256, 512]⟩
abbrev S2x1x1024 : Shape := ⟨3, ![2, 1, 1024]⟩
abbrev S256x1024 : Shape := ⟨2, ![256, 1024]⟩
abbrev S1x1x1024 : Shape := ⟨3, ![1, 1, 1024]⟩
abbrev S1x1024x2048 : Shape := ⟨3, ![1, 1024, 2048]⟩
abbrev S1x4x1024 : Shape := ⟨3, ![1, 4, 1024]⟩
abbrev S1x4x256x512 : Shape := ⟨4, ![1, 4, 256, 512]⟩
abbrev S1x1024x1024 : Shape := ⟨3, ![1, 1024, 1024]⟩
abbrev S8x1024 : Shape := ⟨2, ![8, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S32x8x1024 : Shape := ⟨3, ![32, 8, 1024]⟩
abbrev S1x8x1024 : Shape := ⟨3, ![1, 8, 1024]⟩
abbrev S31x8x1024 : Shape := ⟨3, ![31, 8, 1024]⟩
abbrev S256x256 : Shape := ⟨2, ![256, 256]⟩
abbrev S1x1x256x512 : Shape := ⟨4, ![1, 1, 256, 512]⟩
abbrev S256x512 : Shape := ⟨2, ![256, 512]⟩
abbrev S1024x1024 : Shape := ⟨2, ![1024, 1024]⟩

abbrev nBuf : Space → Nat
  | .hbm => 49
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S2x4x1024, .f32⟩
  | .hbm, ⟨4, _⟩ => ⟨S2x1024, .f32⟩
  | .hbm, ⟨5, _⟩ => ⟨S2x16x64x64, .f32⟩
  | .hbm, ⟨6, _⟩ => ⟨S2x1024, .f32⟩
  | .hbm, ⟨7, _⟩ => ⟨S2x16x64x64, .f32⟩
  | .hbm, ⟨8, _⟩ => ⟨S2x1024, .f32⟩
  | .hbm, ⟨9, _⟩ => ⟨S2x1024, .f32⟩
  | .hbm, ⟨10, _⟩ => ⟨S2x1024x1024, .f32⟩
  | .hbm, ⟨11, _⟩ => ⟨S2x4x4x64x64, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S2x4x4x64x1x64, .f32⟩
  | .hbm, ⟨20, _⟩ => ⟨S1x1x4x1x4x1, .f32⟩
  | .hbm, ⟨21, _⟩ => ⟨S2x4x4x64x4x64, .f32⟩
  | .hbm, ⟨22, _⟩ => ⟨S2x4x4x64x4x64, .f32⟩
  | .hbm, ⟨23, _⟩ => ⟨S2x4x4x64x4x64, .f32⟩
  | .hbm, ⟨24, _⟩ => ⟨S2x4x256x256, .f32⟩
  | .hbm, ⟨25, _⟩ => ⟨S2x4x4x64x64, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S2x4x4x64x1x64, .f32⟩
  | .hbm, ⟨34, _⟩ => ⟨S1x1x4x1x4x1, .f32⟩
  | .hbm, ⟨35, _⟩ => ⟨S2x4x4x64x4x64, .f32⟩
  | .hbm, ⟨36, _⟩ => ⟨S2x4x4x64x4x64, .f32⟩
  | .hbm, ⟨37, _⟩ => ⟨S2x4x4x64x4x64, .f32⟩
  | .hbm, ⟨38, _⟩ => ⟨S2x4x256x256, .f32⟩
  | .hbm, ⟨39, _⟩ => ⟨S2x4x256x512, .f32⟩
  | .hbm, ⟨40, _⟩ => ⟨S2x4x256x512, .bf16⟩
  | .hbm, ⟨41, _⟩ => ⟨S2x1x1024, .f32⟩
  | .hbm, ⟨42, _⟩ => ⟨S2x1024x10312, .bf16⟩
  | .hbm, ⟨43, _⟩ => ⟨S2x1x1024, .f32⟩
  | .hbm, ⟨44, _⟩ => ⟨S2x1x1024, .f32⟩
  | .hbm, ⟨45, _⟩ => ⟨S2x1x1024, .f32⟩
  | .hbm, ⟨46, _⟩ => ⟨S2x1x1024, .f32⟩
  | .hbm, ⟨47, _⟩ => ⟨S2x1024x1024, .bf16⟩
  | .hbm, ⟨48, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x4x1024, .f32⟩
  | .local _ .vmem, ⟨5, _⟩ => ⟨S1x1x1024, .f32⟩
  | .local _ .vmem, ⟨6, _⟩ => ⟨S1x4x256x512, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RnnRefIdeal.lean ====
abbrev S16384x1024 : Shape := ⟨2, ![16384, 1024]⟩
abbrev S2x1024 : Shape := ⟨2, ![2, 1024]⟩
abbrev S2x1024x10312 : Shape := ⟨3, ![2, 1024, 10312]⟩
abbrev S2x4x1024 : Shape := ⟨3, ![2, 4, 1024]⟩
abbrev S2x16x64x64 : Shape := ⟨4, ![2, 16, 64, 64]⟩
abbrev S2x1024x1024 : Shape := ⟨3, ![2, 1024, 1024]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x10312 : Shape := ⟨3, ![1, 1024, 10312]⟩
abbrev S1024x10312 : Shape := ⟨2, ![1024, 10312]⟩
abbrev S4x4096x10312 : Shape := ⟨3, ![4, 4096, 10312]⟩
abbrev S1x4x1024 : Shape := ⟨3, ![1, 4, 1024]⟩
abbrev S4x1024 : Shape := ⟨2, ![4, 1024]⟩
abbrev S4x4099x1024 : Shape := ⟨3, ![4, 4099, 1024]⟩
abbrev S4x4096x16x64 : Shape := ⟨4, ![4, 4096, 16, 64]⟩
abbrev S1x16x64x64 : Shape := ⟨4, ![1, 16, 64, 64]⟩
abbrev S16x64x64 : Shape := ⟨3, ![16, 64, 64]⟩
abbrev S16x64x4x4096 : Shape := ⟨4, ![16, 64, 4, 4096]⟩
abbrev S4096x4x1024 : Shape := ⟨3, ![4096, 4, 1024]⟩
abbrev S1x1024x1024 : Shape := ⟨3, ![1, 1024, 1024]⟩
abbrev S1024x1024 : Shape := ⟨2, ![1024, 1024]⟩

abbrev nBuf : Space → Nat
  | .hbm => 203
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x10312, .f32⟩
  | 3 => ⟨S2x4x1024, .f32⟩
  | 4 => ⟨S2x1024, .f32⟩
  | 5 => ⟨S2x16x64x64, .f32⟩
  | 6 => ⟨S2x1024, .f32⟩
  | 7 => ⟨S2x16x64x64, .f32⟩
  | 8 => ⟨S2x1024, .f32⟩
  | 9 => ⟨S2x1024, .f32⟩
  | 10 => ⟨S2x1024x1024, .f32⟩
  | 11 => ⟨S4x4096x1024, .f32⟩
  | 12 => ⟨S1x1024, .f32⟩
  | 13 => ⟨S1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S1x1024x10312, .f32⟩
  | 31 => ⟨S1024x10312, .f32⟩
  | 32 => ⟨S4x4096x10312, .f32⟩
  | 33 => ⟨S4x4096x1024, .f32⟩
  | 34 => ⟨S4x4096x1024, .f32⟩
  | 35 => ⟨S1x4x1024, .f32⟩
  | 36 => ⟨S4x1024, .f32⟩
  | 37 => ⟨S_, .i32⟩
  | 38 => ⟨S_, .f32⟩
  | 39 => ⟨S4x4099x1024, .f32⟩
  | 40 => ⟨S4x4096x1024, .f32⟩
  | 41 => ⟨S1x1024, .f32⟩
  | 42 => ⟨S1024, .f32⟩
  | 43 => ⟨S1x1x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S4x4096x1024, .f32⟩
  | 50 => ⟨S1x1024, .f32⟩
  | 51 => ⟨S1024, .f32⟩
  | 52 => ⟨S1x1x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S1x1024, .f32⟩
  | 58 => ⟨S1024, .f32⟩
  | 59 => ⟨S1x1x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S1x1024, .f32⟩
  | 65 => ⟨S1024, .f32⟩
  | 66 => ⟨S1x1x1024, .f32⟩
  | 67 => ⟨S4x4096x1024, .f32⟩
  | 68 => ⟨S4x4096x1024, .f32⟩
  | 69 => ⟨S4x4096x1024, .f32⟩
  | 70 => ⟨S1x1024, .f32⟩
  | 71 => ⟨S1024, .f32⟩
  | 72 => ⟨S1x1x1024, .f32⟩
  | 73 => ⟨S4x4096x1024, .f32⟩
  | 74 => ⟨S4x4096x1024, .f32⟩
  | 75 => ⟨S4x4096x16x64, .f32⟩
  | 76 => ⟨S1x16x64x64, .f32⟩
  | 77 => ⟨S16x64x64, .f32⟩
  | 78 => ⟨S16x64x4x4096, .f32⟩
  | 79 => ⟨S4x4096x16x64, .f32⟩
  | 80 => ⟨S4x4096x1024, .f32⟩
  | 81 => ⟨S1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S_, .f32⟩
  | 89 => ⟨S4x4096x1024, .f32⟩
  | 90 => ⟨S4x4096x1024, .f32⟩
  | 91 => ⟨S_, .f32⟩
  | 92 => ⟨S4x4096x1024, .f32⟩
  | 93 => ⟨S4x4096x1024, .f32⟩
  | 94 => ⟨S1x16x64x64, .f32⟩
  | 95 => ⟨S16x64x64, .f32⟩
  | 96 => ⟨S16x64x4x4096, .f32⟩
  | 97 => ⟨S4x4096x16x64, .f32⟩
  | 98 => ⟨S4x4096x1024, .f32⟩
  | 99 => ⟨S1x1024, .f32⟩
  | 100 => ⟨S1024, .f32⟩
  | 101 => ⟨S1x1x1024, .f32⟩
  | 102 => ⟨S4x4096x1024, .f32⟩
  | 103 => ⟨S4x4096x1024, .f32⟩
  | 104 => ⟨S4x4096x1024, .f32⟩
  | 105 => ⟨S4x4096x1024, .f32⟩
  | 106 => ⟨S_, .f32⟩
  | 107 => ⟨S4x4096x1024, .f32⟩
  | 108 => ⟨S4x4096x1024, .f32⟩
  | 109 => ⟨S_, .f32⟩
  | 110 => ⟨S4x4096x1024, .f32⟩
  | 111 => ⟨S4x4096x1024, .f32⟩
  | 112 => ⟨S_, .f32⟩
  | 113 => ⟨S4x4096x1024, .f32⟩
  | 114 => ⟨S4x4096x1024, .f32⟩
  | 115 => ⟨S1x1024, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .f32⟩
  | 122 => ⟨S1024, .f32⟩
  | 123 => ⟨S1024, .i1⟩
  | 124 => ⟨S1024, .f32⟩
  | 125 => ⟨S1024, .f32⟩
  | 126 => ⟨S1024, .f32⟩
  | 127 => ⟨S1024, .f32⟩
  | _ => ⟨S16384x1024, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S_, .f32⟩
  | 19 => ⟨S4x4096x1024, .f32⟩
  | 20 => ⟨S4x4096x1024, .f32⟩
  | 21 => ⟨S4x4096x1024, .f32⟩
  | 22 => ⟨S_, .f32⟩
  | 23 => ⟨S4x4096x1024, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S_, .f32⟩
  | 30 => ⟨S4x4096x1024, .f32⟩
  | 31 => ⟨S4x4096x1024, .f32⟩
  | 32 => ⟨S4x4096x1024, .f32⟩
  | 33 => ⟨S_, .f32⟩
  | 34 => ⟨S4x1024, .f32⟩
  | 35 => ⟨S4096x4x1024, .f32⟩
  | 36 => ⟨S4096x4x1024, .f32⟩
  | 37 => ⟨S4096x4x1024, .f32⟩
  | 38 => ⟨S_, .f32⟩
  | 39 => ⟨S4096x4x1024, .f32⟩
  | 40 => ⟨S_, .i32⟩
  | 41 => ⟨S4096x4x1024, .f32⟩
  | 42 => ⟨S4096x4x1024, .f32⟩
  | 43 => ⟨S4096x4x1024, .f32⟩
  | 44 => ⟨S_, .i32⟩
  | 45 => ⟨S4x1024, .f32⟩
  | 46 => ⟨S4096x4x1024, .f32⟩
  | 47 => ⟨S_, .i32⟩
  | 48 => ⟨S_, .i1⟩
  | 49 => ⟨S_, .i32⟩
  | 50 => ⟨S_, .i32⟩
  | 51 => ⟨S1x4x1024, .f32⟩
  | 52 => ⟨S4x1024, .f32⟩
  | 53 => ⟨S_, .i32⟩
  | 54 => ⟨S_, .i32⟩
  | 55 => ⟨S1x4x1024, .f32⟩
  | 56 => ⟨S4x1024, .f32⟩
  | 57 => ⟨S_, .i32⟩
  | 58 => ⟨S_, .i32⟩
  | 59 => ⟨S1x4x1024, .f32⟩
  | 60 => ⟨S4x1024, .f32⟩
  | 61 => ⟨S4x1024, .f32⟩
  | 62 => ⟨S4x1024, .f32⟩
  | 63 => ⟨S4x1024, .f32⟩
  | 64 => ⟨S1x4x1024, .f32⟩
  | 65 => ⟨S_, .i32⟩
  | 66 => ⟨S_, .i32⟩
  | 67 => ⟨S4096x4x1024, .f32⟩
  | 68 => ⟨S_, .i32⟩
  | 69 => ⟨S_, .i32⟩
  | 70 => ⟨S4x4096x1024, .f32⟩
  | 71 => ⟨S1x1024x1024, .f32⟩
  | 72 => ⟨S1024x1024, .f32⟩
  | 73 => ⟨S4x4096x1024, .f32⟩
  | 74 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_3 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_5 : Ref sig .tc := ⟨.hbm, 106, rfl⟩
abbrev main_v87 : Ref sig .tc := ⟨.hbm, 107, rfl⟩
abbrev main_v88 : Ref sig .tc := ⟨.hbm, 108, rfl⟩
abbrev main_cst_6 : Ref sig .tc := ⟨.hbm, 109, rfl⟩
abbrev main_v89 : Ref sig .tc := ⟨.hbm, 110, rfl⟩
abbrev main_v90 : Ref sig .tc := ⟨.hbm, 111, rfl⟩
abbrev main_cst_7 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_8 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_9 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_10 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_11 : Ref sig .tc := ⟨.hbm, 154, rfl⟩
abbrev main_v116 : Ref sig .tc := ⟨.hbm, 155, rfl⟩
abbrev main_v117 : Ref sig .tc := ⟨.hbm, 156, rfl⟩
abbrev main_cst_12 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_13 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_14 : Ref sig .tc := ⟨.hbm, 166, rfl⟩
abbrev main_v125 : Ref sig .tc := ⟨.hbm, 167, rfl⟩
abbrev main_c_15 : Ref sig .tc := ⟨.hbm, 168, rfl⟩
abbrev main_v126_0 : Ref sig .tc := ⟨.hbm, 169, rfl⟩
abbrev main_v126_1 : Ref sig .tc := ⟨.hbm, 170, rfl⟩
abbrev main_v126_2 : Ref sig .tc := ⟨.hbm, 171, rfl⟩
abbrev main_v126_3 : Ref sig .tc := ⟨.hbm, 172, rfl⟩
abbrev main_v126_4 : Ref sig .tc := ⟨.hbm, 173, rfl⟩
abbrev main_v126_5 : Ref sig .tc := ⟨.hbm, 174, rfl⟩
abbrev main_while0c_c_21 : Ref sig .tc := ⟨.hbm, 175, rfl⟩
abbrev main_while0c_v132 : Ref sig .tc := ⟨.hbm, 176, rfl⟩
abbrev main_while0b_call2_c : Ref sig .tc := ⟨.hbm, 177, rfl⟩
abbrev main_while0b_call2_c_0 : Ref sig .tc := ⟨.hbm, 178, rfl⟩
abbrev main_while0b_call2_v0 : Ref sig .tc := ⟨.hbm, 179, rfl⟩
abbrev main_while0b_v132 : Ref sig .tc := ⟨.hbm, 180, rfl⟩
abbrev main_while0b_call3_c : Ref sig .tc := ⟨.hbm, 181, rfl⟩
abbrev main_while0b_call3_c_0 : Ref sig .tc := ⟨.hbm, 182, rfl⟩
abbrev main_while0b_call3_v0 : Ref sig .tc := ⟨.hbm, 183, rfl⟩
abbrev main_while0b_v133 : Ref sig .tc := ⟨.hbm, 184, rfl⟩
abbrev main_while0b_call4_c : Ref sig .tc := ⟨.hbm, 185, rfl⟩
abbrev main_while0b_call4_c_0 : Ref sig .tc := ⟨.hbm, 186, rfl⟩
abbrev main_while0b_call4_v0 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_call5_v0 : Ref sig .tc := ⟨.hbm, 192, rfl⟩
abbrev main_while0b_call5_c : Ref sig .tc := ⟨.hbm, 193, rfl⟩
abbrev main_while0b_call5_c_0 : Ref sig .tc := ⟨.hbm, 194, rfl⟩
abbrev main_while0b_v138 : Ref sig .tc := ⟨.hbm, 195, rfl⟩
abbrev main_while0b_c_21 : Ref sig .tc := ⟨.hbm, 196, rfl⟩
abbrev main_while0b_v139 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩

abbrev nD : Nat := 1
abbrev τ : Topo := Topo.v7x

variable {F : FTy → Type} [FloatOps F]

abbrev main_while0_count : Scf.Loop 32 := ⟨0#32, 4096#32, 1#32⟩
-- ==== Qkv.lean ====
abbrev S16384x1024 : Shape := ⟨2, ![16384, 1024]⟩
abbrev S2x1024 : Shape := ⟨2, ![2, 1024]⟩
abbrev S2x1024x10312 : Shape := ⟨3, ![2, 1024, 10312]⟩
abbrev S16384x16 : Shape := ⟨2, ![16384, 16]⟩
abbrev S16384x8 : Shape := ⟨2, ![16384, 8]⟩
abbrev S2x1024x256 : Shape := ⟨3, ![2, 1024, 256]⟩
abbrev S2x1024x8 : Shape := ⟨3, ![2, 1024, 8]⟩
abbrev S2x1024x264 : Shape := ⟨3, ![2, 1024, 264]⟩
abbrev S2x264x1024 : Shape := ⟨3, ![2, 264, 1024]⟩
abbrev S_ : Shape := ⟨0, ![]⟩
abbrev S16384x96 : Shape := ⟨2, ![16384, 96]⟩
abbrev S16384x128 : Shape := ⟨2, ![16384, 128]⟩
abbrev S16384x48 : Shape := ⟨2, ![16384, 48]⟩
abbrev S2x1x1024 : Shape := ⟨3, ![2, 1, 1024]⟩
abbrev S16384x256 : Shape := ⟨2, ![16384, 256]⟩
abbrev S16384x512 : Shape := ⟨2, ![16384, 512]⟩
abbrev S16384x64 : Shape := ⟨2, ![16384, 64]⟩
abbrev S256x16384 : Shape := ⟨2, ![256, 16384]⟩
abbrev S8x16384 : Shape := ⟨2, ![8, 16384]⟩
abbrev S512x1024 : Shape := ⟨2, ![512, 1024]⟩
abbrev S1x1x1024 : Shape := ⟨3, ![1, 1, 1024]⟩
abbrev S1x1024x1024 : Shape := ⟨3, ![1, 1024, 1024]⟩
abbrev S1x1024x256 : Shape := ⟨3, ![1, 1024, 256]⟩
abbrev S1x1024x512 : Shape := ⟨3, ![1, 1024, 512]⟩
abbrev S1x1024x128 : Shape := ⟨3, ![1, 1024, 128]⟩
abbrev S1x264x1024 : Shape := ⟨3, ![1, 264, 1024]⟩
abbrev S512x128 : Shape := ⟨2, ![512, 128]⟩
abbrev S512x256 : Shape := ⟨2, ![512, 256]⟩
abbrev S512x512 : Shape := ⟨2, ![512, 512]⟩
abbrev S512x64 : Shape := ⟨2, ![512, 64]⟩
abbrev S256x512 : Shape := ⟨2, ![256, 512]⟩
abbrev S8x512 : Shape := ⟨2, ![8, 512]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩
abbrev S1024x512 : Shape := ⟨2, ![1024, 512]⟩
abbrev S1024x128 : Shape := ⟨2, ![1024, 128]⟩
abbrev S512x1920 : Shape := ⟨2, ![512, 1920]⟩
abbrev S264x1024 : Shape := ⟨2, ![264, 1024]⟩
abbrev S264x512 : Shape := ⟨2, ![264, 512]⟩

abbrev nBuf : Space → Nat
  | .hbm => 34
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S16384x16, .f32⟩
  | .hbm, ⟨4, _⟩ => ⟨S16384x16, .f32⟩
  | .hbm, ⟨5, _⟩ => ⟨S16384x8, .f32⟩
  | .hbm, ⟨6, _⟩ => ⟨S16384x8, .f32⟩
  | .hbm, ⟨7, _⟩ => ⟨S2x1024x256, .f32⟩
  | .hbm, ⟨8, _⟩ => ⟨S2x1024x8, .f32⟩
  | .hbm, ⟨9, _⟩ => ⟨S2x1024x264, .f32⟩
  | .hbm, ⟨10, _⟩ => ⟨S2x264x1024, .f32⟩
  | .hbm, ⟨11, _⟩ => ⟨S2x264x1024, .bf16⟩
  | .hbm, ⟨12, _⟩ => ⟨S_, .f32⟩
  | .hbm, ⟨13, _⟩ => ⟨S16384x96, .f32⟩
  | .hbm, ⟨14, _⟩ => ⟨S16384x128, .f32⟩
  | .hbm, ⟨15, _⟩ => ⟨S16384x16, .f32⟩
  | .hbm, ⟨16, _⟩ => ⟨S_, .f32⟩
  | .hbm, ⟨17, _⟩ => ⟨S16384x96, .f32⟩
  | .hbm, ⟨18, _⟩ => ⟨S16384x128, .f32⟩
  | .hbm, ⟨19, _⟩ => ⟨S_, .f32⟩
  | .hbm, ⟨20, _⟩ => ⟨S16384x48, .f32⟩
  | .hbm, ⟨21, _⟩ => ⟨S16384x128, .f32⟩
  | .hbm, ⟨22, _⟩ => ⟨S16384x8, .f32⟩
  | .hbm, ⟨23, _⟩ => ⟨S_, .f32⟩
  | .hbm, ⟨24, _⟩ => ⟨S16384x48, .f32⟩
  | .hbm, ⟨25, _⟩ => ⟨S16384x128, .f32⟩
  | .hbm, ⟨26, _⟩ => ⟨S2x1x1024, .f32⟩
  | .hbm, ⟨27, _⟩ => ⟨S2x1024x10312, .bf16⟩
  | .hbm, ⟨28, _⟩ => ⟨S16384x1024, .bf16⟩
  | .hbm, ⟨29, _⟩ => ⟨S16384x256, .bf16⟩
  | .hbm, ⟨30, _⟩ => ⟨S16384x512, .bf16⟩
  | .hbm, ⟨31, _⟩ => ⟨S16384x64, .bf16⟩
  | .hbm, ⟨32, _⟩ => ⟨S256x16384, .bf16⟩
  | .hbm, ⟨33, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x256, .bf16⟩
  | .local _ .vmem, ⟨5, _⟩ => ⟨S1x1024x512, .bf16⟩
  | .local _ .vmem, ⟨6, _⟩ => ⟨S1x1024x128, .bf16⟩
  | .local _ .vmem, ⟨7, _⟩ => ⟨S1x264x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S512x512, .bf16⟩
  | .local _ .vmem, ⟨21, _⟩ => ⟨S512x512, .bf16⟩
  | .local _ .vmem, ⟨22, _⟩ => ⟨S512x64, .bf16⟩
  | .local _ .vmem, ⟨23, _⟩ => ⟨S512x64, .bf16⟩
  | .local _ .vmem, ⟨24, _⟩ => ⟨S256x512, .bf16⟩
  | .local _ .vmem, ⟨25, _⟩ => ⟨S256x512, .bf16⟩
  | .local _ .vmem, ⟨26, _⟩ => ⟨S8x512, .f32⟩
  | .local _ .vmem, ⟨27, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c24_i32 : BitVec 32 := 24#32
  let c0_i32_1 : BitVec 32 := 0#32
  ![c0_i32.toNat, c0_i32_0.toNat, c24_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c56_i32 : BitVec 32 := 56#32
  let c0_i32_1 : BitVec 32 := 0#32
  ![c0_i32.toNat, c0_i32_0.toNat, c56_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x264x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== QkvIdeal.lean ====
variable {F : FTy → Type} [FloatOps F] [Named F]
def κ : String → Option EReal := fun
  | "q_scale" => some (((Real.sqrt 128)⁻¹ * (Real.log 2)⁻¹ : ℝ) : EReal)
  | _ => none
-- ==== QkvRefIdeal.lean ====
abbrev S16384x1024 : Shape := ⟨2, ![16384, 1024]⟩
abbrev S2x1024 : Shape := ⟨2, ![2, 1024]⟩
abbrev S2x1024x10312 : Shape := ⟨3, ![2, 1024, 10312]⟩
abbrev S16384x16 : Shape := ⟨2, ![16384, 16]⟩
abbrev S16384x8 : Shape := ⟨2, ![16384, 8]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x10312 : Shape := ⟨3, ![1, 1024, 10312]⟩
abbrev S1024x10312 : Shape := ⟨2, ![1024, 10312]⟩
abbrev S16384x10312 : Shape := ⟨2, ![16384, 10312]⟩
abbrev S16384x256 : Shape := ⟨2, ![16384, 256]⟩
abbrev S16384x512 : Shape := ⟨2, ![16384, 512]⟩
abbrev S16384x64 : Shape := ⟨2, ![16384, 64]⟩
abbrev S16384x8x128 : Shape := ⟨3, ![16384, 8, 128]⟩
abbrev S16384x1x16 : Shape := ⟨3, ![16384, 1, 16]⟩
abbrev S16384x8x16 : Shape := ⟨3, ![16384, 8, 16]⟩
abbrev S16384x8x96 : Shape := ⟨3, ![16384, 8, 96]⟩
abbrev S16384x2x128 : Shape := ⟨3, ![16384, 2, 128]⟩
abbrev S16384x2x16 : Shape := ⟨3, ![16384, 2, 16]⟩
abbrev S16384x2x96 : Shape := ⟨3, ![16384, 2, 96]⟩
abbrev S16384x8x64 : Shape := ⟨3, ![16384, 8, 64]⟩
abbrev S16384x1x8 : Shape := ⟨3, ![16384, 1, 8]⟩
abbrev S16384x8x8 : Shape := ⟨3, ![16384, 8, 8]⟩
abbrev S16384x8x48 : Shape := ⟨3, ![16384, 8, 48]⟩
abbrev S16384x1x64 : Shape := ⟨3, ![16384, 1, 64]⟩
abbrev S16384x1x48 : Shape := ⟨3, ![16384, 1, 48]⟩
abbrev S256x16384 : Shape := ⟨2, ![256, 16384]⟩
abbrev S8x16384 : Shape := ⟨2, ![8, 16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x10312, .f32⟩
  | .hbm, ⟨3, _⟩ => ⟨S16384x16, .f32⟩
  | .hbm, ⟨4, _⟩ => ⟨S16384x16, .f32⟩
  | .hbm, ⟨5, _⟩ => ⟨S16384x8, .f32⟩
  | .hbm, ⟨6, _⟩ => ⟨S16384x8, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x10312, .f32⟩
  | .hbm, ⟨26, _⟩ => ⟨S1024x10312, .f32⟩
  | .hbm, ⟨27, _⟩ => ⟨S16384x10312, .f32⟩
  | .hbm, ⟨28, _⟩ => ⟨S16384x1024, .f32⟩
  | .hbm, ⟨29, _⟩ => ⟨S16384x256, .f32⟩
  | .hbm, ⟨30, _⟩ => ⟨S16384x256, .f32⟩
  | .hbm, ⟨31, _⟩ => ⟨S16384x512, .f32⟩
  | .hbm, ⟨32, _⟩ => ⟨S16384x64, .f32⟩
  | .hbm, ⟨33, _⟩ => ⟨S16384x8, .f32⟩
  | .hbm, ⟨34, _⟩ => ⟨S16384x8x128, .f32⟩
  | .hbm, ⟨35, _⟩ => ⟨S16384x1x16, .f32⟩
  | .hbm, ⟨36, _⟩ => ⟨S16384x1x16, .f32⟩
  | .hbm, ⟨37, _⟩ => ⟨S16384x8x16, .f32⟩
  | .hbm, ⟨38, _⟩ => ⟨S16384x8x16, .f32⟩
  | .hbm, ⟨39, _⟩ => ⟨S16384x8x96, .f32⟩
  | .hbm, ⟨40, _⟩ => ⟨S16384x8x16, .f32⟩
  | .hbm, ⟨41, _⟩ => ⟨S16384x8x16, .f32⟩
  | .hbm, ⟨42, _⟩ => ⟨S16384x8x16, .f32⟩
  | .hbm, ⟨43, _⟩ => ⟨S16384x8x16, .f32⟩
  | .hbm, ⟨44, _⟩ => ⟨S16384x8x16, .f32⟩
  | .hbm, ⟨45, _⟩ => ⟨S16384x8x16, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x16, .f32⟩
  | .hbm, ⟨50, _⟩ => ⟨S16384x8x128, .f32⟩
  | .hbm, ⟨51, _⟩ => ⟨S16384x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x2x128, .f32⟩
  | .hbm, ⟨60, _⟩ => ⟨S16384x1x16, .f32⟩
  | .hbm, ⟨61, _⟩ => ⟨S16384x1x16, .f32⟩
  | .hbm, ⟨62, _⟩ => ⟨S16384x2x16, .f32⟩
  | .hbm, ⟨63, _⟩ => ⟨S16384x2x16, .f32⟩
  | .hbm, ⟨64, _⟩ => ⟨S16384x2x96, .f32⟩
  | .hbm, ⟨65, _⟩ => ⟨S16384x2x16, .f32⟩
  | .hbm, ⟨66, _⟩ => ⟨S16384x2x16, .f32⟩
  | .hbm, ⟨67, _⟩ => ⟨S16384x2x16, .f32⟩
  | .hbm, ⟨68, _⟩ => ⟨S16384x2x16, .f32⟩
  | .hbm, ⟨69, _⟩ => ⟨S16384x2x16, .f32⟩
  | .hbm, ⟨70, _⟩ => ⟨S16384x2x16, .f32⟩
  | .hbm, ⟨71, _⟩ => ⟨S16384x2x16, .f32⟩
  | .hbm, ⟨72, _⟩ => ⟨S16384x2x16, .f32⟩
  | .hbm, ⟨73, _⟩ => ⟨S16384x2x16, .f32⟩
  | .hbm, ⟨74, _⟩ => ⟨S16384x2x16, .f32⟩
  | .hbm, ⟨75, _⟩ => ⟨S16384x2x128, .f32⟩
  | .hbm, ⟨76, _⟩ => ⟨S16384x256, .f32⟩
  | .hbm, ⟨77, _⟩ => ⟨S16384x8x64, .f32⟩
  | .hbm, ⟨78, _⟩ => ⟨S16384x1x8, .f32⟩
  | .hbm, ⟨79, _⟩ => ⟨S16384x1x8, .f32⟩
  | .hbm, ⟨80, _⟩ => ⟨S16384x8x8, .f32⟩
  | .hbm, ⟨81, _⟩ => ⟨S16384x8x8, .f32⟩
  | .hbm, ⟨82, _⟩ => ⟨S16384x8x48, .f32⟩
  | .hbm, ⟨83, _⟩ => ⟨S16384x8x8, .f32⟩
  | .hbm, ⟨84, _⟩ => ⟨S16384x8x8, .f32⟩
  | .hbm, ⟨85, _⟩ => ⟨S16384x8x8, .f32⟩
  | .hbm, ⟨86, _⟩ => ⟨S16384x8x8, .f32⟩
  | .hbm, ⟨87, _⟩ => ⟨S16384x8x8, .f32⟩
  | .hbm, ⟨88, _⟩ => ⟨S16384x8x8, .f32⟩
  | .hbm, ⟨89, _⟩ => ⟨S16384x8x8, .f32⟩
  | .hbm, ⟨90, _⟩ => ⟨S16384x8x8, .f32⟩
  | .hbm, ⟨91, _⟩ => ⟨S16384x8x8, .f32⟩
  | .hbm, ⟨92, _⟩ => ⟨S16384x8x8, .f32⟩
  | .hbm, ⟨93, _⟩ => ⟨S16384x8x64, .f32⟩
  | .hbm, ⟨94, _⟩ => ⟨S16384x512, .f32⟩
  | .hbm, ⟨95, _⟩ => ⟨S16384x1x64, .f32⟩
  | .hbm, ⟨96, _⟩ => ⟨S16384x1x8, .f32⟩
  | .hbm, ⟨97, _⟩ => ⟨S16384x1x8, .f32⟩
  | .hbm, ⟨98, _⟩ => ⟨S16384x1x8, .f32⟩
  | .hbm, ⟨99, _⟩ => ⟨S16384x1x8, .f32⟩
  | .hbm, ⟨100, _⟩ => ⟨S16384x1x48, .f32⟩
  | .hbm, ⟨101, _⟩ => ⟨S16384x1x8, .f32⟩
  | .hbm, ⟨102, _⟩ => ⟨S16384x1x8, .f32⟩
  | .hbm, ⟨103, _⟩ => ⟨S16384x1x8, .f32⟩
  | .hbm, ⟨104, _⟩ => ⟨S16384x1x8, .f32⟩
  | .hbm, ⟨105, _⟩ => ⟨S16384x1x8, .f32⟩
  | .hbm, ⟨106, _⟩ => ⟨S16384x1x8, .f32⟩
  | .hbm, ⟨107, _⟩ => ⟨S16384x1x64, .f32⟩
  | .hbm, ⟨108, _⟩ => ⟨S16384x64, .f32⟩
  | .hbm, ⟨109, _⟩ => ⟨S16384x1024, .bf16⟩
  | .hbm, ⟨110, _⟩ => ⟨S16384x256, .bf16⟩
  | .hbm, ⟨111, _⟩ => ⟨S16384x512, .bf16⟩
  | .hbm, ⟨112, _⟩ => ⟨S16384x64, .bf16⟩
  | .hbm, ⟨113, _⟩ => ⟨S16384x256, .bf16⟩
  | .hbm, ⟨114, _⟩ => ⟨S256x16384, .bf16⟩
  | .hbm, ⟨115, _⟩ => ⟨S8x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

/-!
The layer's formulas over the extended reals, entry by entry, as functions of the arguments' coordinates.
Every value claim sets the kernel's result and the reference's result beside one of them.
-/

noncomputable section

namespace Cert.Spec
open Idealize.ShloMosaic

/-- Entry `k` of row `x` after the root-mean-square norm with gain `g`. -/
def rn (x g : Fin 1024 → EReal) (k : Fin 1024) : EReal :=
  x k * Ideal.rsqrt (Ideal.div (∑ j, x j * x j) (Ideal.ofBits .f32 0x44800000#32) + Ideal.ofBits .f32 0x358637BD#32) * g k

/-- One entry of the normed row times a matrix, `w` the matrix's column. -/
def proj (x g w : Fin 1024 → EReal) : EReal := ∑ k, rn x g k * w k

/-- The sigmoid of a projected entry, gating `y`. -/
def gated (x g w : Fin 1024 → EReal) (y : EReal) : EReal := Ideal.logistic (proj x g w) * y

/-- One entry of the merged branches times the output projection, on top of `x0`. `W b` and `Y b`: branch `b`'s gate
    matrix and the branch itself, by column. -/
def merge (x0 : EReal) (x g : Fin 1024 → EReal) (w1 w2 w3 : Fin 1024 → Fin 1024 → EReal) (y1 y2 y3 : Fin 1024 → EReal)
    (wo : Fin 1024 → EReal) : EReal :=
  x0 + ∑ q, (gated x g (fun k => w1 k q) (y1 q) + gated x g (fun k => w2 k q) (y2 q) + gated x g (fun k => w3 k q) (y3 q)) * wo q

/-- One entry of the gated feed-forward activation, `wg` and `wu` the gate's and the value's column. -/
def act (x g wg wu : Fin 1024 → EReal) : EReal := proj x g wg * Ideal.logistic (proj x g wg) * proj x g wu

/-- One entry of the feed-forward layer on top of `x0`; `wd` is the output projection's column. -/
def ffn (x0 : EReal) (x g : Fin 1024 → EReal) (wg wu : Fin 2816 → Fin 1024 → EReal) (wd : Fin 2816 → EReal) : EReal :=
  x0 + Ideal.ofBits .f32 0x3F000000#32 * ∑ f, act x g (wg f) (wu f) * wd f

/-- `z` read `lag` rows earlier in the same sequence of 4096 rows, zero before the sequence's first row. -/
def lagged (z : Fin 16384 → EReal) (lag : ℕ) (r : Fin 16384) : EReal :=
  if lag ≤ r.val % 4096 then z ⟨r.val - lag, Nat.lt_of_le_of_lt (Nat.sub_le _ _) r.isLt⟩ else 0

/-- The comparison of two sublane numbers, as a selection. -/
theorem select_sge {φ : Type} (j l : ℕ) (hj : j < 8) (hl : l < 8) (A B : φ) :
    Scalar.select (IntOp.cmpi .sge (BitVec.ofNat 32 j) (BitVec.ofNat 32 l)) A B = if l ≤ j then A else B := by
  have h : ∀ j l : Fin 8, IntOp.cmpi .sge (BitVec.ofNat 32 j) (BitVec.ofNat 32 l) = if l ≤ j then 1#1 else 0#1 := by decide
  have e := h ⟨j, hj⟩ ⟨l, hl⟩
  dsimp only at e
  rw [e]
  by_cases c : l ≤ j
  · rw [if_pos (by exact c), if_pos c]; rfl
  · rw [if_neg (by exact c), if_neg c]; rfl

/-- A tile's rows, in groups of eight, rotated by `l` within the group: row `j` of group `a` takes its own group's row
    where there is one, else the group before, the tile's first group taking the rows kept from the tile before. -/
theorem lag_tile (z : Fin 16384 → EReal) (base l a j : ℕ) (hl : l < 8) (hj : j < 8) (hb : base % 8 = 0) (r : Fin 16384)
    (hr : r.val = base + a * 8 + j) (hs : base % 4096 + a * 8 + j < 4096) (A : EReal) (B : a < 1 → EReal) (C : ¬a < 1 → EReal)
    (hA : l ≤ j → A = z ⟨r.val - l, Nat.lt_of_le_of_lt (Nat.sub_le _ _) r.isLt⟩)
    (hB : ∀ h : a < 1, j < l → B h = if base % 4096 = 0 then 0 else z ⟨r.val - l, Nat.lt_of_le_of_lt (Nat.sub_le _ _) r.isLt⟩)
    (hC : ∀ h : ¬a < 1, j < l → C h = z ⟨r.val - l, Nat.lt_of_le_of_lt (Nat.sub_le _ _) r.isLt⟩) :
    Scalar.select (IntOp.cmpi .sge (BitVec.ofNat 32 j) (BitVec.ofNat 32 l)) A (if h : a < 1 then B h else C h) = lagged z l r := by
  rw [select_sge j l hj hl]
  unfold lagged
  by_cases c : l ≤ j
  · rw [if_pos c, if_pos (by omega), hA c]
  · rw [if_neg c]
    by_cases d : a < 1
    · rw [dif_pos d, hB d (by omega)]
      by_cases e : base % 4096 = 0
      · rw [if_pos e, if_neg (by omega)]
      · rw [if_neg e, if_pos (by omega)]
    · rw [dif_neg d, hC d (by omega), if_pos (by omega)]

end Cert.Spec
-- ==== Proof.FfnRefAt.lean ====
module

public import proofs.«01_k».proof.Proof.Gen.FfnRefIdeal.Run
public import proofs.«01_k».proof.Proof.Spec

@[expose] public section

set_option maxRecDepth 16384

noncomputable section

namespace Cert.FfnRefIdeal.Value
open Cert.FfnRefIdeal Cert.FfnRefIdeal.Gen Idealize.ShloMosaic Idealize.ShloMosaic.TcCoe Idealize.SL.Sem
open Cert.Spec

/-- The feed-forward layer's formula over the arrays; `l` is the layer whose weights are taken. -/
abbrev FFN (l : Fin 2) (X : FVec Ideal S16384x1024 .f32) (G : FVec Ideal S2x1024 .f32) (W : FVec Ideal S2x1024x5632 .f32)
    (D : FVec Ideal S2x2816x1024 .f32) (r : Fin 16384) (q : Fin 1024) : EReal :=
  ffn (X (ix2 r q)) (fun k => X (ix2 r k)) (fun k => G (ix2 l k)) (fun f k => W (ix3 l k ⟨f, by omega⟩))
    (fun f k => W (ix3 l k ⟨2816 + f, by omega⟩)) (fun f => D (ix3 l f q))

set_option maxHeartbeats 2000000 in
theorem ref_at (m : (ℓ : Loc nD τ sig) → Buf (Elt Ideal) ℓ) (c : Dev nD) (i : S16384x1024.Idx) :
    res_out0 (F := Ideal) m c i
      = FFN 0 (m ((c.tc : Thread nD τ).loc main_arg0)) (m ((c.tc : Thread nD τ).loc main_arg1))
          (m ((c.tc : Thread nD τ).loc main_arg2)) (m ((c.tc : Thread nD τ).loc main_arg3)) (i 0) (i 1) := by
  pointwise [res_out0, res_main_v27, FFN, ffn, act, proj, rn, Ideal.logistic]
  all_goals blk_point []

end Cert.FfnRefIdeal.Value
-- ==== Proof.FfnValue.lean ====
module

public import proofs.«01_k».proof.Proof.Gen.FfnIdeal.Value
public import proofs.«01_k».proof.Proof.FfnRefAt

@[expose] public section

set_option maxRecDepth 16384

noncomputable section

namespace Cert.FfnIdeal.Value
open Cert.FfnIdeal Cert.FfnIdeal.Gen Idealize.ShloMosaic Idealize.ShloMosaic.TcCoe Idealize.SL.Sem
open Cert.Spec
open Cert.FfnRefIdeal.Value (FFN)

variable (m : (ℓ : Loc nD τ sig) → Buf (Elt Ideal) ℓ)

/-! ## The payloads at an entry -/

/-- The first scratch: the normed rows. -/
theorem pay1_at (v25 : Vec Ideal S1024x1024 .f32) (v26 : Vec Ideal S1x1x1024 .f32) (y : S1024x1024.Idx) :
    k0_pay1 (F := Ideal) v25 v26 y = rn (fun k => v25 (ix2 (y 0) k)) (fun k => v26 (ix3 0 0 k)) (y 1) := by
  pointwise [k0_pay1, rn]

theorem pay2_at (y : S1024x1024.Idx) : k0_pay2 (F := Ideal) y = (0 : EReal) := by pointwise [k0_pay2]

/-- The accumulating payload: what was there plus this point's 256 activations times their rows of the output matrix. -/
theorem pay3_at (v3 : FVec Ideal S1024x1024 .bf16) (v4 v7 : FVec Ideal S1x1024x256 .bf16) (v14 : FVec Ideal S1024x1024 .f32)
    (v15 : FVec Ideal S1x256x1024 .bf16) (y : S1024x1024.Idx) (x g : Fin 1024 → EReal) (h : ∀ k, v3 (ix2 (y 0) k) = rn x g k) :
    k0_pay3 (F := Ideal) v3 v4 v7 v14 v15 y
      = v14 y + ∑ k : Fin 256, act x g (fun j => v4 (ix3 0 j k)) (fun j => v7 (ix3 0 j k)) * v15 (ix3 0 k (y 1)) := by
  pointwise [k0_pay3, act, proj]
  simp only [h]

/-! ## The carried state -/

theorem idx : ∀ t : Fin cfg0.N, win0_0.index t = ![t.val / 11, 0] ∧ win0_1.index t = ![0, 0, 0]
    ∧ win0_2.index t = ![0, 0, t.val % 11] ∧ win0_3.index t = ![0, 0, t.val % 11 + 11] ∧ win0_4.index t = ![0, t.val % 11, 0]
    ∧ win0_5.index t = ![0, 0] ∧ win0_6.index t = ![t.val / 11, 0] :=
  (by decide +kernel : ∀ t : Fin grid0.N, _)

abbrev X (c : Dev nD) : FVec Ideal S16384x1024 .f32 := m ((c : Thread nD τ).loc main_arg0)
abbrev G (c : Dev nD) : FVec Ideal S2x1024 .f32 := m ((c : Thread nD τ).loc main_arg1)

/-- Row `a` of the block of rows of point `t`, in the array. -/
def rowOf (t : Fin cfg0.N) (a : Fin 1024) : Fin 16384 :=
  ⟨t.val / 11 * 1024 + a, by have := lt_of_lt_of_eq t.isLt (show cfg0.N = 176 from N_0); omega⟩

/-- After every point the first scratch holds the normed rows of the point's block. -/
theorem normed_of (c : Dev nD) (n : ℕ) : ∀ (t : Fin cfg0.N), t.val = n → ∀ y : S1024x1024.Idx,
    (outsAt0 m c t.val t.isLt).2.1 y = rn (fun k => X m c (ix2 (rowOf t (y 0)) k)) (fun k => G m c (ix2 0 k)) (y 1) := by
  induction n using Nat.strong_induction_on with
  | _ n ih =>
  intro t ht y
  by_cases h0 : t.val % 11 = 0
  · rw [outsAt0_A m c t h0 (by omega)]; frame_out; rw [pay1_at]
    simp only [rn, rowOf]
    blk_point [iblk, idx t]
  · have e : rowOf t (y 0) = rowOf (⟨t.val - 1, Nat.lt_of_le_of_lt (Nat.sub_le _ _) t.isLt⟩ : Fin cfg0.N) (y 0) := by
      unfold rowOf; apply Fin.ext; show t.val / 11 * 1024 + (y 0).val = (t.val - 1) / 11 * 1024 + (y 0).val; omega
    rw [e, ← ih (t.val - 1) (by omega) _ rfl]
    by_cases h1 : t.val % 11 = 10
    · rw [outsAt0_C m c t h0 h1]; rfl
    · rw [outsAt0_B m c t h0 h1]; rfl

theorem normed (c : Dev nD) (t : Fin cfg0.N) (y : S1024x1024.Idx) :
    (outsAt0 m c t.val t.isLt).2.1 y = rn (fun k => X m c (ix2 (rowOf t (y 0)) k)) (fun k => G m c (ix2 0 k)) (y 1) :=
  normed_of m c t.val t rfl y

/-- What the point before left in the first scratch, inside a run. -/
theorem normed_prev (c : Dev nD) (t : Fin cfg0.N) (h0 : ¬t.val % 11 = 0) (y : S1024x1024.Idx) :
    (outsAt0 m c (t.val - 1) (Nat.lt_of_le_of_lt (Nat.sub_le _ _) t.isLt)).2.1 y
      = rn (fun k => X m c (ix2 (rowOf t (y 0)) k)) (fun k => G m c (ix2 0 k)) (y 1) := by
  rw [show rowOf t (y 0) = rowOf (⟨t.val - 1, Nat.lt_of_le_of_lt (Nat.sub_le _ _) t.isLt⟩ : Fin cfg0.N) (y 0) by
    unfold rowOf; apply Fin.ext; show t.val / 11 * 1024 + (y 0).val = (t.val - 1) / 11 * 1024 + (y 0).val; omega]
  exact normed m c ⟨t.val - 1, Nat.lt_of_le_of_lt (Nat.sub_le _ _) t.isLt⟩ y

/-- One point's part of the contraction over the hidden width. -/
def part (c : Dev nD) (t : Fin cfg0.N) (y : S1024x1024.Idx) : EReal :=
  ∑ k : Fin 256, act (fun k => X m c (ix2 (rowOf t (y 0)) k)) (fun k => G m c (ix2 0 k))
      (fun j => (show FVec Ideal S1x1024x256 .bf16 from iblk m c 2 t) (ix3 0 j k))
      (fun j => (show FVec Ideal S1x1024x256 .bf16 from iblk m c 3 t) (ix3 0 j k))
    * (show FVec Ideal S1x256x1024 .bf16 from iblk m c 4 t) (ix3 0 k (y 1))

theorem acc_A (c : Dev nD) (t : Fin cfg0.N) (h0 : t.val % 11 = 0) (y : S1024x1024.Idx) :
    (outsAt0 m c t.val t.isLt).2.2 y = 0 + part m c t y := by
  have hn : ∀ k, k0_pay1 (F := Ideal) (iblk m c 0 t) (iblk m c 1 t) (ix2 (y 0) k)
      = rn (fun k => X m c (ix2 (rowOf t (y 0)) k)) (fun k => G m c (ix2 0 k)) k := fun k => by
    refine Eq.trans ?_ (normed m c t (ix2 (y 0) k))
    rw [outsAt0_A m c t h0 (by omega)]; frame_out
  rw [outsAt0_A m c t h0 (by omega)]; frame_out
  rw [pay3_at _ _ _ _ _ y _ _ hn, pay2_at]; rfl

theorem acc_step (c : Dev nD) (t : Fin cfg0.N) (h0 : ¬t.val % 11 = 0) (y : S1024x1024.Idx) :
    (outsAt0 m c t.val t.isLt).2.2 y
      = (outsAt0 m c (t.val - 1) (Nat.lt_of_le_of_lt (Nat.sub_le _ _) t.isLt)).2.2 y + part m c t y := by
  by_cases h1 : t.val % 11 = 10
  · rw [outsAt0_C m c t h0 h1]; frame_out
    rw [read_unread_whole, read_unread_whole]
    rw [pay3_at _ _ _ _ _ y _ _ fun k => normed_prev m c t h0 (ix2 (y 0) k)]; rfl
  · rw [outsAt0_B m c t h0 h1]; frame_out
    rw [read_unread_whole, read_unread_whole]
    rw [pay3_at _ _ _ _ _ y _ _ fun k => normed_prev m c t h0 (ix2 (y 0) k)]; rfl

/-- What a run's last point stores in the output block. -/
theorem out_C (c : Dev nD) (t : Fin cfg0.N) (h0 : ¬t.val % 11 = 0) (h1 : t.val % 11 = 10) :
    (outsAt0 m c t.val t.isLt).1 = k0_pay4 (F := Ideal) (iblk m c 0 t) (outsAt0 m c t.val t.isLt).2.2 := by
  rw [outsAt0_C m c t h0 h1]; frame_out

/-- The accumulator at a run's last point: the whole contraction. -/
theorem acc_last (c : Dev nD) (t : Fin cfg0.N) (h1 : t.val % 11 = 11 - 1) (y : S1024x1024.Idx) :
    (outsAt0 m c t.val t.isLt).2.2 y = ∑ f : Fin 2816,
      act (fun k => X m c (ix2 (rowOf t (y 0)) k)) (fun k => G m c (ix2 0 k))
        (fun k => (show FVec Ideal S2x1024x5632 .f32 from m ((c : Thread nD τ).loc main_arg2)) (ix3 0 k ⟨f, by omega⟩))
        (fun k => (show FVec Ideal S2x1024x5632 .f32 from m ((c : Thread nD τ).loc main_arg2)) (ix3 0 k ⟨2816 + f, by omega⟩))
      * (show FVec Ideal S2x2816x1024 .f32 from m ((c : Thread nD τ).loc main_arg3)) (ix3 0 f (y 1)) := by
  rw [Pipeline.eq_sum_fin_of_reset_step_apply_of_flush (fun n h => (outsAt0 m c n h).2.2) 11 (fun _ => (0 : EReal)) (part m c)
    (acc_A m c) (acc_step m c) t h1 y, zero_add]
  refine Fin.sum_mul_add_congr fun s k hl => ?_
  simp only [act, proj, rowOf]
  blk_point [iblk, idx ⟨_, Pipeline.run_point_lt_of_flush t h1 s⟩]

/-- The result array after the run. -/
theorem final (c : Dev nD) : (dats m 0 c).arrAt 6 (cfgs 0).N = fun i : S16384x1024.Idx =>
      FFN 0 (m ((c : Thread nD τ).loc main_arg0)) (m ((c : Thread nD τ).loc main_arg1))
          (m ((c : Thread nD τ).loc main_arg2)) (m ((c : Thread nD τ).loc main_arg3)) (i 0) (i 1) := by
  refine (dats m 0 c).arrAt_eq_of_covers 6 _ (by decide +kernel) fun t hf y => ?_
  have h1 := (flush0_6 t).mp hf
  blk_simp
  rw [after0_6, out_C m c t (by omega) h1]
  pointwise [k0_pay4]
  rw [acc_last m c t h1]
  simp only [FFN, ffn, rowOf, act, proj, rn]
  blk_point [iblk, idx t]

end Cert.FfnIdeal.Value
-- ==== Proof.FfnClaims.lean ====
module

public import proofs.«01_k».proof.Defs
public import Idealize.ShloMosaic.Lib.Quiescent
public import proofs.«01_k».proof.Proof.Gen.Ffn.Frame
public import proofs.«01_k».proof.Proof.Gen.FfnRefIdeal.Run
public import proofs.«01_k».proof.Proof.FfnValue
public import proofs.«01_k».proof.Proof.FfnRefAt

@[expose] public section

set_option maxRecDepth 16384

noncomputable section

open Idealize.ShloMosaic Idealize.SL.Sem

/-! The claims about `Ffn`. -/

namespace Cert.Proof.Ffn

theorem frame : Cert.quiescent_Ffn := fun m g _ => Cert.Ffn.Gen.frame m g

theorem frame_ideal : Cert.quiescent_FfnIdeal := fun m g _ => Cert.FfnIdeal.Gen.frame m g

theorem frame_ref : Cert.quiescent_FfnRefIdeal := fun m g _ =>
  (θ_run _ _ _).mono (fun r h => ⟨fun c => (h c).2, sem_eq_zero_of_no_sems (by decide) r.2⟩)
    (Cert.FfnRefIdeal.Value.run m g)

set_option maxHeartbeats 2000000 in
theorem algebraic : Cert.algebraic_FfnIdeal_FfnRefIdeal := by
  pair_intro
  · run_from Cert.FfnIdeal.Gen.run_main m g
  · run_from Cert.FfnRefIdeal.Value.run m' g'
    rw [Cert.FfnIdeal.Value.final m c]
    funext i
    refine (Cert.FfnRefIdeal.Value.ref_at m' c i).trans ?_
    simp only [hagree c]

end Cert.Proof.Ffn
-- ==== Proof.LastFfnRefAt.lean ====
module

public import proofs.«01_k».proof.Proof.Gen.LastFfnRefIdeal.Run
public import proofs.«01_k».proof.Proof.FfnRefAt

@[expose] public section

set_option maxRecDepth 16384

noncomputable section

namespace Cert.LastFfnRefIdeal.Value
open Cert.LastFfnRefIdeal Cert.LastFfnRefIdeal.Gen Idealize.ShloMosaic Idealize.ShloMosaic.TcCoe Idealize.SL.Sem
open Cert.Spec
open Cert.FfnRefIdeal.Value (FFN)

set_option maxHeartbeats 2000000 in
theorem ref_at (m : (ℓ : Loc nD τ sig) → Buf (Elt Ideal) ℓ) (c : Dev nD) (i : S16384x1024.Idx) :
    res_out0 (F := Ideal) m c i
      = rn (fun q => FFN 1 (m ((c.tc : Thread nD τ).loc main_arg0)) (m ((c.tc : Thread nD τ).loc main_arg1))
          (m ((c.tc : Thread nD τ).loc main_arg2)) (m ((c.tc : Thread nD τ).loc main_arg3)) (i 0) q)
          (fun q => (show FVec Ideal S1024 .f32 from m ((c.tc : Thread nD τ).loc main_arg4)) (ix1 q)) (i 1) := by
  pointwise [res_out0, res_main_v40, FFN, ffn, act, proj, rn, Ideal.logistic]
  all_goals blk_point []

end Cert.LastFfnRefIdeal.Value
-- ==== Proof.LastFfnValue.lean ====
module

public import proofs.«01_k».proof.Proof.Gen.LastFfnIdeal.Value
public import proofs.«01_k».proof.Proof.LastFfnRefAt
public import proofs.«01_k».proof.Proof.FfnValue

@[expose] public section

set_option maxRecDepth 16384

noncomputable section

namespace Cert.LastFfnIdeal.Value
open Cert.LastFfnIdeal Cert.LastFfnIdeal.Gen Idealize.ShloMosaic Idealize.ShloMosaic.TcCoe Idealize.SL.Sem
open Cert.Spec
open Cert.FfnRefIdeal.Value (FFN)

variable (m : (ℓ : Loc nD τ sig) → Buf (Elt Ideal) ℓ)

/-! ## The payloads at an entry -/

theorem pay1_at (v25 : Vec Ideal S1024x1024 .f32) (v26 : Vec Ideal S1x1x1024 .f32) (y : S1024x1024.Idx) :
    k0_pay1 (F := Ideal) v25 v26 y = rn (fun k => v25 (ix2 (y 0) k)) (fun k => v26 (ix3 0 0 k)) (y 1) :=
  Cert.FfnIdeal.Value.pay1_at v25 v26 y

theorem pay2_at (y : S1024x1024.Idx) : k0_pay2 (F := Ideal) y = (0 : EReal) := Cert.FfnIdeal.Value.pay2_at y

theorem pay3_at (v3 : FVec Ideal S1024x1024 .bf16) (v4 v7 : FVec Ideal S1x1024x256 .bf16) (v14 : FVec Ideal S1024x1024 .f32)
    (v15 : FVec Ideal S1x256x1024 .bf16) (y : S1024x1024.Idx) (x g : Fin 1024 → EReal) (h : ∀ k, v3 (ix2 (y 0) k) = rn x g k) :
    k0_pay3 (F := Ideal) v3 v4 v7 v14 v15 y
      = v14 y + ∑ k : Fin 256, act x g (fun j => v4 (ix3 0 j k)) (fun j => v7 (ix3 0 j k)) * v15 (ix3 0 k (y 1)) :=
  Cert.FfnIdeal.Value.pay3_at v3 v4 v7 v14 v15 y x g h

/-- The stored block: the feed-forward layer's rows, normed once more. -/
theorem pay4_at (v25 v26 : FVec Ideal S1024x1024 .f32) (v30 : FVec Ideal S1x1024 .f32) (y : S1024x1024.Idx) :
    k0_pay4 (F := Ideal) v25 v26 v30 y
      = rn (fun q => v25 (ix2 (y 0) q) + Ideal.ofBits .f32 0x3F000000#32 * v26 (ix2 (y 0) q)) (fun q => v30 (ix2 0 q)) (y 1) := by
  pointwise [k0_pay4, rn]

/-! ## The carried state -/

theorem idx : ∀ t : Fin cfg0.N, win0_0.index t = ![t.val / 11, 0] ∧ win0_1.index t = ![1, 0, 0]
    ∧ win0_2.index t = ![1, 0, t.val % 11] ∧ win0_3.index t = ![1, 0, t.val % 11 + 11] ∧ win0_4.index t = ![1, t.val % 11, 0]
    ∧ win0_5.index t = ![0, 0] ∧ win0_6.index t = ![t.val / 11, 0] :=
  (by decide +kernel : ∀ t : Fin grid0.N, _)

abbrev X (c : Dev nD) : FVec Ideal S16384x1024 .f32 := m ((c : Thread nD τ).loc main_arg0)
abbrev G (c : Dev nD) : FVec Ideal S2x1024 .f32 := m ((c : Thread nD τ).loc main_arg1)

/-- Row `a` of the block of rows of point `t`, in the array. -/
def rowOf (t : Fin cfg0.N) (a : Fin 1024) : Fin 16384 :=
  ⟨t.val / 11 * 1024 + a, by have := lt_of_lt_of_eq t.isLt (show cfg0.N = 176 from N_0); omega⟩

/-- After every point the first scratch holds the normed rows of the point's block. -/
theorem normed_of (c : Dev nD) (n : ℕ) : ∀ (t : Fin cfg0.N), t.val = n → ∀ y : S1024x1024.Idx,
    (outsAt0 m c t.val t.isLt).2.1 y = rn (fun k => X m c (ix2 (rowOf t (y 0)) k)) (fun k => G m c (ix2 1 k)) (y 1) := by
  induction n using Nat.strong_induction_on with
  | _ n ih =>
  intro t ht y
  by_cases h0 : t.val % 11 = 0
  · rw [outsAt0_A m c t h0 (by omega)]; frame_out; rw [pay1_at]
    simp only [rn, rowOf]
    blk_point [iblk, idx t]
  · have e : rowOf t (y 0) = rowOf (⟨t.val - 1, Nat.lt_of_le_of_lt (Nat.sub_le _ _) t.isLt⟩ : Fin cfg0.N) (y 0) := by
      unfold rowOf; apply Fin.ext; show t.val / 11 * 1024 + (y 0).val = (t.val - 1) / 11 * 1024 + (y 0).val; omega
    rw [e, ← ih (t.val - 1) (by omega) _ rfl]
    by_cases h1 : t.val % 11 = 10
    · rw [outsAt0_C m c t h0 h1]; rfl
    · rw [outsAt0_B m c t h0 h1]; rfl

theorem normed (c : Dev nD) (t : Fin cfg0.N) (y : S1024x1024.Idx) :
    (outsAt0 m c t.val t.isLt).2.1 y = rn (fun k => X m c (ix2 (rowOf t (y 0)) k)) (fun k => G m c (ix2 1 k)) (y 1) :=
  normed_of m c t.val t rfl y

/-- What the point before left in the first scratch, inside a run. -/
theorem normed_prev (c : Dev nD) (t : Fin cfg0.N) (h0 : ¬t.val % 11 = 0) (y : S1024x1024.Idx) :
    (outsAt0 m c (t.val - 1) (Nat.lt_of_le_of_lt (Nat.sub_le _ _) t.isLt)).2.1 y
      = rn (fun k => X m c (ix2 (rowOf t (y 0)) k)) (fun k => G m c (ix2 1 k)) (y 1) := by
  rw [show rowOf t (y 0) = rowOf (⟨t.val - 1, Nat.lt_of_le_of_lt (Nat.sub_le _ _) t.isLt⟩ : Fin cfg0.N) (y 0) by
    unfold rowOf; apply Fin.ext; show t.val / 11 * 1024 + (y 0).val = (t.val - 1) / 11 * 1024 + (y 0).val; omega]
  exact normed m c ⟨t.val - 1, Nat.lt_of_le_of_lt (Nat.sub_le _ _) t.isLt⟩ y

/-- One point's part of the contraction over the hidden width. -/
def part (c : Dev nD) (t : Fin cfg0.N) (y : S1024x1024.Idx) : EReal :=
  ∑ k : Fin 256, act (fun k => X m c (ix2 (rowOf t (y 0)) k)) (fun k => G m c (ix2 1 k))
      (fun j => (show FVec Ideal S1x1024x256 .bf16 from iblk m c 2 t) (ix3 0 j k))
      (fun j => (show FVec Ideal S1x1024x256 .bf16 from iblk m c 3 t) (ix3 0 j k))
    * (show FVec Ideal S1x256x1024 .bf16 from iblk m c 4 t) (ix3 0 k (y 1))

theorem acc_A (c : Dev nD) (t : Fin cfg0.N) (h0 : t.val % 11 = 0) (y : S1024x1024.Idx) :
    (outsAt0 m c t.val t.isLt).2.2 y = 0 + part m c t y := by
  have hn : ∀ k, k0_pay1 (F := Ideal) (iblk m c 0 t) (iblk m c 1 t) (ix2 (y 0) k)
      = rn (fun k => X m c (ix2 (rowOf t (y 0)) k)) (fun k => G m c (ix2 1 k)) k := fun k => by
    refine Eq.trans ?_ (normed m c t (ix2 (y 0) k))
    rw [outsAt0_A m c t h0 (by omega)]; frame_out
  rw [outsAt0_A m c t h0 (by omega)]; frame_out
  rw [pay3_at _ _ _ _ _ y _ _ hn, pay2_at]; rfl

theorem acc_step (c : Dev nD) (t : Fin cfg0.N) (h0 : ¬t.val % 11 = 0) (y : S1024x1024.Idx) :
    (outsAt0 m c t.val t.isLt).2.2 y
      = (outsAt0 m c (t.val - 1) (Nat.lt_of_le_of_lt (Nat.sub_le _ _) t.isLt)).2.2 y + part m c t y := by
  by_cases h1 : t.val % 11 = 10
  · rw [outsAt0_C m c t h0 h1]; frame_out
    rw [read_unread_whole, read_unread_whole]
    rw [pay3_at _ _ _ _ _ y _ _ fun k => normed_prev m c t h0 (ix2 (y 0) k)]; rfl
  · rw [outsAt0_B m c t h0 h1]; frame_out
    rw [read_unread_whole, read_unread_whole]
    rw [pay3_at _ _ _ _ _ y _ _ fun k => normed_prev m c t h0 (ix2 (y 0) k)]; rfl

/-- What a run's last point stores in the output block. -/
theorem out_C (c : Dev nD) (t : Fin cfg0.N) (h0 : ¬t.val % 11 = 0) (h1 : t.val % 11 = 10) :
    (outsAt0 m c t.val t.isLt).1 = k0_pay4 (F := Ideal) (iblk m c 0 t) (outsAt0 m c t.val t.isLt).2.2 (iblk m c 5 t) := by
  rw [outsAt0_C m c t h0 h1]; frame_out

/-- The accumulator at a run's last point: the whole contraction. -/
theorem acc_last (c : Dev nD) (t : Fin cfg0.N) (h1 : t.val % 11 = 11 - 1) (y : S1024x1024.Idx) :
    (outsAt0 m c t.val t.isLt).2.2 y = ∑ f : Fin 2816,
      act (fun k => X m c (ix2 (rowOf t (y 0)) k)) (fun k => G m c (ix2 1 k))
        (fun k => (show FVec Ideal S2x1024x5632 .f32 from m ((c : Thread nD τ).loc main_arg2)) (ix3 1 k ⟨f, by omega⟩))
        (fun k => (show FVec Ideal S2x1024x5632 .f32 from m ((c : Thread nD τ).loc main_arg2)) (ix3 1 k ⟨2816 + f, by omega⟩))
      * (show FVec Ideal S2x2816x1024 .f32 from m ((c : Thread nD τ).loc main_arg3)) (ix3 1 f (y 1)) := by
  rw [Pipeline.eq_sum_fin_of_reset_step_apply_of_flush (fun n h => (outsAt0 m c n h).2.2) 11 (fun _ => (0 : EReal)) (part m c)
    (acc_A m c) (acc_step m c) t h1 y, zero_add]
  refine Fin.sum_mul_add_congr fun s k hl => ?_
  simp only [act, proj, rowOf]
  blk_point [iblk, idx ⟨_, Pipeline.run_point_lt_of_flush t h1 s⟩]

/-- The result array after the run. -/
theorem final (c : Dev nD) : (dats m 0 c).arrAt 6 (cfgs 0).N = fun i : S16384x1024.Idx =>
      rn (fun q => FFN 1 (m ((c : Thread nD τ).loc main_arg0)) (m ((c : Thread nD τ).loc main_arg1))
          (m ((c : Thread nD τ).loc main_arg2)) (m ((c : Thread nD τ).loc main_arg3)) (i 0) q)
          (fun q => (show FVec Ideal S1024 .f32 from m ((c : Thread nD τ).loc main_arg4)) (ix1 q)) (i 1) := by
  refine (dats m 0 c).arrAt_eq_of_covers 6 _ (by decide +kernel) fun t hf y => ?_
  have h1 := (flush0_6 t).mp hf
  blk_simp
  rw [after0_6, out_C m c t (by omega) h1]
  refine (pay4_at _ _ _ y).trans ?_
  simp only [acc_last m c t h1, FFN, ffn, rowOf, act, proj, rn]
  blk_point [iblk, idx t]

end Cert.LastFfnIdeal.Value
-- ==== Proof.LastFfnClaims.lean ====
module

public import proofs.«01_k».proof.Defs
public import Idealize.ShloMosaic.Lib.Quiescent
public import proofs.«01_k».proof.Proof.Gen.LastFfn.Frame
public import proofs.«01_k».proof.Proof.Gen.LastFfnRefIdeal.Run
public import proofs.«01_k».proof.Proof.LastFfnValue
public import proofs.«01_k».proof.Proof.LastFfnRefAt

@[expose] public section

set_option maxRecDepth 16384

noncomputable section

open Idealize.ShloMosaic Idealize.SL.Sem

/-! The claims about `LastFfn`. -/

namespace Cert.Proof.LastFfn

theorem frame : Cert.quiescent_LastFfn := fun m g _ => Cert.LastFfn.Gen.frame m g

theorem frame_ideal : Cert.quiescent_LastFfnIdeal := fun m g _ => Cert.LastFfnIdeal.Gen.frame m g

theorem frame_ref : Cert.quiescent_LastFfnRefIdeal := fun m g _ =>
  (θ_run _ _ _).mono (fun r h => ⟨fun c => (h c).2, sem_eq_zero_of_no_sems (by decide) r.2⟩)
    (Cert.LastFfnRefIdeal.Value.run m g)

set_option maxHeartbeats 2000000 in
theorem algebraic : Cert.algebraic_LastFfnIdeal_LastFfnRefIdeal := by
  pair_intro
  · run_from Cert.LastFfnIdeal.Gen.run_main m g
  · run_from Cert.LastFfnRefIdeal.Value.run m' g'
    rw [Cert.LastFfnIdeal.Value.final m c]
    funext i
    refine (Cert.LastFfnRefIdeal.Value.ref_at m' c i).trans ?_
    simp only [hagree c]

end Cert.Proof.LastFfn
-- ==== Proof.MergeRefAt.lean ====
module

public import proofs.«01_k».proof.Proof.Gen.MergeRefIdeal.Run
public import proofs.«01_k».proof.Proof.Spec

@[expose] public section

set_option maxRecDepth 16384

noncomputable section

namespace Cert.MergeRefIdeal.Value
open Cert.MergeRefIdeal Cert.MergeRefIdeal.Gen Idealize.ShloMosaic Idealize.ShloMosaic.TcCoe Idealize.SL.Sem
open Cert.Spec

/-- The merge's formula over the arrays. -/
abbrev MERGE (X : FVec Ideal S16384x1024 .f32) (G : FVec Ideal S2x1024 .f32) (W : FVec Ideal S2x1024x10312 .f32)
    (A B : FVec Ideal S16384x1024 .f32) (C : FVec Ideal S16384x1024 .bf16) (WA WO : FVec Ideal S2x1024x1024 .f32)
    (r : Fin 16384) (q : Fin 1024) : EReal :=
  merge (X (ix2 r q)) (fun k => X (ix2 r k)) (fun k => G (ix2 0 k)) (fun k p => W (ix3 0 k ⟨7240 + p, by omega⟩))
    (fun k p => W (ix3 0 k ⟨8264 + p, by omega⟩)) (fun k p => W (ix3 0 k ⟨9288 + p, by omega⟩))
    (fun p => A (ix2 r p)) (fun p => B (ix2 r p)) (fun p => ∑ k, C (ix2 r k) * WA (ix3 0 k p)) (fun p => WO (ix3 0 p q))

set_option maxHeartbeats 2000000 in
theorem ref_at (m : (ℓ : Loc nD τ sig) → Buf (Elt Ideal) ℓ) (c : Dev nD) (i : S16384x1024.Idx) :
    res_main_v44 (F := Ideal) m c i
      = MERGE (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) (i 0) (i 1) := by
  pointwise [res_main_v44, MERGE, merge, gated, proj, rn, Ideal.logistic]
  blk_point []

end Cert.MergeRefIdeal.Value
-- ==== Proof.MergeValue.lean ====
module

public import proofs.«01_k».proof.Proof.Gen.MergeIdeal.Value
public import proofs.«01_k».proof.Proof.MergeRefAt

@[expose] public section

set_option maxRecDepth 16384

noncomputable section

namespace Cert.MergeIdeal.Value
open Cert.MergeIdeal Cert.MergeIdeal.Gen Idealize.ShloMosaic Idealize.ShloMosaic.TcCoe Idealize.SL.Sem
open Cert.Spec
open Cert.MergeRefIdeal.Value (MERGE)

variable (m : (ℓ : Loc nD τ sig) → Buf (Elt Ideal) ℓ)

/-- The blocks the windows stage at point `t`. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0]
    ∧ win0_6.index t = ![0, 0, 0] ∧ win0_7.index t = ![0, 0, 0] ∧ win0_8.index t = ![t.val, 0] :=
  (by decide +kernel : ∀ t : Fin grid0.N, _)

set_option maxHeartbeats 2000000 in
/-- What the body stores at entry `y` of its block is the merge's formula at the entry's place in the array. -/
theorem point (c : Dev nD) (t : Fin cfg0.N) (y : S512x1024.Idx) :
    k0_pay1 (F := Ideal) (iblk m c 0 t) (k0_pay2 (F := Ideal) (iblk m c 0 t) (iblk m c 1 t) (iblk m c 2 t) (iblk m c 5 t)
        (iblk m c 6 t) (iblk m c 3 t) (iblk m c 4 t)) (iblk m c 7 t) y
      = MERGE (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          ((((cfg0.win 8).blk t).view.emb y) 0) ((((cfg0.win 8).blk t).view.emb y) 1) := by
  pointwise [k0_pay1, k0_pay2, MERGE, merge, gated, proj, rn]
  blk_point [iblk, idx t]

/-- The result array after the run. -/
theorem final (c : Dev nD) : (dats m 0 c).arrAt 8 (cfgs 0).N = fun i : S16384x1024.Idx =>
      MERGE (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (i 0) (i 1) := by
  refine (dats m 0 c).arrAt_eq_of_covers 8 _ (by decide +kernel) fun t _ y => ?_
  blk_simp
  rw [after0_8]; frame_out
  exact point m c t y

end Cert.MergeIdeal.Value
-- ==== Proof.MergeClaims.lean ====
module

public import proofs.«01_k».proof.Defs
public import Idealize.ShloMosaic.Lib.Quiescent
public import proofs.«01_k».proof.Proof.Gen.Merge.Frame
public import proofs.«01_k».proof.Proof.Gen.MergeRefIdeal.Run
public import proofs.«01_k».proof.Proof.MergeValue
public import proofs.«01_k».proof.Proof.MergeRefAt

@[expose] public section

set_option maxRecDepth 16384

noncomputable section

open Idealize.ShloMosaic Idealize.SL.Sem

/-! The claims about `Merge`. -/

namespace Cert.Proof.Merge

theorem frame : Cert.quiescent_Merge := fun m g _ => Cert.Merge.Gen.frame m g

theorem frame_ideal : Cert.quiescent_MergeIdeal := fun m g _ => Cert.MergeIdeal.Gen.frame m g

theorem frame_ref : Cert.quiescent_MergeRefIdeal := fun m g _ =>
  (θ_run _ _ _).mono (fun r h => ⟨fun c => (h c).2, sem_eq_zero_of_no_sems (by decide) r.2⟩)
    (Cert.MergeRefIdeal.Value.run m g)

set_option maxHeartbeats 2000000 in
theorem algebraic : Cert.algebraic_MergeIdeal_MergeRefIdeal := by
  pair_intro
  · run_from Cert.MergeIdeal.Gen.run_main m g
  · run_from Cert.MergeRefIdeal.Value.run m' g'
    rw [Cert.MergeIdeal.Value.final m c]
    funext i
    refine (Cert.MergeRefIdeal.Value.ref_at m' c i).trans ?_
    simp only [hagree c]

end Cert.Proof.Merge
-- ==== Proof.SconvRefAt.lean ====
module

public import proofs.«01_k».proof.Proof.Gen.SconvRefIdeal.Run
public import proofs.«01_k».proof.Proof.Spec

@[expose] public section

set_option maxRecDepth 16384

noncomputable section

namespace Cert.SconvRefIdeal.Value
open Cert.SconvRefIdeal Cert.SconvRefIdeal.Gen Idealize.ShloMosaic Idealize.ShloMosaic.TcCoe Idealize.SL.Sem
open Cert.Spec

/-- The input projection of every row. -/
def PROJ (X : FVec Ideal S16384x1024 .f32) (G : FVec Ideal S2x1024 .f32) (W : FVec Ideal S2x1024x10312 .f32) : FVec Ideal S4x4096x10312 .f32 :=
  Host.dotGeneral dot_S4x4096x1024_S1024x10312_S4x4096x10312_2_0_01_1_n_n none (mulf (mulf (shapeCast _ X shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ X shapeCasts_S16384x1024_S4x4096x1024) (shapeCast _ X shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![0, 0] G slices_S2x1024_S1x1024_0_0) shapeCasts_S1x1024_S1024)))) (shapeCast _ (extractStridedSlice S1x1024x10312 ![0, 0, 0] W slices_S2x1024x10312_S1x1024x10312_0_0_0) shapeCasts_S1x1024x10312_S1024x10312)

/-- What the convolution runs over. -/
def Z (X : FVec Ideal S16384x1024 .f32) (G : FVec Ideal S2x1024 .f32) (W : FVec Ideal S2x1024x10312 .f32) : FVec Ideal S4x4096x1024 .f32 :=
  mulf (extractStridedSlice S4x4096x1024 ![0, 0, 3072] (PROJ X G W) slices_S4x4096x10312_S4x4096x1024_0_0_3072) (extractStridedSlice S4x4096x1024 ![0, 0, 4096] (PROJ X G W) slices_S4x4096x10312_S4x4096x1024_0_0_4096)

/-- The branch's result. -/
def OUT (X : FVec Ideal S16384x1024 .f32) (G : FVec Ideal S2x1024 .f32) (W : FVec Ideal S2x1024x10312 .f32) (S : FVec Ideal S2x3x1024 .f32) (O : FVec Ideal S2x1024x1024 .f32) : FVec Ideal S16384x1024 .f32 :=
  shapeCast _ (Host.dotGeneral dot_S4x4096x1024_S1024x1024_S4x4096x1024_2_0_01_1_n_n none (mulf (extractStridedSlice S4x4096x1024 ![0, 0, 2048] (PROJ X G W) slices_S4x4096x10312_S4x4096x1024_0_0_2048) (addf (addf (addf (broadcastInDim S4x4096x1024 ![] bcast_S_S4x4096x1024 (constant S_ .f32 0x00000000#32)) (mulf (extractStridedSlice S4x4096x1024 ![0, 0, 0] (pad S4x4098x1024 ![0, 2, 0] ![0, 0, 0] ![0, 0, 0] (Z X G W) (sitofp .f32 (constantI S_ 32 0#32)) pads_S4x4096x1024_S4x4098x1024_000_200_000 h_S_) slices_S4x4098x1024_S4x4096x1024_0_0_0) (broadcastInDim S4x4096x1024 ![0, 1, 2] bcast_S1x1x1024_S4x4096x1024_0_1_2 (broadcastInDim S1x1x1024 ![2] bcast_S1024_S1x1x1024_2 (shapeCast _ (extractStridedSlice S1x1024 ![0, 0] (shapeCast _ (extractStridedSlice S1x3x1024 ![0, 0, 0] S slices_S2x3x1024_S1x3x1024_0_0_0) shapeCasts_S1x3x1024_S3x1024) slices_S3x1024_S1x1024_0_0) shapeCasts_S1x1024_S1024))))) (mulf (extractStridedSlice S4x4096x1024 ![0, 1, 0] (pad S4x4098x1024 ![0, 2, 0] ![0, 0, 0] ![0, 0, 0] (Z X G W) (sitofp .f32 (constantI S_ 32 0#32)) pads_S4x4096x1024_S4x4098x1024_000_200_000 h_S_) slices_S4x4098x1024_S4x4096x1024_0_1_0) (broadcastInDim S4x4096x1024 ![0, 1, 2] bcast_S1x1x1024_S4x4096x1024_0_1_2 (broadcastInDim S1x1x1024 ![2] bcast_S1024_S1x1x1024_2 (shapeCast _ (extractStridedSlice S1x1024 ![1, 0] (shapeCast _ (extractStridedSlice S1x3x1024 ![0, 0, 0] S slices_S2x3x1024_S1x3x1024_0_0_0) shapeCasts_S1x3x1024_S3x1024) slices_S3x1024_S1x1024_1_0) shapeCasts_S1x1024_S1024))))) (mulf (extractStridedSlice S4x4096x1024 ![0, 2, 0] (pad S4x4098x1024 ![0, 2, 0] ![0, 0, 0] ![0, 0, 0] (Z X G W) (sitofp .f32 (constantI S_ 32 0#32)) pads_S4x4096x1024_S4x4098x1024_000_200_000 h_S_) slices_S4x4098x1024_S4x4096x1024_0_2_0) (broadcastInDim S4x4096x1024 ![0, 1, 2] bcast_S1x1x1024_S4x4096x1024_0_1_2 (broadcastInDim S1x1x1024 ![2] bcast_S1024_S1x1x1024_2 (shapeCast _ (extractStridedSlice S1x1024 ![2, 0] (shapeCast _ (extractStridedSlice S1x3x1024 ![0, 0, 0] S slices_S2x3x1024_S1x3x1024_0_0_0) shapeCasts_S1x3x1024_S3x1024) slices_S3x1024_S1x1024_2_0) shapeCasts_S1x1024_S1024)))))) (shapeCast _ (extractStridedSlice S1x1024x1024 ![0, 0, 0] O slices_S2x1024x1024_S1x1024x1024_0_0_0) shapeCasts_S1x1024x1024_S1024x1024)) shapeCasts_S4x4096x1024_S16384x1024

theorem res_eq (m : (ℓ : Loc nD τ sig) → Buf (Elt Ideal) ℓ) (c : Dev nD) : res_out0 (F := Ideal) m c = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem PROJ_at (X : FVec Ideal S16384x1024 .f32) (G : FVec Ideal S2x1024 .f32) (W : FVec Ideal S2x1024x10312 .f32) (b : Fin 4) (t : Fin 4096) (n : Fin 10312) :
    PROJ X G W (ix3 b t n) = proj (fun k => X (ix2 ⟨b * 4096 + t, by omega⟩ k)) (fun k => G (ix2 0 k)) (fun k => W (ix3 0 k n)) := by
  pointwise [PROJ, proj, rn]

/-- The convolution's input at a row and a channel. -/
def SZ (X : FVec Ideal S16384x1024 .f32) (G : FVec Ideal S2x1024 .f32) (W : FVec Ideal S2x1024x10312 .f32) (q : Fin 1024) (r : Fin 16384) : EReal :=
  proj (fun k => X (ix2 r k)) (fun k => G (ix2 0 k)) (fun k => W (ix3 0 k ⟨3072 + q, by omega⟩))
    * proj (fun k => X (ix2 r k)) (fun k => G (ix2 0 k)) (fun k => W (ix3 0 k ⟨4096 + q, by omega⟩))

/-- The branch's formula over the arrays. -/
def SCONV (X : FVec Ideal S16384x1024 .f32) (G : FVec Ideal S2x1024 .f32) (W : FVec Ideal S2x1024x10312 .f32) (S : FVec Ideal S2x3x1024 .f32) (O : FVec Ideal S2x1024x1024 .f32) (r : Fin 16384) (n : Fin 1024) : EReal :=
  ∑ q : Fin 1024, proj (fun k => X (ix2 r k)) (fun k => G (ix2 0 k)) (fun k => W (ix3 0 k ⟨2048 + q, by omega⟩))
    * (lagged (SZ X G W q) 2 r * S (ix3 0 0 q) + lagged (SZ X G W q) 1 r * S (ix3 0 1 q) + lagged (SZ X G W q) 0 r * S (ix3 0 2 q))
    * O (ix3 0 q n)

theorem Z_at (X : FVec Ideal S16384x1024 .f32) (G : FVec Ideal S2x1024 .f32) (W : FVec Ideal S2x1024x10312 .f32) (b : Fin 4) (t : Fin 4096) (n : Fin 1024) : Z X G W (ix3 b t n) = SZ X G W n ⟨b * 4096 + t, by omega⟩ := by
  pointwise [Z]
  rw [PROJ_at, PROJ_at]; rfl

theorem Z_lag (X : FVec Ideal S16384x1024 .f32) (G : FVec Ideal S2x1024 .f32) (W : FVec Ideal S2x1024x10312 .f32) (r : Fin 16384) (l : ℕ) (p : Prop) [Decidable p] (hp : p ↔ l ≤ r.val % 4096) (t : p → Fin 4096)
    (ht : ∀ h, (t h).val = r.val % 4096 - l) (q : Fin 1024) (z : EReal) (hz : z = 0) :
    (if h : p then Z X G W (ix3 ⟨r.val / 4096, by omega⟩ (t h) q) else z) = lagged (SZ X G W q) l r := by
  unfold lagged
  by_cases h : p
  · rw [dif_pos h, if_pos (hp.mp h), Z_at]
    have := hp.mp h; have := ht h
    congr 1; apply Fin.ext; show r.val / 4096 * 4096 + (t h).val = r.val - l; omega
  · rw [dif_neg h, if_neg (fun c => h (hp.mpr c)), hz]

theorem fill : (FloatOps.sitofp .f32 (0#32 : BitVec 32) : Ideal .f32) = (0 : EReal) := by
  show ((((0#32 : BitVec 32).toInt : ℝ)) : EReal) = 0
  simp

set_option maxHeartbeats 2000000 in
theorem OUT_at (X : FVec Ideal S16384x1024 .f32) (G : FVec Ideal S2x1024 .f32) (W : FVec Ideal S2x1024x10312 .f32) (S : FVec Ideal S2x3x1024 .f32) (O : FVec Ideal S2x1024x1024 .f32) (i : S16384x1024.Idx) : OUT X G W S O i = SCONV X G W S O (i 0) (i 1) := by
  have hi : (i 0).val < 16384 := (i 0).isLt
  pointwise [OUT, SCONV]
  refine Finset.sum_congr rfl fun q _ => ?_
  rw [Z_lag X G W (i 0) 2 _ (by omega) (fun _ => _) (fun _ => rfl) q _ fill,
    Z_lag X G W (i 0) 1 _ (by omega) (fun _ => _) (fun _ => by show 1 + (i 0).val % 4096 - 2 = _; omega) q _ fill,
    Z_lag X G W (i 0) 0 _ (by omega) (fun _ => _) (fun _ => rfl) q _ fill, PROJ_at]
  congr 3
  simp only [proj, rn]
  blk_point []

theorem ref_at (m : (ℓ : Loc nD τ sig) → Buf (Elt Ideal) ℓ) (c : Dev nD) (i : S16384x1024.Idx) : res_out0 (F := Ideal) m c i = SCONV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  rw [res_eq, OUT_at]

end Cert.SconvRefIdeal.Value
-- ==== Proof.SconvValue.lean ====
module

public import proofs.«01_k».proof.Proof.Gen.SconvIdeal.Value
public import proofs.«01_k».proof.Proof.SconvRefAt

@[expose] public section

set_option maxRecDepth 16384

noncomputable section

namespace Cert.SconvIdeal.Value
open Cert.SconvIdeal Cert.SconvIdeal.Gen Idealize.ShloMosaic Idealize.ShloMosaic.TcCoe Idealize.SL.Sem
open Cert.Spec
open Cert.SconvRefIdeal.Value (SCONV SZ)

variable (m : (ℓ : Loc nD τ sig) → Buf (Elt Ideal) ℓ)

/-- The blocks the windows stage at point `t`. -/
theorem idx : ∀ t : Fin cfg0.N, win0_0.index t = ![t.val, 0] ∧ win0_1.index t = ![0, 0, 0] ∧ win0_2.index t = ![0, 0, 2]
    ∧ win0_3.index t = ![0, 0, 3] ∧ win0_4.index t = ![0, 0, 4] ∧ win0_5.index t = ![0, 0, 0]
    ∧ win0_6.index t = ![0, 0, 0] ∧ win0_7.index t = ![t.val, 0] :=
  (by decide +kernel : ∀ t : Fin grid0.N, _)

/-- Window 2 holds 1024 columns of the projection matrix. -/
theorem X2_at (c : Dev nD) (t : Fin cfg0.N) (k n : Fin 1024) :
    (show FVec Ideal S1x1024x1024 .bf16 from X0_2 m c t) (ix3 0 k n)
      = (show FVec Ideal S2x1024x10312 .f32 from m ((c : Thread nD τ).loc main_arg2)) (ix3 0 k ⟨2048 + n, by omega⟩) := by
  show X0_2 m c t (ix3 0 k n) = _
  unfold X0_2 Pipeline.Window.fill
  rw [dif_pos (moved0_2 t _)]
  blk_point [iblk, idx t]

/-- Window 3 holds 1024 columns of the projection matrix. -/
theorem X3_at (c : Dev nD) (t : Fin cfg0.N) (k n : Fin 1024) :
    (show FVec Ideal S1x1024x1024 .bf16 from X0_3 m c t) (ix3 0 k n)
      = (show FVec Ideal S2x1024x10312 .f32 from m ((c : Thread nD τ).loc main_arg2)) (ix3 0 k ⟨3072 + n, by omega⟩) := by
  show X0_3 m c t (ix3 0 k n) = _
  unfold X0_3 Pipeline.Window.fill
  rw [dif_pos (moved0_3 t _)]
  blk_point [iblk, idx t]

/-- Window 4 holds 1024 columns of the projection matrix. -/
theorem X4_at (c : Dev nD) (t : Fin cfg0.N) (k n : Fin 1024) :
    (show FVec Ideal S1x1024x1024 .bf16 from X0_4 m c t) (ix3 0 k n)
      = (show FVec Ideal S2x1024x10312 .f32 from m ((c : Thread nD τ).loc main_arg2)) (ix3 0 k ⟨4096 + n, by omega⟩) := by
  show X0_4 m c t (ix3 0 k n) = _
  unfold X0_4 Pipeline.Window.fill
  rw [dif_pos (moved0_4 t _)]
  blk_point [iblk, idx t]

abbrev X (c : Dev nD) : FVec Ideal S16384x1024 .f32 := m ((c : Thread nD τ).loc main_arg0)
abbrev G (c : Dev nD) : FVec Ideal S2x1024 .f32 := m ((c : Thread nD τ).loc main_arg1)
abbrev W (c : Dev nD) : FVec Ideal S2x1024x10312 .f32 := m ((c : Thread nD τ).loc main_arg2)
abbrev S (c : Dev nD) : FVec Ideal S2x3x1024 .f32 := m ((c : Thread nD τ).loc main_arg3)
abbrev O (c : Dev nD) : FVec Ideal S2x1024x1024 .f32 := m ((c : Thread nD τ).loc main_arg4)

/-- Row `a` of the block of rows of point `t`, in the array. -/
def rowOf (t : Fin cfg0.N) (a : Fin 512) : Fin 16384 :=
  ⟨t.val * 512 + a, by have := lt_of_lt_of_eq t.isLt (show cfg0.N = 32 from N_0); omega⟩

/-- The normed rows of a point's block. -/
theorem pay4_at (c : Dev nD) (t : Fin cfg0.N) (y : S512x1024.Idx) :
    k0_pay4 (F := Ideal) (iblk m c 0 t) (iblk m c 1 t) y
      = rn (fun k => X m c (ix2 (rowOf t (y 0)) k)) (fun k => G m c (ix2 0 k)) (y 1) := by
  pointwise [k0_pay4, rn, rowOf]
  blk_point [iblk, idx t]

/-- The gate of the block's rows. -/
theorem pay5_at (c : Dev nD) (t : Fin cfg0.N) (a : Fin 512) (q : Fin 1024) :
    k0_pay5 (F := Ideal) (iblk m c 0 t) (iblk m c 1 t) (X0_2 m c t) (ix2 a q)
      = proj (fun k => X m c (ix2 (rowOf t a) k)) (fun k => G m c (ix2 0 k)) (fun k => W m c (ix3 0 k ⟨2048 + q, by omega⟩)) := by
  pointwise [k0_pay5, proj]
  refine Finset.sum_congr rfl fun k _ => ?_
  rw [pay4_at]
  exact congrArg _ (X2_at m c t k q)

/-- What the convolution runs over, on the block's rows. -/
abbrev zt (c : Dev nD) (t : Fin cfg0.N) : FVec Ideal S512x1024 .f32 :=
  k0_pay7 (F := Ideal) (k0_pay4 (iblk m c 0 t) (iblk m c 1 t)) (k0_pay6 (X0_3 m c t)) (constant S512x1024 .f32 0x00000000#32) (X0_4 m c t)

theorem zt_at (c : Dev nD) (t : Fin cfg0.N) (a : Fin 512) (q : Fin 1024) : zt m c t (ix2 a q) = SZ (X m c) (G m c) (W m c) q (rowOf t a) := by
  pointwise [k0_pay7, k0_pay6, SZ, proj]
  congr 1
  · refine Finset.sum_congr rfl fun k _ => ?_
    rw [pay4_at]
    exact congrArg _ (X3_at m c t k q)
  · refine Finset.sum_congr rfl fun k _ => ?_
    rw [pay4_at]
    exact congrArg _ (X4_at m c t k q)

/-- After every point the scratch holds the last eight rows of the point's block. -/
theorem kept (c : Dev nD) (t : Fin cfg0.N) (j : Fin 8) (q : Fin 1024) :
    (show FVec Ideal S8x1024 .f32 from (outsAt0 m c t.val t.isLt).2) (ix2 j q)
      = SZ (X m c) (G m c) (W m c) q (rowOf t ⟨504 + j, by omega⟩) := by
  refine Eq.trans (?_ : _ = k0_pay1 (F := Ideal) (zt m c t) (ix2 j q)) ?_
  · by_cases h0 : t.val % 8 = 0
    · rw [outsAt0_A m c t h0]; frame_out
    · rw [outsAt0_B m c t h0]; frame_out
  · pointwise [k0_pay1]
    exact zt_at m c t _ q

/-- The rotated and selected rows are the rows `l` earlier in the sequence, over any kept rows `v`. -/
theorem lag_at (c : Dev nD) (t : Fin cfg0.N) (v : FVec Ideal S8x1024 .f32)
    (hv : ∀ (j : Fin 8) (q : Fin 1024), v (ix2 j q) = if t.val * 512 % 4096 = 0 then 0 else
      SZ (X m c) (G m c) (W m c) q ⟨t.val * 512 - 8 + j, by have := (rowOf t 0).isLt; unfold rowOf at this; dsimp at this; omega⟩)
    (a : Fin 512) (q : Fin 1024) (l : ℕ) (h1 : 1 ≤ l) (h3 : l < 3) :
    Scalar.select (IntOp.cmpi CmpIPredicate.sge (BitVec.ofNat 32 (a.val % 8)) (BitVec.ofNat 32 l))
        (zt m c t (ix2 ⟨a.val / 8 * 8 + (a.val % 8 + 8 - l) % 8, by omega⟩ q))
        (if h : a.val / 8 < 1 then v (ix2 ⟨(a.val % 8 + 8 - l) % 8, by omega⟩ q)
          else zt m c t (ix2 ⟨(a.val / 8 - 1) * 8 + (a.val % 8 + 8 - l) % 8, by omega⟩ q))
      = lagged (SZ (X m c) (G m c) (W m c) q) l (rowOf t a) := by
  have hN := lt_of_lt_of_eq t.isLt (show cfg0.N = 32 from N_0)
  exact lag_tile _ (t.val * 512) l _ _ (by omega) (by omega) (by omega) _
      (by show t.val * 512 + a.val = _; omega) (by omega) _ _ _
      (fun h => by rw [zt_at]; congr 1; apply Fin.ext; simp only [rowOf]; omega)
      (fun h h' => by
        rw [hv]
        by_cases e : t.val * 512 % 4096 = 0
        · rw [if_pos e, if_pos e]
        · rw [if_neg e, if_neg e]; congr 1; apply Fin.ext; simp only [rowOf]; omega)
      (fun h h' => by rw [zt_at]; congr 1; apply Fin.ext; simp only [rowOf]; omega)

theorem S_at (c : Dev nD) (t : Fin cfg0.N) (k : Fin 3) (q : Fin 1024) :
    (show FVec Ideal S1x3x1024 .f32 from iblk m c 5 t) (ix3 0 k q) = S m c (ix3 0 k q) := by blk_point [iblk, idx t]

theorem O_at (c : Dev nD) (t : Fin cfg0.N) (q n : Fin 1024) :
    (show FVec Ideal S1x1024x1024 .bf16 from iblk m c 6 t) (ix3 0 q n) = O m c (ix3 0 q n) := by blk_point [iblk, idx t]

theorem term (c : Dev nD) (t : Fin cfg0.N) (z0 z1 z2 : EReal) (a : Fin 512) (q n : Fin 1024)
    (h0 : z0 = lagged (SZ (X m c) (G m c) (W m c) q) 0 (rowOf t a)) (h1 : z1 = lagged (SZ (X m c) (G m c) (W m c) q) 1 (rowOf t a))
    (h2 : z2 = lagged (SZ (X m c) (G m c) (W m c) q) 2 (rowOf t a)) :
    k0_pay5 (F := Ideal) (iblk m c 0 t) (iblk m c 1 t) (X0_2 m c t) (ix2 a q)
        * (z0 * (show FVec Ideal S1x3x1024 .f32 from iblk m c 5 t) (ix3 0 2 q)
          + z1 * (show FVec Ideal S1x3x1024 .f32 from iblk m c 5 t) (ix3 0 1 q)
          + z2 * (show FVec Ideal S1x3x1024 .f32 from iblk m c 5 t) (ix3 0 0 q))
        * (show FVec Ideal S1x1024x1024 .bf16 from iblk m c 6 t) (ix3 0 q n)
      = proj (fun k => X m c (ix2 (rowOf t a) k)) (fun k => G m c (ix2 0 k)) (fun k => W m c (ix3 0 k ⟨2048 + q, by omega⟩))
        * (lagged (SZ (X m c) (G m c) (W m c) q) 2 (rowOf t a) * S m c (ix3 0 0 q)
          + lagged (SZ (X m c) (G m c) (W m c) q) 1 (rowOf t a) * S m c (ix3 0 1 q)
          + lagged (SZ (X m c) (G m c) (W m c) q) 0 (rowOf t a) * S m c (ix3 0 2 q))
        * O m c (ix3 0 q n) := by
  rw [pay5_at, S_at, S_at, S_at, O_at, h0, h1, h2]
  refine congrArg (· * _) (congrArg (_ * ·) ?_)
  rw [add_comm _ (_ * S m c (ix3 0 0 q)), add_comm (_ * S m c (ix3 0 2 q)), ← add_assoc]

/-- What the body stores at an entry of its block, over any kept rows `v`. -/
theorem point (c : Dev nD) (t : Fin cfg0.N) (v : FVec Ideal S8x1024 .f32)
    (hv : ∀ (j : Fin 8) (q : Fin 1024), v (ix2 j q) = if t.val * 512 % 4096 = 0 then 0 else
      SZ (X m c) (G m c) (W m c) q ⟨t.val * 512 - 8 + j, by have := (rowOf t 0).isLt; unfold rowOf at this; dsimp at this; omega⟩)
    (y : S512x1024.Idx) :
    k0_pay2 (F := Ideal) (k0_pay5 (iblk m c 0 t) (iblk m c 1 t) (X0_2 m c t))
      (k0_pay9 (k0_pay4 (iblk m c 0 t) (iblk m c 1 t)) (k0_pay6 (X0_3 m c t)) (constant S512x1024 FTy.f32 0#32)
        (X0_4 m c t) v (View.ld (iblk m c 5 t) (Rect.unit ![0, 2, 0] ![1, 1, 1024] inb_S1x3x1024_S1x1x1024_0_2_0))
        (View.ld (iblk m c 5 t) (Rect.unit ![0, 1, 0] ![1, 1, 1024] inb_S1x3x1024_S1x1x1024_0_1_0)))
      (k0_pay10 (k0_pay4 (iblk m c 0 t) (iblk m c 1 t)) (k0_pay6 (X0_3 m c t)) (constant S512x1024 FTy.f32 0#32)
        (X0_4 m c t) v)
      (k0_pay11 (View.ld (iblk m c 5 t) (Rect.unit ![0, 0, 0] ![1, 1, 1024] inb_S1x3x1024_S1x1x1024_0_0_0)))
      (iblk m c 6 t) y
      = SCONV (X m c) (G m c) (W m c) (S m c) (O m c) (rowOf t (y 0)) (y 1) := by
  pointwise [k0_pay2, k0_pay9, k0_pay10, k0_pay11, k0_pay8, SCONV]
  exact Finset.sum_congr rfl fun q _ => term m c t _ _ _ (y 0) q (y 1) (zt_at m c t (y 0) q)
    (lag_at m c t v hv (y 0) q 1 (by omega) (by omega)) (lag_at m c t v hv (y 0) q 2 (by omega) (by omega))

/-- What every point leaves in the output block. -/
theorem out_at (c : Dev nD) (t : Fin cfg0.N) (y : S512x1024.Idx) :
    (show FVec Ideal S512x1024 .f32 from (outsAt0 m c t.val t.isLt).1) y
      = SCONV (X m c) (G m c) (W m c) (S m c) (O m c) (rowOf t (y 0)) (y 1) := by
  have hN := lt_of_lt_of_eq t.isLt (show cfg0.N = 32 from N_0)
  by_cases h0 : t.val % 8 = 0
  · rw [outsAt0_A m c t h0]; frame_out
    refine point m c t (k0_pay3 (F := Ideal)) (fun j q => ?_) y
    rw [if_pos (by omega)]
    pointwise [k0_pay3]
  · rw [outsAt0_B m c t h0]; frame_out
    rw [read_unread_whole]
    refine point m c t (outsAt0 m c (t.val - 1) (Nat.lt_of_le_of_lt (Nat.sub_le _ _) t.isLt)).2 (fun j q => ?_) y
    rw [if_neg (by omega)]
    refine (kept m c ⟨t.val - 1, Nat.lt_of_le_of_lt (Nat.sub_le _ _) t.isLt⟩ j q).trans ?_
    congr 1; apply Fin.ext; show (t.val - 1) * 512 + (504 + j.val) = t.val * 512 - 8 + j.val; omega

/-- The result array after the run. -/
theorem final (c : Dev nD) : (dats m 0 c).arrAt 7 (cfgs 0).N = fun i : S16384x1024.Idx =>
      SCONV (m ((c : Thread nD τ).loc main_arg0)) (m ((c : Thread nD τ).loc main_arg1))
          (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  have hN := lt_of_lt_of_eq t.isLt (show cfg0.N = 32 from N_0)
  blk_simp
  rw [after0_7]
  refine (out_at m c t y).trans ?_
  have e0 : (((cfg0.win 7).blk t).view.emb y) 0 = rowOf t (y 0) := by apply Fin.ext; simp only [rowOf]; blk_point [idx t]
  have e1 : (((cfg0.win 7).blk t).view.emb y) 1 = y 1 := by apply Fin.ext; blk_point [idx t]
  rw [e0, e1]

end Cert.SconvIdeal.Value
-- ==== Proof.SconvClaims.lean ====
module

public import proofs.«01_k».proof.Defs
public import Idealize.ShloMosaic.Lib.Quiescent
public import proofs.«01_k».proof.Proof.Gen.Sconv.Frame
public import proofs.«01_k».proof.Proof.Gen.SconvRefIdeal.Run
public import proofs.«01_k».proof.Proof.SconvValue
public import proofs.«01_k».proof.Proof.SconvRefAt

@[expose] public section

set_option maxRecDepth 16384

noncomputable section

open Idealize.ShloMosaic Idealize.SL.Sem

/-! The claims about `Sconv`. -/

namespace Cert.Proof.Sconv

theorem frame : Cert.quiescent_Sconv := fun m g _ => Cert.Sconv.Gen.frame m g

theorem frame_ideal : Cert.quiescent_SconvIdeal := fun m g _ => Cert.SconvIdeal.Gen.frame m g

theorem frame_ref : Cert.quiescent_SconvRefIdeal := fun m g _ =>
  (θ_run _ _ _).mono (fun r h => ⟨fun c => (h c).2, sem_eq_zero_of_no_sems (by decide) r.2⟩)
    (Cert.SconvRefIdeal.Value.run m g)

set_option maxHeartbeats 2000000 in
theorem algebraic : Cert.algebraic_SconvIdeal_SconvRefIdeal := by
  pair_intro
  · run_from Cert.SconvIdeal.Gen.run_main m g
  · run_from Cert.SconvRefIdeal.Value.run m' g'
    rw [Cert.SconvIdeal.Value.final m c]
    funext i
    refine (Cert.SconvRefIdeal.Value.ref_at m' c i).trans ?_
    simp only [hagree c]

end Cert.Proof.Sconv
-- ==== Proof.RnnTile.lean ====
module

public import proofs.«01_k».proof.Proof.Gen.RnnIdeal.Value
public import proofs.«01_k».proof.Proof.Spec

@[expose] public section

set_option maxRecDepth 16384

/-!
What a grid point of the recurrent branch's kernel computes, stage by stage, from the blocks it reads and the two
carried scratches; and that the point leaves exactly that.
-/

noncomputable section

namespace Cert.RnnIdeal.Value
open Cert.RnnIdeal Cert.RnnIdeal.Gen Idealize.ShloMosaic Idealize.ShloMosaic.TcCoe Idealize.SL.Sem

/-- What a point reads: the rows, the norm's gain, the projection's columns, the kept rows, the convolution's four taps
    and bias, the gates' four blocks, their biases, the decay's parameter, the carried state, the output projection. -/
structure Tile where
  x : FVec Ideal S256x1024 .f32
  g : FVec Ideal S1x1x1024 .f32
  w : FVec Ideal S1x1024x2048 .bf16
  v : FVec Ideal S8x1024 .f32
  k0 : FVec Ideal S1x1x1024 .f32
  k1 : FVec Ideal S1x1x1024 .f32
  k2 : FVec Ideal S1x1x1024 .f32
  k3 : FVec Ideal S1x1x1024 .f32
  cb : FVec Ideal S1x1x1024 .f32
  b0 : FVec Ideal S1x1x256x512 .bf16
  b1 : FVec Ideal S1x1x256x512 .bf16
  b2 : FVec Ideal S1x1x256x512 .bf16
  b3 : FVec Ideal S1x1x256x512 .bf16
  ba : FVec Ideal S1x1x1024 .f32
  bx : FVec Ideal S1x1x1024 .f32
  lam : FVec Ideal S1x1x1024 .f32
  h : FVec Ideal S1x1024 .f32
  wo : FVec Ideal S1x1024x1024 .bf16

theorem slices_group (n : ℕ) : S32x8x1024.Slices ![n % 32, 0, 0] S1x8x1024 :=
  (by decide : ∀ k : Fin 32, S32x8x1024.Slices ![k.val, 0, 0] S1x8x1024) ⟨n % 32, Nat.mod_lt _ (by decide)⟩

/-- Group `n` of eight rows, from the sums `B`, the products `A` and the state `s` before the group. -/
def grp (B A : FVec Ideal S32x8x1024 .f32) (n : ℕ) (s : FVec Ideal S1x1024 .f32) : FVec Ideal S8x1024 .f32 :=
  addf (shapeCast S8x1024 (extractStridedSlice S1x8x1024 ![n % 32, 0, 0] B (slices_group n)) shapeCasts_S1x8x1024_S8x1024)
    (mulf (shapeCast S8x1024 (extractStridedSlice S1x8x1024 ![n % 32, 0, 0] A (slices_group n)) shapeCasts_S1x8x1024_S8x1024)
      (broadcastTo S8x1024 s broadcasts_S1x1024_S8x1024))

/-- A group's last row. -/
def lastRow (z : FVec Ideal S8x1024 .f32) : FVec Ideal S1x1024 .f32 := extractStridedSlice S1x1024 ![7, 0] z slices_S8x1024_o7_0_S1x1024

/-- The groups one after the other, each from the last row of the one before. -/
def seq (B A : FVec Ideal S32x8x1024 .f32) (s : FVec Ideal S1x1024 .f32) : ℕ → FVec Ideal S8x1024 .f32
  | 0 => grp B A 0 s
  | n + 1 => grp B A (n + 1) (lastRow (seq B A s n))

theorem concatenates_groups (f : Fin 32 → FVec Ideal S8x1024 .f32) :
    Shape.Concatenates ((List.ofFn fun n : Fin 32 => (⟨S8x1024, f n⟩ : (s : Shape) × (s.Idx → Ideal .f32))).map (·.1)) S256x1024 0 :=
  concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

namespace Tile
variable (T : Tile)

def rx : FVec Ideal S256x1024 .f32 := k0_pay5 T.x T.g T.w
def rg : FVec Ideal S256x1024 .f32 := k0_pay6 T.x T.g T.w

/-- The sum of the convolution's first three terms, latest row first. -/
def taps : FVec Ideal S32x8x1024 .f32 := k0_pay9 T.rx T.v T.k3 T.k2 T.k1

/-- The convolution's result. -/
def xa : FVec Ideal S256x1024 .f32 :=
  k0_pay13 (k0_pay7 T.cb) (iota .tc S32x8x1024 32 [1] iota_S32x8x1024_d1_w32) T.taps (k0_pay10 T.rx) (k0_pay11 T.v) (k0_pay12 T.rx) T.k0

def ra0 : FVec Ideal S256x256 .f32 :=
  k0_pay17 (k0_pay7 T.cb) (iota .tc S32x8x1024 32 [1] iota_S32x8x1024_d1_w32) T.taps (k0_pay10 T.rx) (k0_pay11 T.v) (k0_pay12 T.rx) T.k0 T.b0
def rx0 : FVec Ideal S256x256 .f32 :=
  k0_pay18 (k0_pay7 T.cb) (iota .tc S32x8x1024 32 [1] iota_S32x8x1024_d1_w32) T.taps (k0_pay10 T.rx) (k0_pay11 T.v) (k0_pay12 T.rx) T.k0 T.b0
def ra1 : FVec Ideal S256x256 .f32 :=
  k0_pay20 (k0_pay7 T.cb) (iota .tc S32x8x1024 32 [1] iota_S32x8x1024_d1_w32) T.taps (k0_pay10 T.rx) (k0_pay11 T.v) (k0_pay12 T.rx) T.k0 T.b1
def rx1 : FVec Ideal S256x256 .f32 :=
  k0_pay21 (k0_pay7 T.cb) (iota .tc S32x8x1024 32 [1] iota_S32x8x1024_d1_w32) T.taps (k0_pay10 T.rx) (k0_pay11 T.v) (k0_pay12 T.rx) T.k0 T.b1
def ra2 : FVec Ideal S256x256 .f32 :=
  k0_pay23 (k0_pay7 T.cb) (iota .tc S32x8x1024 32 [1] iota_S32x8x1024_d1_w32) T.taps (k0_pay10 T.rx) (k0_pay11 T.v) (k0_pay12 T.rx) T.k0 T.b2
def rx2 : FVec Ideal S256x256 .f32 :=
  k0_pay24 (k0_pay7 T.cb) (iota .tc S32x8x1024 32 [1] iota_S32x8x1024_d1_w32) T.taps (k0_pay10 T.rx) (k0_pay11 T.v) (k0_pay12 T.rx) T.k0 T.b2
def xa3 : FVec Ideal S256x256 .bf16 :=
  k0_pay25 (k0_pay7 T.cb) (iota .tc S32x8x1024 32 [1] iota_S32x8x1024_d1_w32) T.taps (k0_pay10 T.rx) (k0_pay11 T.v) (k0_pay12 T.rx) T.k0

/-- The input's gate. -/
def gx : FVec Ideal S256x1024 .f32 := k0_pay27 T.rx0 T.rx1 T.rx2 T.xa3 T.b3 T.bx

/-- The decay's logarithm. -/
def log : FVec Ideal S256x1024 .f32 := k0_pay28 T.ra0 T.ra1 T.ra2 T.xa3 T.b3 T.ba T.lam
def dec : FVec Ideal S256x1024 .f32 := k0_pay29 T.ra0 T.ra1 T.ra2 T.xa3 T.b3 T.ba T.lam
def sq : FVec Ideal S256x1024 .f32 := k0_pay30 T.ra0 T.ra1 T.ra2 T.xa3 T.b3 T.ba T.lam

/-- The products and the sums of the steps of each group up to each of its rows. -/
def prods : FVec Ideal S32x8x1024 .f32 := k0_pay39 (k0_pay35 T.dec) (k0_pay37 T.dec)
def sums : FVec Ideal S32x8x1024 .f32 := k0_pay38 T.xa T.gx T.dec T.sq

/-! The groups of the states, and four of the states between groups. -/

def g0 : FVec Ideal S8x1024 .f32 := k0_pay40 (k0_pay35 T.dec) (k0_pay37 T.dec) T.sums T.h
def g1 : FVec Ideal S8x1024 .f32 := k0_pay41 (k0_pay35 T.dec) (k0_pay37 T.dec) T.sums T.h
def g2 : FVec Ideal S8x1024 .f32 := k0_pay42 (k0_pay35 T.dec) (k0_pay37 T.dec) T.sums T.h
def g3 : FVec Ideal S8x1024 .f32 := k0_pay43 (k0_pay35 T.dec) (k0_pay37 T.dec) T.sums T.h
def g4 : FVec Ideal S8x1024 .f32 := k0_pay44 (k0_pay35 T.dec) (k0_pay37 T.dec) T.sums T.h
def g5 : FVec Ideal S8x1024 .f32 := k0_pay45 (k0_pay35 T.dec) (k0_pay37 T.dec) T.sums T.h
def g6 : FVec Ideal S8x1024 .f32 := k0_pay46 (k0_pay35 T.dec) (k0_pay37 T.dec) T.sums T.h
def s7 : FVec Ideal S1x1024 .f32 := k0_pay47 (k0_pay35 T.dec) (k0_pay37 T.dec) T.sums T.h
def g7 : FVec Ideal S8x1024 .f32 := k0_pay48 T.sums T.prods T.s7
def g8 : FVec Ideal S8x1024 .f32 := k0_pay49 T.sums T.prods T.s7
def g9 : FVec Ideal S8x1024 .f32 := k0_pay50 T.sums T.prods T.s7
def g10 : FVec Ideal S8x1024 .f32 := k0_pay51 T.sums T.prods T.s7
def g11 : FVec Ideal S8x1024 .f32 := k0_pay52 T.sums T.prods T.s7
def g12 : FVec Ideal S8x1024 .f32 := k0_pay53 T.sums T.prods T.s7
def g13 : FVec Ideal S8x1024 .f32 := k0_pay54 T.sums T.prods T.s7
def s14 : FVec Ideal S1x1024 .f32 := k0_pay55 T.sums T.prods T.s7
def g14 : FVec Ideal S8x1024 .f32 := k0_pay58 T.s14 (k0_pay56 T.sums) (k0_pay57 T.prods)
def g15 : FVec Ideal S8x1024 .f32 := k0_pay59 T.sums T.prods T.s14 (k0_pay56 T.sums) (k0_pay57 T.prods)
def g16 : FVec Ideal S8x1024 .f32 := k0_pay60 T.sums T.prods T.s14 (k0_pay56 T.sums) (k0_pay57 T.prods)
def g17 : FVec Ideal S8x1024 .f32 := k0_pay61 T.sums T.prods T.s14 (k0_pay56 T.sums) (k0_pay57 T.prods)
def g18 : FVec Ideal S8x1024 .f32 := k0_pay62 T.sums T.prods T.s14 (k0_pay56 T.sums) (k0_pay57 T.prods)
def g19 : FVec Ideal S8x1024 .f32 := k0_pay63 T.sums T.prods T.s14 (k0_pay56 T.sums) (k0_pay57 T.prods)
def g20 : FVec Ideal S8x1024 .f32 := k0_pay64 T.sums T.prods T.s14 (k0_pay56 T.sums) (k0_pay57 T.prods)
def g21 : FVec Ideal S8x1024 .f32 := k0_pay65 T.sums T.prods T.s14 (k0_pay56 T.sums) (k0_pay57 T.prods)
def s22 : FVec Ideal S1x1024 .f32 := k0_pay66 T.sums T.prods T.s14 (k0_pay56 T.sums) (k0_pay57 T.prods)
def g22 : FVec Ideal S8x1024 .f32 := k0_pay67 T.sums T.prods T.s22
def g23 : FVec Ideal S8x1024 .f32 := k0_pay68 T.sums T.prods T.s22
def g24 : FVec Ideal S8x1024 .f32 := k0_pay69 T.sums T.prods T.s22
def g25 : FVec Ideal S8x1024 .f32 := k0_pay70 T.sums T.prods T.s22
def g26 : FVec Ideal S8x1024 .f32 := k0_pay71 T.sums T.prods T.s22
def g27 : FVec Ideal S8x1024 .f32 := k0_pay72 T.sums T.prods T.s22
def g28 : FVec Ideal S8x1024 .f32 := k0_pay73 T.sums T.prods T.s22
def s29 : FVec Ideal S1x1024 .f32 := k0_pay74 T.sums T.prods T.s22
def g29 : FVec Ideal S8x1024 .f32 := k0_pay77 T.s29 (k0_pay75 T.sums) (k0_pay76 T.prods)
def g30 : FVec Ideal S8x1024 .f32 := k0_pay78 T.sums T.prods T.g29
def g31 : FVec Ideal S8x1024 .f32 := k0_pay79 T.sums T.prods T.g30

/-- The states. -/
def hid : FVec Ideal S256x1024 .f32 :=
  concatenate S256x1024 0 [⟨S8x1024, T.g0⟩, ⟨S8x1024, T.g1⟩, ⟨S8x1024, T.g2⟩, ⟨S8x1024, T.g3⟩, ⟨S8x1024, T.g4⟩, ⟨S8x1024, T.g5⟩, ⟨S8x1024, T.g6⟩, ⟨S8x1024, T.g7⟩, ⟨S8x1024, T.g8⟩, ⟨S8x1024, T.g9⟩, ⟨S8x1024, T.g10⟩, ⟨S8x1024, T.g11⟩, ⟨S8x1024, T.g12⟩, ⟨S8x1024, T.g13⟩, ⟨S8x1024, T.g14⟩, ⟨S8x1024, T.g15⟩, ⟨S8x1024, T.g16⟩, ⟨S8x1024, T.g17⟩, ⟨S8x1024, T.g18⟩, ⟨S8x1024, T.g19⟩, ⟨S8x1024, T.g20⟩, ⟨S8x1024, T.g21⟩, ⟨S8x1024, T.g22⟩, ⟨S8x1024, T.g23⟩, ⟨S8x1024, T.g24⟩, ⟨S8x1024, T.g25⟩, ⟨S8x1024, T.g26⟩, ⟨S8x1024, T.g27⟩, ⟨S8x1024, T.g28⟩, ⟨S8x1024, T.g29⟩, ⟨S8x1024, T.g30⟩, ⟨S8x1024, T.g31⟩]
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- What the point leaves in the output block, in the kept rows and in the carried state. -/
def out : FVec Ideal S256x1024 .f32 := k0_pay1 (k0_pay81 T.rg T.hid) (k0_pay82 T.wo)
def keep : FVec Ideal S8x1024 .f32 := k0_pay14 T.rx
def carry : FVec Ideal S1x1024 .f32 := k0_pay80 T.g31

/-- Group `n` of the states, from the one before. -/
def group (n : ℕ) : FVec Ideal S8x1024 .f32 := seq T.sums T.prods T.h n

theorem group_succ (n : ℕ) : T.group (n + 1) = grp T.sums T.prods (n + 1) (lastRow (T.group n)) := rfl

theorem g0_eq : T.g0 = T.group 0 := rfl
theorem g1_eq : T.g1 = T.group 1 := by rw [group_succ, ← g0_eq]; rfl
theorem g2_eq : T.g2 = T.group 2 := by rw [group_succ, ← g1_eq]; rfl
theorem g3_eq : T.g3 = T.group 3 := by rw [group_succ, ← g2_eq]; rfl
theorem g4_eq : T.g4 = T.group 4 := by rw [group_succ, ← g3_eq]; rfl
theorem g5_eq : T.g5 = T.group 5 := by rw [group_succ, ← g4_eq]; rfl
theorem g6_eq : T.g6 = T.group 6 := by rw [group_succ, ← g5_eq]; rfl
theorem g7_eq : T.g7 = T.group 7 := by rw [group_succ, ← g6_eq]; rfl
theorem g8_eq : T.g8 = T.group 8 := by rw [group_succ, ← g7_eq]; rfl
theorem g9_eq : T.g9 = T.group 9 := by rw [group_succ, ← g8_eq]; rfl
theorem g10_eq : T.g10 = T.group 10 := by rw [group_succ, ← g9_eq]; rfl
theorem g11_eq : T.g11 = T.group 11 := by rw [group_succ, ← g10_eq]; rfl
theorem g12_eq : T.g12 = T.group 12 := by rw [group_succ, ← g11_eq]; rfl
theorem g13_eq : T.g13 = T.group 13 := by rw [group_succ, ← g12_eq]; rfl
theorem g14_eq : T.g14 = T.group 14 := by rw [group_succ, ← g13_eq]; rfl
theorem g15_eq : T.g15 = T.group 15 := by rw [group_succ, ← g14_eq]; rfl
theorem g16_eq : T.g16 = T.group 16 := by rw [group_succ, ← g15_eq]; rfl
theorem g17_eq : T.g17 = T.group 17 := by rw [group_succ, ← g16_eq]; rfl
theorem g18_eq : T.g18 = T.group 18 := by rw [group_succ, ← g17_eq]; rfl
theorem g19_eq : T.g19 = T.group 19 := by rw [group_succ, ← g18_eq]; rfl
theorem g20_eq : T.g20 = T.group 20 := by rw [group_succ, ← g19_eq]; rfl
theorem g21_eq : T.g21 = T.group 21 := by rw [group_succ, ← g20_eq]; rfl
theorem g22_eq : T.g22 = T.group 22 := by rw [group_succ, ← g21_eq]; rfl
theorem g23_eq : T.g23 = T.group 23 := by rw [group_succ, ← g22_eq]; rfl
theorem g24_eq : T.g24 = T.group 24 := by rw [group_succ, ← g23_eq]; rfl
theorem g25_eq : T.g25 = T.group 25 := by rw [group_succ, ← g24_eq]; rfl
theorem g26_eq : T.g26 = T.group 26 := by rw [group_succ, ← g25_eq]; rfl
theorem g27_eq : T.g27 = T.group 27 := by rw [group_succ, ← g26_eq]; rfl
theorem g28_eq : T.g28 = T.group 28 := by rw [group_succ, ← g27_eq]; rfl
theorem g29_eq : T.g29 = T.group 29 := by rw [group_succ, ← g28_eq]; rfl
theorem g30_eq : T.g30 = T.group 30 := by rw [group_succ, ← g29_eq]; rfl
theorem g31_eq : T.g31 = T.group 31 := by rw [group_succ, ← g30_eq]; rfl

theorem hid_eq : T.hid = concatenate S256x1024 0 (List.ofFn fun n : Fin 32 => (⟨S8x1024, T.group n.val⟩ : (s : Shape) × (s.Idx → Ideal .f32)))
    (concatenates_groups fun n => T.group n.val) := by
  unfold hid
  simp only [g0_eq, g1_eq, g2_eq, g3_eq, g4_eq, g5_eq, g6_eq, g7_eq, g8_eq, g9_eq, g10_eq, g11_eq, g12_eq, g13_eq, g14_eq, g15_eq, g16_eq, g17_eq, g18_eq, g19_eq, g20_eq, g21_eq, g22_eq, g23_eq, g24_eq, g25_eq, g26_eq, g27_eq, g28_eq, g29_eq, g30_eq, g31_eq]
  rfl

end Tile

variable (m : (ℓ : Loc nD τ sig) → Buf (Elt Ideal) ℓ)

/-- Point `t`'s blocks, with the kept rows `v` and the carried state `h`. -/
def tile (c : Dev nD) (t : Fin cfg0.N) (v : FVec Ideal S8x1024 .f32) (h : FVec Ideal S1x1024 .f32) : Tile where
  x := iblk m c 0 t
  g := iblk m c 1 t
  w := X0_2 m c t
  v := v
  k0 := View.ld (iblk m c 3 t) (Rect.unit ![0, 0, 0] S1x1x1024.size inb_S1x4x1024_S1x1x1024_0_0_0)
  k1 := View.ld (iblk m c 3 t) (Rect.unit ![0, 1, 0] S1x1x1024.size inb_S1x4x1024_S1x1x1024_0_1_0)
  k2 := View.ld (iblk m c 3 t) (Rect.unit ![0, 2, 0] S1x1x1024.size inb_S1x4x1024_S1x1x1024_0_2_0)
  k3 := View.ld (iblk m c 3 t) (Rect.unit ![0, 3, 0] S1x1x1024.size inb_S1x4x1024_S1x1x1024_0_3_0)
  cb := iblk m c 4 t
  b0 := View.ld (iblk m c 5 t) (Rect.unit ![0, 0, 0, 0] S1x1x256x512.size inb_S1x4x256x512_S1x1x256x512_0_0_0_0)
  b1 := View.ld (iblk m c 5 t) (Rect.unit ![0, 1, 0, 0] S1x1x256x512.size inb_S1x4x256x512_S1x1x256x512_0_1_0_0)
  b2 := View.ld (iblk m c 5 t) (Rect.unit ![0, 2, 0, 0] S1x1x256x512.size inb_S1x4x256x512_S1x1x256x512_0_2_0_0)
  b3 := View.ld (iblk m c 5 t) (Rect.unit ![0, 3, 0, 0] S1x1x256x512.size inb_S1x4x256x512_S1x1x256x512_0_3_0_0)
  ba := iblk m c 6 t
  bx := iblk m c 7 t
  lam := iblk m c 8 t
  h := h
  wo := iblk m c 9 t

/-- The same, each block as the body's load of it reads it. -/
def raw (c : Dev nD) (t : Fin cfg0.N) (v : FVec Ideal S8x1024 .f32) (h : FVec Ideal S1x1024 .f32) : Tile where
  x := View.readAt (Elt Ideal) (ms0_0 t).view (Rect.unit ![0, 0] S256x1024.size inb_S256x1024_S256x1024_0_0).toLoadRect ((hs0_0 t).unread (iblk m c 0 t))
  g := View.readAt (Elt Ideal) (ms0_1 t).view (Rect.unit ![0, 0, 0] S1x1x1024.size inb_S1x1x1024_S1x1x1024_0_0_0).toLoadRect ((hs0_1 t).unread (iblk m c 1 t))
  w := View.readAt (Elt Ideal) (ms0_2 t).view (Rect.unit ![0, 0, 0] S1x1024x2048.size inb_S1x1024x2048_S1x1024x2048_0_0_0).toLoadRect ((hs0_2 t).unread (X0_2 m c t))
  v := v
  k0 := View.readAt (Elt Ideal) (ms0_3 t).view (Rect.unit (s := S1x4x1024) ![0, 0, 0] S1x1x1024.size inb_S1x4x1024_S1x1x1024_0_0_0).toLoadRect ((hs0_3 t).unread (iblk m c 3 t))
  k1 := View.readAt (Elt Ideal) (ms0_3 t).view (Rect.unit (s := S1x4x1024) ![0, 1, 0] S1x1x1024.size inb_S1x4x1024_S1x1x1024_0_1_0).toLoadRect ((hs0_3 t).unread (iblk m c 3 t))
  k2 := View.readAt (Elt Ideal) (ms0_3 t).view (Rect.unit (s := S1x4x1024) ![0, 2, 0] S1x1x1024.size inb_S1x4x1024_S1x1x1024_0_2_0).toLoadRect ((hs0_3 t).unread (iblk m c 3 t))
  k3 := View.readAt (Elt Ideal) (ms0_3 t).view (Rect.unit (s := S1x4x1024) ![0, 3, 0] S1x1x1024.size inb_S1x4x1024_S1x1x1024_0_3_0).toLoadRect ((hs0_3 t).unread (iblk m c 3 t))
  cb := View.readAt (Elt Ideal) (ms0_4 t).view (Rect.unit ![0, 0, 0] S1x1x1024.size inb_S1x1x1024_S1x1x1024_0_0_0).toLoadRect ((hs0_4 t).unread (iblk m c 4 t))
  b0 := View.readAt (Elt Ideal) (ms0_5 t).view (Rect.unit (s := S1x4x256x512) ![0, 0, 0, 0] S1x1x256x512.size inb_S1x4x256x512_S1x1x256x512_0_0_0_0).toLoadRect ((hs0_5 t).unread (iblk m c 5 t))
  b1 := View.readAt (Elt Ideal) (ms0_5 t).view (Rect.unit (s := S1x4x256x512) ![0, 1, 0, 0] S1x1x256x512.size inb_S1x4x256x512_S1x1x256x512_0_1_0_0).toLoadRect ((hs0_5 t).unread (iblk m c 5 t))
  b2 := View.readAt (Elt Ideal) (ms0_5 t).view (Rect.unit (s := S1x4x256x512) ![0, 2, 0, 0] S1x1x256x512.size inb_S1x4x256x512_S1x1x256x512_0_2_0_0).toLoadRect ((hs0_5 t).unread (iblk m c 5 t))
  b3 := View.readAt (Elt Ideal) (ms0_5 t).view (Rect.unit (s := S1x4x256x512) ![0, 3, 0, 0] S1x1x256x512.size inb_S1x4x256x512_S1x1x256x512_0_3_0_0).toLoadRect ((hs0_5 t).unread (iblk m c 5 t))
  ba := View.readAt (Elt Ideal) (ms0_6 t).view (Rect.unit ![0, 0, 0] S1x1x1024.size inb_S1x1x1024_S1x1x1024_0_0_0).toLoadRect ((hs0_6 t).unread (iblk m c 6 t))
  bx := View.readAt (Elt Ideal) (ms0_7 t).view (Rect.unit ![0, 0, 0] S1x1x1024.size inb_S1x1x1024_S1x1x1024_0_0_0).toLoadRect ((hs0_7 t).unread (iblk m c 7 t))
  lam := View.readAt (Elt Ideal) (ms0_8 t).view (Rect.unit ![0, 0, 0] S1x1x1024.size inb_S1x1x1024_S1x1x1024_0_0_0).toLoadRect ((hs0_8 t).unread (iblk m c 8 t))
  h := h
  wo := View.readAt (Elt Ideal) (ms0_9 t).view (Rect.unit ![0, 0, 0] S1x1024x1024.size inb_S1x1024x1024_S1x1024x1024_0_0_0).toLoadRect ((hs0_9 t).unread (iblk m c 9 t))

theorem raw_eq (c : Dev nD) (t : Fin cfg0.N) (v : FVec Ideal S8x1024 .f32) (h : FVec Ideal S1x1024 .f32) : raw m c t v h = tile m c t v h := by
  unfold raw tile
  simp (disch := decide) only [View.readAt_eq_ld, Memref.IsWhole.read_unread, View.ld_unit_lit']
  rfl

/-- What the point before `t` left in the two scratches, as the body's loads read it. -/
def keptRead (c : Dev nD) (t : Fin cfg0.N) : FVec Ideal S8x1024 .f32 :=
  View.readAt (Elt Ideal) scM0_0.view (Rect.unit ![0, 0] S8x1024.size inb_S8x1024_S8x1024_0_0).toLoadRect ((Memref.isWhole_whole _).unread (outsAt0 m c (t.val - 1) (Nat.lt_of_le_of_lt (Nat.sub_le _ _) t.isLt)).2.1)
def carryRead (c : Dev nD) (t : Fin cfg0.N) : FVec Ideal S1x1024 .f32 :=
  View.readAt (Elt Ideal) scM0_1.view (Rect.unit ![0, 0] S1x1024.size inb_S1x1024_S1x1024_0_0).toLoadRect ((Memref.isWhole_whole _).unread (outsAt0 m c (t.val - 1) (Nat.lt_of_le_of_lt (Nat.sub_le _ _) t.isLt)).2.2)

theorem keptRead_eq (c : Dev nD) (t : Fin cfg0.N) : keptRead m c t = (outsAt0 m c (t.val - 1) (Nat.lt_of_le_of_lt (Nat.sub_le _ _) t.isLt)).2.1 := by
  unfold keptRead
  simp (disch := decide) only [View.readAt_eq_ld, View.ld_unit_lit']
  exact read_unread_whole _ _ _
theorem carryRead_eq (c : Dev nD) (t : Fin cfg0.N) : carryRead m c t = (outsAt0 m c (t.val - 1) (Nat.lt_of_le_of_lt (Nat.sub_le _ _) t.isLt)).2.2 := by
  unfold carryRead
  simp (disch := decide) only [View.readAt_eq_ld, View.ld_unit_lit']
  exact read_unread_whole _ _ _

/-- The reset scratches, as the body's loads read them. -/
abbrev keptReset : FVec Ideal S8x1024 .f32 :=
  scM0_0.view.readCov [(⟨Rect.unit (s := S8x1024) ![0, 0] S8x1024.size inb_S8x1024_S8x1024_0_0, k0_pay2 (F := Ideal)⟩ : View.Piece (Elt Ideal) S8x1024 .f32)]
    (Rect.unit (s := S8x1024) ![0, 0] S8x1024.size inb_S8x1024_S8x1024_0_0).toLoadRect
abbrev carryReset : FVec Ideal S1x1024 .f32 :=
  scM0_1.view.readCov [(⟨Rect.unit (s := S1x1024) ![0, 0] S1x1024.size inb_S1x1024_S1x1024_0_0, k0_pay3 (F := Ideal)⟩ : View.Piece (Elt Ideal) S1x1024 .f32)]
    (Rect.unit (s := S1x1024) ![0, 0] S1x1024.size inb_S1x1024_S1x1024_0_0).toLoadRect

theorem keptReset_eq : keptReset = k0_pay2 (F := Ideal) :=
  View.readCov_unit_lit' (S := S8x1024) (off := ![0, 0]) scM0_0.view inb_S8x1024_S8x1024_0_0 _ (by decide)
theorem carryReset_eq : carryReset = k0_pay3 (F := Ideal) :=
  View.readCov_unit_lit' (S := S1x1024) (off := ![0, 0]) scM0_1.view inb_S1x1024_S1x1024_0_0 _ (by decide)

set_option maxHeartbeats 1000000 in
theorem keep_B (c : Dev nD) (t : Fin cfg0.N) (h0 : ¬t.val % 16 = 0) : (outsAt0 m c t.val t.isLt).2.1 = (raw m c t (keptRead m c t) (carryRead m c t)).keep := by
  simp only [Tile.keep, Tile.rx, raw]
  rw [outsAt0_B m c t h0]
  dsimp only
  unfold sout0_B_0
  rw [View.read_writes_junk_eq_canon]
  exact View.canon_cons_unit_lit' (S := S8x1024) (off := ![0, 0]) inb_S8x1024_S8x1024_0_0 _ _ (by decide)

set_option maxHeartbeats 1000000 in
theorem carry_B (c : Dev nD) (t : Fin cfg0.N) (h0 : ¬t.val % 16 = 0) : (outsAt0 m c t.val t.isLt).2.2 = (raw m c t (keptRead m c t) (carryRead m c t)).carry := by
  simp only [Tile.carry, Tile.rx, Tile.rg, Tile.taps, Tile.xa, Tile.ra0, Tile.rx0, Tile.ra1, Tile.rx1, Tile.ra2, Tile.rx2, Tile.xa3, Tile.gx,
    Tile.dec, Tile.sq, Tile.prods, Tile.sums, Tile.s7, Tile.s14, Tile.s22, Tile.s29, Tile.g0, Tile.g1, Tile.g2, Tile.g3, Tile.g4, Tile.g5, Tile.g6,
    Tile.g7, Tile.g8, Tile.g9, Tile.g10, Tile.g11, Tile.g12, Tile.g13, Tile.g14, Tile.g15, Tile.g16, Tile.g17, Tile.g18, Tile.g19, Tile.g20,
    Tile.g21, Tile.g22, Tile.g23, Tile.g24, Tile.g25, Tile.g26, Tile.g27, Tile.g28, Tile.g29, Tile.g30, Tile.g31, raw]
  rw [outsAt0_B m c t h0]
  dsimp only
  unfold sout0_B_1
  rw [View.read_writes_junk_eq_canon]
  exact View.canon_cons_unit_lit' (S := S1x1024) (off := ![0, 0]) inb_S1x1024_S1x1024_0_0 _ _ (by decide)

set_option maxHeartbeats 1000000 in
theorem out_B (c : Dev nD) (t : Fin cfg0.N) (h0 : ¬t.val % 16 = 0) : (outsAt0 m c t.val t.isLt).1 = (raw m c t (keptRead m c t) (carryRead m c t)).out := by
  simp only [Tile.out, Tile.hid, Tile.rx, Tile.rg, Tile.taps, Tile.xa, Tile.ra0, Tile.rx0, Tile.ra1, Tile.rx1, Tile.ra2, Tile.rx2, Tile.xa3, Tile.gx,
    Tile.dec, Tile.sq, Tile.prods, Tile.sums, Tile.s7, Tile.s14, Tile.s22, Tile.s29, Tile.g0, Tile.g1, Tile.g2, Tile.g3, Tile.g4, Tile.g5, Tile.g6,
    Tile.g7, Tile.g8, Tile.g9, Tile.g10, Tile.g11, Tile.g12, Tile.g13, Tile.g14, Tile.g15, Tile.g16, Tile.g17, Tile.g18, Tile.g19, Tile.g20,
    Tile.g21, Tile.g22, Tile.g23, Tile.g24, Tile.g25, Tile.g26, Tile.g27, Tile.g28, Tile.g29, Tile.g30, Tile.g31, raw]
  rw [outsAt0_B m c t h0]
  dsimp only
  unfold out0_B_10
  rw [View.read_writes_junk_eq_canon]
  exact View.canon_cons_unit_lit' (S := S256x1024) (off := ![0, 0]) inb_S256x1024_S256x1024_0_0 _ _ (by decide)

set_option maxHeartbeats 1000000 in
theorem keep_A (c : Dev nD) (t : Fin cfg0.N) (h0 : t.val % 16 = 0) : (outsAt0 m c t.val t.isLt).2.1 = (raw m c t keptReset carryReset).keep := by
  simp only [Tile.keep, Tile.rx, raw]
  rw [outsAt0_A m c t h0]
  dsimp only
  unfold sout0_A_0
  rw [View.read_writes_junk_eq_canon]
  exact View.canon_cons_unit_lit' (S := S8x1024) (off := ![0, 0]) inb_S8x1024_S8x1024_0_0 _ _ (by decide)

set_option maxHeartbeats 1000000 in
theorem carry_A (c : Dev nD) (t : Fin cfg0.N) (h0 : t.val % 16 = 0) : (outsAt0 m c t.val t.isLt).2.2 = (raw m c t keptReset carryReset).carry := by
  simp only [Tile.carry, Tile.rx, Tile.rg, Tile.taps, Tile.xa, Tile.ra0, Tile.rx0, Tile.ra1, Tile.rx1, Tile.ra2, Tile.rx2, Tile.xa3, Tile.gx,
    Tile.dec, Tile.sq, Tile.prods, Tile.sums, Tile.s7, Tile.s14, Tile.s22, Tile.s29, Tile.g0, Tile.g1, Tile.g2, Tile.g3, Tile.g4, Tile.g5, Tile.g6,
    Tile.g7, Tile.g8, Tile.g9, Tile.g10, Tile.g11, Tile.g12, Tile.g13, Tile.g14, Tile.g15, Tile.g16, Tile.g17, Tile.g18, Tile.g19, Tile.g20,
    Tile.g21, Tile.g22, Tile.g23, Tile.g24, Tile.g25, Tile.g26, Tile.g27, Tile.g28, Tile.g29, Tile.g30, Tile.g31, raw]
  rw [outsAt0_A m c t h0]
  dsimp only
  unfold sout0_A_1
  rw [View.read_writes_junk_eq_canon]
  exact View.canon_cons_unit_lit' (S := S1x1024) (off := ![0, 0]) inb_S1x1024_S1x1024_0_0 _ _ (by decide)

set_option maxHeartbeats 1000000 in
theorem out_A (c : Dev nD) (t : Fin cfg0.N) (h0 : t.val % 16 = 0) : (outsAt0 m c t.val t.isLt).1 = (raw m c t keptReset carryReset).out := by
  simp only [Tile.out, Tile.hid, Tile.rx, Tile.rg, Tile.taps, Tile.xa, Tile.ra0, Tile.rx0, Tile.ra1, Tile.rx1, Tile.ra2, Tile.rx2, Tile.xa3, Tile.gx,
    Tile.dec, Tile.sq, Tile.prods, Tile.sums, Tile.s7, Tile.s14, Tile.s22, Tile.s29, Tile.g0, Tile.g1, Tile.g2, Tile.g3, Tile.g4, Tile.g5, Tile.g6,
    Tile.g7, Tile.g8, Tile.g9, Tile.g10, Tile.g11, Tile.g12, Tile.g13, Tile.g14, Tile.g15, Tile.g16, Tile.g17, Tile.g18, Tile.g19, Tile.g20,
    Tile.g21, Tile.g22, Tile.g23, Tile.g24, Tile.g25, Tile.g26, Tile.g27, Tile.g28, Tile.g29, Tile.g30, Tile.g31, raw]
  rw [outsAt0_A m c t h0]
  dsimp only
  unfold out0_A_10
  rw [View.read_writes_junk_eq_canon]
  exact View.canon_cons_unit_lit' (S := S256x1024) (off := ![0, 0]) inb_S256x1024_S256x1024_0_0 _ _ (by decide)

end Cert.RnnIdeal.Value
-- ==== Proof.RnnSpec.lean ====
module

public import proofs.«01_k».proof.Proof.Spec
public import Idealize.ShloMosaic.Lib.IdealHost

@[expose] public section

set_option maxRecDepth 16384

/-!
The recurrent branch's formulas over the extended reals, and what is used of them: the decay lies in `[0, ∞)`, so a
product with it distributes over a sum, and the steps of the recurrence can be taken in any grouping.
-/

noncomputable section

namespace Cert.Spec
open Idealize.ShloMosaic

/-- The branch's arguments, by coordinate: the rows and the norm's gain, the input projection, the convolution's taps and
    bias, the two gates' blocks and biases, the decay's parameter and the output projection. -/
structure RnnArgs where
  x : Fin 16384 → Fin 1024 → EReal
  g : Fin 1024 → EReal
  w : Fin 1024 → Fin 10312 → EReal
  cw : Fin 4 → Fin 1024 → EReal
  cb : Fin 1024 → EReal
  wa : Fin 16 → Fin 64 → Fin 64 → EReal
  ba : Fin 1024 → EReal
  wx : Fin 16 → Fin 64 → Fin 64 → EReal
  bx : Fin 1024 → EReal
  lam : Fin 1024 → EReal
  wo : Fin 1024 → Fin 1024 → EReal

namespace RnnArgs
variable (P : RnnArgs)

/-- The branch's input. -/
def rx (q : Fin 1024) (r : Fin 16384) : EReal := proj (P.x r) P.g fun k => P.w k ⟨q, by omega⟩

/-- The branch's output gate before its activation. -/
def rg (q : Fin 1024) (r : Fin 16384) : EReal := proj (P.x r) P.g fun k => P.w k ⟨1024 + q, by omega⟩

/-- The input after the causal convolution of four taps. -/
def xa (q : Fin 1024) (r : Fin 16384) : EReal :=
  lagged (P.rx q) 3 r * P.cw 0 q + lagged (P.rx q) 2 r * P.cw 1 q + lagged (P.rx q) 1 r * P.cw 2 q + lagged (P.rx q) 0 r * P.cw 3 q + P.cb q

/-- Channel `i` of the block of 64 channels that channel `q` lies in. -/
def nbr (q : Fin 1024) (i : Fin 64) : Fin 1024 := ⟨q.val / 64 * 64 + i.val, by omega⟩

/-- A block-diagonal gate. -/
def gate (w : Fin 16 → Fin 64 → Fin 64 → EReal) (b : Fin 1024 → EReal) (q : Fin 1024) (r : Fin 16384) : EReal :=
  Ideal.logistic ((∑ i : Fin 64, P.xa (nbr q i) r * w ⟨q.val / 64, by omega⟩ i ⟨q.val % 64, by omega⟩) + b q)

end RnnArgs

/-- The softplus of `-x`. -/
def soft (x : EReal) : EReal := max (-x) 0 + Ideal.log1p (Ideal.exp (-(max (-x) (-(-x)))))

/-- The logarithm of the decay, of the gate `r` and the parameter `s`. -/
def lg (r s : EReal) : EReal := Ideal.ofBits .f32 0xC1000000#32 * r * soft s

/-- What the input is multiplied by, of the decay's logarithm. -/
def inscale (l : EReal) : EReal := Ideal.sqrt (-(Ideal.exp (Ideal.ofBits .f32 0x40000000#32 * l) - 1))

/-- The smooth gate of the output, its argument times half of one plus the hyperbolic tangent of a cubic. -/
def gel (y : EReal) : EReal :=
  y * (Ideal.ofBits .f32 0x3F000000#32 * (1 + Ideal.tanh (Ideal.ofBits .f32 0x3F4C422A#32 * (y + Ideal.ofBits .f32 0x3D372713#32 * (y * y * y)))))

/-- The state after row `n`: sequences of 4096 rows, each from the zero state. -/
def hrec (a u : ℕ → EReal) : ℕ → EReal
  | 0 => a 0 * 0 + u 0
  | n + 1 => a (n + 1) * (if (n + 1) % 4096 = 0 then 0 else hrec a u n) + u (n + 1)

/-- A function of the rows at every natural number. -/
def up (f : Fin 16384 → EReal) (n : ℕ) : EReal := f ⟨n % 16384, Nat.mod_lt _ (by decide)⟩

namespace RnnArgs
variable (P : RnnArgs)

/-- The decay. -/
def dec (q : Fin 1024) (r : Fin 16384) : EReal := Ideal.exp (lg (P.gate P.wa P.ba q r) (P.lam q))

/-- The recurrence's input. -/
def inp (q : Fin 1024) (r : Fin 16384) : EReal :=
  inscale (lg (P.gate P.wa P.ba q r) (P.lam q)) * (P.gate P.wx P.bx q r * P.xa q r)

/-- The state after row `n`. -/
def hid (q : Fin 1024) (n : ℕ) : EReal := hrec (up (P.dec q)) (up (P.inp q)) n

/-- The branch's result. -/
def rnn (r : Fin 16384) (n : Fin 1024) : EReal := ∑ q : Fin 1024, P.hid q r.val * gel (P.rg q r) * P.wo q n

end RnnArgs

theorem up_val (f : Fin 16384 → EReal) (r : Fin 16384) : up f r.val = f r := by
  unfold up; congr 1; apply Fin.ext; exact Nat.mod_eq_of_lt r.isLt

/-- The state before row `n`. -/
def before (h : ℕ → EReal) (n : ℕ) : EReal := if n % 4096 = 0 then 0 else h (n - 1)

theorem hrec_eq (a u : ℕ → EReal) (n : ℕ) : hrec a u n = a n * before (hrec a u) n + u n := by
  cases n with
  | zero => rfl
  | succ n => rfl

theorem before_succ (h : ℕ → EReal) (n : ℕ) (hn : (n + 1) % 4096 ≠ 0) : before h (n + 1) = h n := by
  unfold before; rw [if_neg hn]; rfl

/-! The decay's logarithm is not positive, the decay not negative and finite. -/

theorem exp_nonneg (x : EReal) : 0 ≤ Ideal.exp x := by
  induction x with
  | bot => exact le_refl _
  | top => exact le_top
  | coe y => exact EReal.coe_nonneg.mpr (Real.exp_pos y).le

theorem logistic_nonneg (x : EReal) : 0 ≤ Ideal.logistic x := by
  induction x with
  | bot => rw [Ideal.logistic_bot]
  | top => rw [Ideal.logistic_top]; exact zero_le_one
  | coe y => rw [Ideal.logistic_coe]; exact EReal.coe_nonneg.mpr (by positivity)

theorem log1p_nonneg (x : EReal) (hx : 0 ≤ x) : 0 ≤ Ideal.log1p x := by
  unfold Ideal.log1p
  induction x with
  | bot => exact absurd hx (by simp)
  | top => rw [EReal.add_top_of_ne_bot (show (1 : EReal) ≠ ⊥ from EReal.coe_ne_bot 1)]; exact le_top
  | coe y =>
    have hy : 0 ≤ y := EReal.coe_nonneg.mp hx
    rw [← EReal.coe_one, ← EReal.coe_add]
    show 0 ≤ (if 1 + y ≤ 0 then (⊥ : EReal) else (Real.log (1 + y) : EReal))
    rw [if_neg (by linarith)]
    exact EReal.coe_nonneg.mpr (Real.log_nonneg (by linarith))

theorem soft_nonneg (x : EReal) : 0 ≤ soft x :=
  add_nonneg (le_max_right _ _) (log1p_nonneg _ (exp_nonneg _))

theorem ofBits_neg_eight : Ideal.ofBits .f32 0xC1000000#32 = ((-(8 : ℝ)) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul, -EReal.coe_neg]; norm_num

theorem lg_nonpos (r s : EReal) (hr : 0 ≤ r) : lg r s ≤ 0 := by
  unfold lg
  rw [ofBits_neg_eight, EReal.neg_mul, EReal.neg_mul, show (0 : EReal) = -0 from neg_zero.symm, EReal.neg_le_neg_iff]
  exact EReal.mul_nonneg (EReal.mul_nonneg (EReal.coe_nonneg.mpr (by norm_num)) hr) (soft_nonneg s)

theorem exp_ne_top (x : EReal) (hx : x ≤ 0) : Ideal.exp x ≠ ⊤ := by
  induction x with
  | bot => exact EReal.zero_ne_top
  | top => exact absurd hx (by simp)
  | coe y => exact EReal.coe_ne_top _

/-- `1 - e²ˡ` as the product `-tanh l · (e²ˡ + 1)`, and its square root as the product with the reciprocal of it. -/
theorem inscale_eq (l : EReal) (hl : l ≤ 0) :
    inscale l = if 0 < (0 - Ideal.tanh l) * (Ideal.exp l * Ideal.exp l + 1)
      then (0 - Ideal.tanh l) * (Ideal.exp l * Ideal.exp l + 1) * Ideal.rsqrt ((0 - Ideal.tanh l) * (Ideal.exp l * Ideal.exp l + 1)) else 0 := by
  unfold inscale
  rw [ofBits_two]
  induction l with
  | top => exact absurd hl (by simp)
  | bot =>
    have e : ((2 : ℝ) : EReal) * ⊥ = ⊥ := EReal.coe_mul_bot_of_pos (by norm_num)
    have t : (0 - Ideal.tanh ⊥) * (Ideal.exp ⊥ * Ideal.exp ⊥ + 1) = ((1 : ℝ) : EReal) := by
      rw [Ideal.tanh_bot, Ideal.exp_bot, mul_zero, zero_add, mul_one, zero_sub, neg_neg]; rfl
    rw [t, e, Ideal.exp_bot, zero_sub, neg_neg, if_pos (EReal.coe_pos.mpr one_pos)]
    show Ideal.sqrt ((1 : ℝ) : EReal) = _
    rw [Ideal.sqrt_coe, Ideal.rsqrt_coe, if_neg (by norm_num), if_neg (by norm_num), if_neg (by norm_num), ← EReal.coe_mul]
    simp
  | coe y =>
    have hy : y ≤ 0 := EReal.coe_nonpos.mp hl
    have t : (0 - Ideal.tanh (y : EReal)) * (Ideal.exp (y : EReal) * Ideal.exp (y : EReal) + 1) = ((1 - Real.exp (2 * y) : ℝ) : EReal) := by
      rw [Ideal.tanh_coe, Ideal.exp_coe, zero_sub, ← EReal.coe_neg, ← EReal.coe_one, ← EReal.coe_mul, ← EReal.coe_add, ← EReal.coe_mul]
      congr 1
      have h1 : Real.exp y * Real.exp (-y) = 1 := by rw [← Real.exp_add]; simp
      have h2 : Real.exp (2 * y) = Real.exp y * Real.exp y := by rw [← Real.exp_add]; congr 1; ring
      have h3 : Real.exp y + Real.exp (-y) ≠ 0 := by positivity
      rw [h2, Real.tanh_eq_sinh_div_cosh, Real.sinh_eq, Real.cosh_eq]
      field_simp
      nlinarith [h1, Real.exp_pos y, Real.exp_pos (-y)]
    have s : -(Ideal.exp (((2 : ℝ) : EReal) * (y : EReal)) - 1) = ((1 - Real.exp (2 * y) : ℝ) : EReal) := by
      rw [← EReal.coe_mul, Ideal.exp_coe, ← EReal.coe_one, ← EReal.coe_sub, ← EReal.coe_neg]
      congr 1; ring
    rw [t, s]
    have hw : 0 ≤ 1 - Real.exp (2 * y) := by
      have := Real.exp_le_one_iff.mpr (show 2 * y ≤ 0 by linarith); linarith
    generalize 1 - Real.exp (2 * y) = w at hw
    rw [Ideal.sqrt_coe, if_neg (not_lt.mpr hw)]
    by_cases h : 0 < w
    · rw [if_pos (EReal.coe_pos.mpr h), Ideal.rsqrt_coe, if_neg (not_lt.mpr hw), if_neg h.ne', ← EReal.coe_mul]
      congr 1
      have := Real.mul_self_sqrt hw
      have : Real.sqrt w ≠ 0 := (Real.sqrt_pos.mpr h).ne'
      field_simp
      nlinarith [Real.mul_self_sqrt hw]
    · rw [if_neg (fun c => h (EReal.coe_pos.mp c))]
      have : w = 0 := le_antisymm (not_lt.mp h) hw
      rw [this, Real.sqrt_zero]; rfl

/-! The recurrence in groups: `run a b s k c` takes the `k` steps from `s` on from the state `c`. -/

def run (a b : ℕ → EReal) (s : ℕ) : ℕ → EReal → EReal
  | 0, c => c
  | k + 1, c => a (s + k) * run a b s k c + b (s + k)

theorem run_add (a b : ℕ → EReal) (s k l : ℕ) (c : EReal) : run a b s (k + l) c = run a b (s + k) l (run a b s k c) := by
  induction l with
  | zero => rfl
  | succ l ih => show a (s + (k + l)) * run a b s (k + l) c + b (s + (k + l)) = _; rw [ih, ← Nat.add_assoc]; rfl

theorem mul_affine (x y z c : EReal) (hx : 0 ≤ x) (ht : x ≠ ⊤) : x * y + x * z * c = x * (y + z * c) := by
  rw [EReal.left_distrib_of_nonneg_of_ne_top hx ht, mul_assoc]

/-- `A p` and `B p` are the product and the sum of the `d` steps ending with step `p`, fewer where step 0 is nearer. -/
structure Level (a b A B : ℕ → EReal) (d : ℕ) : Prop where
  nonneg : ∀ p, 0 ≤ A p
  finite : ∀ p, A p ≠ ⊤
  eq : ∀ p c, B p + A p * c = run a b (p + 1 - min d (p + 1)) (min d (p + 1)) c

theorem mul_ne_top (x y : EReal) (hx : 0 ≤ x) (hx' : x ≠ ⊤) (hy : 0 ≤ y) (hy' : y ≠ ⊤) : x * y ≠ ⊤ := by
  lift x to ℝ using ⟨hx', fun h => by rw [h] at hx; exact absurd hx (by simp)⟩
  lift y to ℝ using ⟨hy', fun h => by rw [h] at hy; exact absurd hy (by simp)⟩
  rw [← EReal.coe_mul]; exact EReal.coe_ne_top _

theorem Level.one (a b : ℕ → EReal) (h : ∀ p, 0 ≤ a p) (h' : ∀ p, a p ≠ ⊤) : Level a b a b 1 := by
  refine ⟨h, h', fun p c => ?_⟩
  rw [Nat.min_eq_left (by omega), Nat.add_sub_cancel]
  show _ = a (p + 0) * c + b (p + 0)
  rw [Nat.add_zero, add_comm]

/-- One doubling step. -/
theorem Level.double {a b A B : ℕ → EReal} {d : ℕ} (h : Level a b A B d) :
    Level a b (fun p => A p * (if d ≤ p then A (p - d) else 1)) (fun p => A p * (if d ≤ p then B (p - d) else 0) + B p) (2 * d) := by
  refine ⟨fun p => EReal.mul_nonneg (h.nonneg p) ?_, fun p => mul_ne_top _ _ (h.nonneg p) (h.finite p) ?_ ?_, fun p c => ?_⟩
  · by_cases e : d ≤ p
    · rw [if_pos e]; exact h.nonneg _
    · rw [if_neg e]; exact zero_le_one
  · by_cases e : d ≤ p
    · rw [if_pos e]; exact h.nonneg _
    · rw [if_neg e]; exact zero_le_one
  · by_cases e : d ≤ p
    · rw [if_pos e]; exact h.finite _
    · rw [if_neg e]; exact EReal.coe_ne_top 1
  · by_cases e : d ≤ p
    · rw [if_pos e, if_pos e, add_right_comm, mul_affine _ _ _ _ (h.nonneg p) (h.finite p), h.eq (p - d), add_comm, h.eq p,
        show min (2 * d) (p + 1) = min d (p - d + 1) + d by omega, run_add, Nat.min_eq_left (show d ≤ p + 1 by omega)]
      congr 1
      · omega
      · congr 1; omega
    · rw [if_neg e, if_neg e, mul_one, mul_zero, zero_add, h.eq p, Nat.min_eq_right (by omega), Nat.min_eq_right (by omega)]

/-- The recurrence's steps of a group of rows that lies in one sequence. -/
theorem run_hrec (a u : ℕ → EReal) (n : ℕ) (p : ℕ) (hn : n % 8 = 0) (hp : p < 8) :
    run (fun k => a (n + k)) (fun k => u (n + k)) 0 (p + 1) (before (hrec a u) n) = hrec a u (n + p) := by
  induction p with
  | zero => rw [hrec_eq]; rfl
  | succ p ih =>
    rw [hrec_eq, show n + (p + 1) = n + p + 1 by omega, before_succ _ _ (by omega), ← ih (by omega)]
    show a (n + (0 + (p + 1))) * _ + u (n + (0 + (p + 1))) = _
    rw [show n + (0 + (p + 1)) = n + p + 1 by omega]

/-- A sum over four blocks of 64 whose terms carry a factor that is zero outside block `b`. -/
theorem block_sum (f w : Fin 256 → EReal) (b : Fin 4) :
    (∑ k : Fin 256, f k * (w k * if k.val / 64 = b.val then 1 else 0)) = ∑ i : Fin 64, f ⟨b.val * 64 + i.val, by omega⟩ * w ⟨b.val * 64 + i.val, by omega⟩ := by
  refine (Finset.sum_of_injOn (fun i : Fin 64 => (⟨b.val * 64 + i.val, by omega⟩ : Fin 256)) ?_ (fun _ _ => Finset.mem_univ _) ?_ ?_).symm
  · intro i _ j _ h
    have := congrArg Fin.val h
    dsimp only at this
    exact Fin.ext (by omega)
  · intro k _ hk
    rw [if_neg, mul_zero, mul_zero]
    intro e
    exact hk ⟨⟨k.val % 64, by omega⟩, Finset.mem_coe.mpr (Finset.mem_univ _), Fin.ext (by dsimp only; omega)⟩
  · intro i _
    rw [if_pos (by dsimp only; omega), mul_one]

/-- A block of four blocks of a gate, from the products with a matrix that is zero off its diagonal blocks. -/
theorem RnnArgs.block_gate (P : RnnArgs) (w : Fin 16 → Fin 64 → Fin 64 → EReal) (g : Fin 4) (q : Fin 1024) (hq : q.val / 256 = g.val) (r : Fin 16384)
    (z b : Fin 256 → EReal) (hz : ∀ k : Fin 256, z k = P.xa ⟨g.val * 256 + k.val, by omega⟩ r)
    (hb : ∀ k : Fin 256, b k = w ⟨g.val * 4 + k.val / 64, by omega⟩ ⟨k.val % 64, by omega⟩ ⟨q.val % 64, by omega⟩ * if k.val / 64 = q.val % 256 / 64 then 1 else 0) :
    (∑ k : Fin 256, z k * b k) = ∑ i : Fin 64, P.xa (nbr q i) r * w ⟨q.val / 64, by omega⟩ i ⟨q.val % 64, by omega⟩ := by
  simp only [hz, hb]
  refine (block_sum (fun k => P.xa ⟨g.val * 256 + k.val, by omega⟩ r) (fun k => w ⟨g.val * 4 + k.val / 64, by omega⟩ ⟨k.val % 64, by omega⟩ ⟨q.val % 64, by omega⟩)
    ⟨q.val % 256 / 64, by omega⟩).trans (Finset.sum_congr rfl fun i _ => ?_)
  refine congrArg₂ (· * ·) (congrArg (P.xa · r) (Fin.ext ?_)) (congrFun (congrArg₂ w (Fin.ext ?_) (Fin.ext ?_)) _)
  · show g.val * 256 + (q.val % 256 / 64 * 64 + i.val) = q.val / 64 * 64 + i.val; omega
  · show g.val * 4 + (q.val % 256 / 64 * 64 + i.val) / 64 = q.val / 64; omega
  · show (q.val % 256 / 64 * 64 + i.val) % 64 = i.val; omega

end Cert.Spec
-- ==== Proof.RnnPoint.lean ====
module

public import proofs.«01_k».proof.Proof.RnnTile
public import proofs.«01_k».proof.Proof.RnnSpec

@[expose] public section

set_option maxRecDepth 16384

/-!
The entries of what a grid point of the recurrent branch's kernel computes, when the blocks it reads hold the branch's
arguments and the two scratches what the points before have left.
-/

noncomputable section

namespace Cert.RnnIdeal.Value
open Cert.RnnIdeal Cert.RnnIdeal.Gen Idealize.ShloMosaic Idealize.ShloMosaic.TcCoe Idealize.SL.Sem
open Cert.Spec

theorem t_lt (t : Fin cfg0.N) : t.val < 64 := lt_of_lt_of_eq t.isLt (show cfg0.N = 64 from N_0)

/-- Row `a` of the block of rows of point `t`, in the array. -/
def rowOf (t : Fin cfg0.N) (a : Fin 256) : Fin 16384 := ⟨t.val * 256 + a, by have := t_lt t; omega⟩

/-- Row `j` of the eight rows before point `t`'s. -/
def rowBefore (t : Fin cfg0.N) (j : Fin 8) : Fin 16384 := ⟨t.val * 256 - 8 + j, by have := t_lt t; omega⟩

/-- An entry of a gate's block of 256 channels: block `g`'s four diagonal blocks of `w`, zero elsewhere. -/
def diag (w : Fin 16 → Fin 64 → Fin 64 → EReal) (g : Fin 4) (k n : Fin 256) : EReal :=
  w ⟨g.val * 4 + k.val / 64, by omega⟩ ⟨k.val % 64, by omega⟩ ⟨n.val % 64, by omega⟩ * if k.val / 64 = n.val / 64 then 1 else 0

namespace Tile
variable (T : Tile)

/-- The gates' four blocks. -/
def b : Fin 4 → FVec Ideal S1x1x256x512 .bf16 := ![T.b0, T.b1, T.b2, T.b3]

/-- The tile `T` reads the arguments `P` at point `t`, after the points before it. -/
structure Reads (P : RnnArgs) (t : Fin cfg0.N) : Prop where
  x : ∀ (a : Fin 256) (k : Fin 1024), T.x (ix2 a k) = P.x (rowOf t a) k
  g : ∀ k : Fin 1024, T.g (ix3 0 0 k) = P.g k
  w : ∀ (k : Fin 1024) (n : Fin 2048), T.w (ix3 0 k n) = P.w k ⟨n.val, by omega⟩
  v : ∀ (j : Fin 8) (q : Fin 1024), T.v (ix2 j q) = if t.val * 256 % 4096 = 0 then 0 else P.rx q (rowBefore t j)
  k0 : ∀ q : Fin 1024, T.k0 (ix3 0 0 q) = P.cw 0 q
  k1 : ∀ q : Fin 1024, T.k1 (ix3 0 0 q) = P.cw 1 q
  k2 : ∀ q : Fin 1024, T.k2 (ix3 0 0 q) = P.cw 2 q
  k3 : ∀ q : Fin 1024, T.k3 (ix3 0 0 q) = P.cw 3 q
  cb : ∀ q : Fin 1024, T.cb (ix3 0 0 q) = P.cb q
  ga : ∀ (g : Fin 4) (k n : Fin 256), T.b g (ix4 0 0 k ⟨n.val, by omega⟩) = diag P.wa g k n
  gx : ∀ (g : Fin 4) (k n : Fin 256), T.b g (ix4 0 0 k ⟨256 + n.val, by omega⟩) = diag P.wx g k n
  ba : ∀ q : Fin 1024, T.ba (ix3 0 0 q) = P.ba q
  bx : ∀ q : Fin 1024, T.bx (ix3 0 0 q) = P.bx q
  lam : ∀ q : Fin 1024, T.lam (ix3 0 0 q) = P.lam q
  h : ∀ q : Fin 1024, T.h (ix2 0 q) = before (P.hid q) (t.val * 256)
  wo : ∀ q n : Fin 1024, T.wo (ix3 0 q n) = P.wo q n

theorem concat_at (f : Fin 4 → FVec Ideal S256x256 .f32) (a : Fin 256) (q : Fin 1024) :
    concatenate S256x1024 1 [⟨S256x256, f 0⟩, ⟨S256x256, f 1⟩, ⟨S256x256, f 2⟩, ⟨S256x256, f 3⟩] concatenates_S256x256_S256x256_S256x256_S256x256_S256x1024_d1 (ix2 a q)
      = f ⟨q.val / 256, by omega⟩ (ix2 a ⟨q.val % 256, by omega⟩) :=
  concatenate_ofFn_apply (t := S256x1024) (s₁ := S256x256) 1 f _ rfl 256 rfl (ix2 a q) ⟨q.val / 256, by omega⟩ rfl (ix2 a ⟨q.val % 256, by omega⟩) rfl
    (fun b hb => by
      match b with
      | ⟨0, _⟩ => rfl
      | ⟨1, _⟩ => exact absurd rfl hb)

/-- The two gates before their biases and activation, by block of 256 channels. -/
def ra : Fin 4 → FVec Ideal S256x256 .f32 :=
  ![T.ra0, T.ra1, T.ra2, extractStridedSlice S256x256 ![0, 0] (k0_pay26 T.xa3 T.b3) slices_S256x512_o0_0_S256x256]
def ri : Fin 4 → FVec Ideal S256x256 .f32 :=
  ![T.rx0, T.rx1, T.rx2, extractStridedSlice S256x256 ![0, 256] (k0_pay26 T.xa3 T.b3) slices_S256x512_o0_256_S256x256]

theorem ra_eq (g : Fin 4) (a n : Fin 256) :
    T.ra g (ix2 a n) = ∑ k : Fin 256, (T.xa (ix2 a ⟨g.val * 256 + k.val, by omega⟩) : EReal) * T.b g (ix4 0 0 k ⟨n.val, by omega⟩) := by
  match g with
  | 0 => show T.ra0 (ix2 a n) = _; pointwise [Tile.ra0, k0_pay17, k0_pay16, k0_pay15]; rfl
  | 1 => show T.ra1 (ix2 a n) = _; pointwise [Tile.ra1, k0_pay20, k0_pay19, k0_pay15]; rfl
  | 2 => show T.ra2 (ix2 a n) = _; pointwise [Tile.ra2, k0_pay23, k0_pay22, k0_pay15]; rfl
  | 3 =>
    show extractStridedSlice S256x256 ![0, 0] (k0_pay26 T.xa3 T.b3) slices_S256x512_o0_0_S256x256 (ix2 a n) = _
    pointwise [Tile.xa3, k0_pay26, k0_pay25, k0_pay15]; rfl

theorem ri_eq (g : Fin 4) (a n : Fin 256) :
    T.ri g (ix2 a n) = ∑ k : Fin 256, (T.xa (ix2 a ⟨g.val * 256 + k.val, by omega⟩) : EReal) * T.b g (ix4 0 0 k ⟨256 + n.val, by omega⟩) := by
  match g with
  | 0 => show T.rx0 (ix2 a n) = _; pointwise [Tile.rx0, k0_pay18, k0_pay16, k0_pay15]; rfl
  | 1 => show T.rx1 (ix2 a n) = _; pointwise [Tile.rx1, k0_pay21, k0_pay19, k0_pay15]; rfl
  | 2 => show T.rx2 (ix2 a n) = _; pointwise [Tile.rx2, k0_pay24, k0_pay22, k0_pay15]; rfl
  | 3 =>
    show extractStridedSlice S256x256 ![0, 256] (k0_pay26 T.xa3 T.b3) slices_S256x512_o0_256_S256x256 (ix2 a n) = _
    pointwise [Tile.xa3, k0_pay26, k0_pay25, k0_pay15]; rfl

/-- The input's gate and the decay's logarithm, over the gates' products. -/
theorem gx_eq (a : Fin 256) (q : Fin 1024) :
    T.gx (ix2 a q) = Ideal.logistic ((T.ri ⟨q.val / 256, by omega⟩ (ix2 a ⟨q.val % 256, by omega⟩) : EReal) + T.bx (ix3 0 0 q)) := by
  rw [← concat_at T.ri a q]
  show Ideal.logistic (_ + _) = Ideal.logistic (_ + _)
  refine congrArg Ideal.logistic (congrArg₂ (· + ·) rfl ?_)
  pointwise []

theorem log_eq (a : Fin 256) (q : Fin 1024) :
    T.log (ix2 a q) = Ideal.ofBits .f32 0xC1000000#32 * Ideal.logistic ((T.ra ⟨q.val / 256, by omega⟩ (ix2 a ⟨q.val % 256, by omega⟩) : EReal) + T.ba (ix3 0 0 q)) * soft (T.lam (ix3 0 0 q)) := by
  rw [← concat_at T.ra a q]
  show (_ * Ideal.logistic (_ + _)) * _ = (_ * Ideal.logistic (_ + _)) * _
  refine congrArg₂ (· * ·) (congrArg (_ * ·) (congrArg Ideal.logistic (congrArg₂ (· + ·) rfl ?_))) ?_
  · pointwise []
  · pointwise [soft]
    simp only [zero_sub]
    rfl

/-- The recurrence's input. -/
def u : FVec Ideal S256x1024 .f32 :=
  mulf (select (cmpf .ogt T.sq (broadcast S256x1024 (Scalar.ofBits .f32 0x00000000#32))) (mulf T.sq (rsqrt T.sq)) (broadcast S256x1024 (Scalar.ofBits .f32 0x00000000#32)))
    (mulf T.gx T.xa)

/-- The rows of a point in groups of eight. -/
def fold (z : FVec Ideal S256x1024 .f32) : FVec Ideal S32x8x1024 .f32 := shapeCast S32x8x1024 z shapeCasts_S256x1024_S32x8x1024

/-- A doubling step of the products and of the sums, `k` the rows it reaches. -/
def stepA (k : IVec S32x8x1024 1) (l : BitVec 32) (A : FVec Ideal S32x8x1024 .f32) : FVec Ideal S32x8x1024 .f32 :=
  mulf A (select k (dynamicRotate 1 l none A rotates_S32x8x1024_d1) (broadcast S32x8x1024 (Scalar.ofBits .f32 0x3F800000#32)))
def stepB (k : IVec S32x8x1024 1) (l : BitVec 32) (A B : FVec Ideal S32x8x1024 .f32) : FVec Ideal S32x8x1024 .f32 :=
  addf (mulf A (select k (dynamicRotate 1 l none B rotates_S32x8x1024_d1) (broadcast S32x8x1024 (Scalar.ofBits .f32 0x00000000#32)))) B

def prod2 : FVec Ideal S32x8x1024 .f32 := stepA k0_pay32 1#32 (fold T.dec)
def prod4 : FVec Ideal S32x8x1024 .f32 := stepA k0_pay34 2#32 T.prod2
def sum2 : FVec Ideal S32x8x1024 .f32 := stepB k0_pay32 1#32 (fold T.dec) (fold T.u)
def sum4 : FVec Ideal S32x8x1024 .f32 := stepB k0_pay34 2#32 T.prod2 T.sum2

theorem prods_eq : T.prods = stepA k0_pay36 4#32 T.prod4 := rfl
theorem sums_eq : T.sums = stepB k0_pay36 4#32 T.prod4 T.sum4 := rfl

theorem fold_at (z : FVec Ideal S256x1024 .f32) (n : Fin 32) (p : Fin 8) (q : Fin 1024) : fold z (ix3 n p q) = z (ix2 ⟨n.val * 8 + p.val, by omega⟩ q) := by
  pointwise [fold]

section Steps
variable {A B : FVec Ideal S32x8x1024 .f32} {n : Fin 32} {q : Fin 1024} {A' B' : ℕ → EReal}
  (hA : ∀ p : Fin 8, A (ix3 n p q) = A' p.val) (hB : ∀ p : Fin 8, B (ix3 n p q) = B' p.val)
include hA hB

omit hB in
theorem stepA1 (p : Fin 8) : stepA k0_pay32 1#32 A (ix3 n p q) = A' p.val * (if 1 ≤ p.val then A' (p.val - 1) else 1) := by
  pointwise [stepA, k0_pay32]
  rw [select_sge _ 1 p.isLt (by omega)]
  refine congrArg₂ (· * ·) (hA p) ?_
  by_cases h : 1 ≤ p.val
  · rw [if_pos h, if_pos h]
    exact (congrArg (fun i => A (ix3 n i q)) (Fin.ext (by show (p.val + 8 - 1) % 8 = p.val - 1; omega))).trans (hA ⟨p.val - 1, by omega⟩)
  · rw [if_neg h, if_neg h]

theorem stepB1 (p : Fin 8) : stepB k0_pay32 1#32 A B (ix3 n p q) = A' p.val * (if 1 ≤ p.val then B' (p.val - 1) else 0) + B' p.val := by
  pointwise [stepB, k0_pay32]
  rw [select_sge _ 1 p.isLt (by omega)]
  refine congrArg₂ (· + ·) ?_ (hB p)
  by_cases h : 1 ≤ p.val
  · rw [if_pos h, if_pos h]
    refine congrArg₂ (· * ·) (hA p) ?_
    exact (congrArg (fun i => B (ix3 n i q)) (Fin.ext (by show (p.val + 8 - 1) % 8 = p.val - 1; omega))).trans (hB ⟨p.val - 1, by omega⟩)
  · rw [if_neg h, if_neg h, mul_zero]

omit hB in
theorem stepA2 (p : Fin 8) : stepA k0_pay34 2#32 A (ix3 n p q) = A' p.val * (if 2 ≤ p.val then A' (p.val - 2) else 1) := by
  pointwise [stepA, k0_pay34]
  rw [select_sge _ 2 p.isLt (by omega)]
  refine congrArg₂ (· * ·) (hA p) ?_
  by_cases h : 2 ≤ p.val
  · rw [if_pos h, if_pos h]
    exact (congrArg (fun i => A (ix3 n i q)) (Fin.ext (by show (p.val + 8 - 2) % 8 = p.val - 2; omega))).trans (hA ⟨p.val - 2, by omega⟩)
  · rw [if_neg h, if_neg h]

theorem stepB2 (p : Fin 8) : stepB k0_pay34 2#32 A B (ix3 n p q) = A' p.val * (if 2 ≤ p.val then B' (p.val - 2) else 0) + B' p.val := by
  pointwise [stepB, k0_pay34]
  rw [select_sge _ 2 p.isLt (by omega)]
  refine congrArg₂ (· + ·) ?_ (hB p)
  by_cases h : 2 ≤ p.val
  · rw [if_pos h, if_pos h]
    refine congrArg₂ (· * ·) (hA p) ?_
    exact (congrArg (fun i => B (ix3 n i q)) (Fin.ext (by show (p.val + 8 - 2) % 8 = p.val - 2; omega))).trans (hB ⟨p.val - 2, by omega⟩)
  · rw [if_neg h, if_neg h, mul_zero]

omit hB in
theorem stepA4 (p : Fin 8) : stepA k0_pay36 4#32 A (ix3 n p q) = A' p.val * (if 4 ≤ p.val then A' (p.val - 4) else 1) := by
  pointwise [stepA, k0_pay36]
  rw [select_sge _ 4 p.isLt (by omega)]
  refine congrArg₂ (· * ·) (hA p) ?_
  by_cases h : 4 ≤ p.val
  · rw [if_pos h, if_pos h]
    exact (congrArg (fun i => A (ix3 n i q)) (Fin.ext (by show (p.val + 8 - 4) % 8 = p.val - 4; omega))).trans (hA ⟨p.val - 4, by omega⟩)
  · rw [if_neg h, if_neg h]

theorem stepB4 (p : Fin 8) : stepB k0_pay36 4#32 A B (ix3 n p q) = A' p.val * (if 4 ≤ p.val then B' (p.val - 4) else 0) + B' p.val := by
  pointwise [stepB, k0_pay36]
  rw [select_sge _ 4 p.isLt (by omega)]
  refine congrArg₂ (· + ·) ?_ (hB p)
  by_cases h : 4 ≤ p.val
  · rw [if_pos h, if_pos h]
    refine congrArg₂ (· * ·) (hA p) ?_
    exact (congrArg (fun i => B (ix3 n i q)) (Fin.ext (by show (p.val + 8 - 4) % 8 = p.val - 4; omega))).trans (hB ⟨p.val - 4, by omega⟩)
  · rw [if_neg h, if_neg h, mul_zero]

end Steps

variable {T} {P : RnnArgs} {t : Fin cfg0.N} (H : T.Reads P t)
include H

theorem rx_at (a : Fin 256) (q : Fin 1024) : T.rx (ix2 a q) = P.rx q (rowOf t a) := by
  pointwise [Tile.rx, k0_pay5, k0_pay4, RnnArgs.rx, proj, rn]
  simp only [H.x, H.g, H.w]

theorem rg_at (a : Fin 256) (q : Fin 1024) : T.rg (ix2 a q) = P.rg q (rowOf t a) := by
  pointwise [Tile.rg, k0_pay6, k0_pay4, RnnArgs.rg, proj, rn]
  simp only [H.x, H.g, H.w]

/-- The rotated and selected rows are the rows `l` earlier in the sequence. -/
theorem lag_at (a : Fin 256) (q : Fin 1024) (l : ℕ) (h1 : 1 ≤ l) (h3 : l < 4) :
    Scalar.select (IntOp.cmpi CmpIPredicate.sge (BitVec.ofNat 32 (a.val % 8)) (BitVec.ofNat 32 l))
        (T.rx (ix2 ⟨a.val / 8 * 8 + (a.val % 8 + 8 - l) % 8, by omega⟩ q))
        (if h : a.val / 8 < 1 then T.v (ix2 ⟨(a.val % 8 + 8 - l) % 8, by omega⟩ q)
          else T.rx (ix2 ⟨(a.val / 8 - 1) * 8 + (a.val % 8 + 8 - l) % 8, by omega⟩ q))
      = lagged (P.rx q) l (rowOf t a) := by
  have hN := t_lt t
  exact lag_tile _ (t.val * 256) l _ _ (by omega) (by omega) (by omega) _
      (by show t.val * 256 + a.val = _; omega) (by omega) _ _ _
      (fun h => by rw [rx_at H]; congr 1; apply Fin.ext; simp only [rowOf]; omega)
      (fun h h' => by
        rw [H.v]
        by_cases e : t.val * 256 % 4096 = 0
        · rw [if_pos e, if_pos e]
        · rw [if_neg e, if_neg e]; congr 1; apply Fin.ext; simp only [rowOf, rowBefore]; omega)
      (fun h h' => by rw [rx_at H]; congr 1; apply Fin.ext; simp only [rowOf]; omega)

theorem conv_term (z0 z1 z2 z3 : EReal) (a : Fin 256) (q : Fin 1024)
    (h0 : z0 = lagged (P.rx q) 0 (rowOf t a)) (h1 : z1 = lagged (P.rx q) 1 (rowOf t a))
    (h2 : z2 = lagged (P.rx q) 2 (rowOf t a)) (h3 : z3 = lagged (P.rx q) 3 (rowOf t a)) :
    T.cb (ix3 0 0 q) + (z0 * T.k3 (ix3 0 0 q) + z1 * T.k2 (ix3 0 0 q) + z2 * T.k1 (ix3 0 0 q) + z3 * T.k0 (ix3 0 0 q)) = P.xa q (rowOf t a) := by
  rw [H.cb, H.k0, H.k1, H.k2, H.k3, h0, h1, h2, h3]
  show (_ : EReal) + (_ + _ + _ + _) = _ + _ + _ + _ + _
  ac_rfl

theorem xa_at (a : Fin 256) (q : Fin 1024) : T.xa (ix2 a q) = P.xa q (rowOf t a) := by
  pointwise [Tile.xa, k0_pay13, k0_pay7, Tile.taps, k0_pay9, k0_pay8, k0_pay10, k0_pay11, k0_pay12]
  exact conv_term H _ _ _ _ a q (rx_at H a q) (lag_at H a q 1 (by omega) (by omega)) (lag_at H a q 2 (by omega) (by omega)) (lag_at H a q 3 (by omega) (by omega))

theorem gx_at (a : Fin 256) (q : Fin 1024) : T.gx (ix2 a q) = P.gate P.wx P.bx q (rowOf t a) := by
  rw [gx_eq, ri_eq, H.bx]
  refine congrArg Ideal.logistic (congrArg (· + _) ?_)
  exact P.block_gate P.wx ⟨q.val / 256, by omega⟩ q rfl (rowOf t a) _ _ (fun k => xa_at H a _) (fun k => (H.gx _ k _).trans (by
    unfold diag
    refine congrArg₂ (· * ·) (congrArg _ (Fin.ext ?_)) rfl
    show q.val % 256 % 64 = q.val % 64; omega))

theorem log_at (a : Fin 256) (q : Fin 1024) : T.log (ix2 a q) = lg (P.gate P.wa P.ba q (rowOf t a)) (P.lam q) := by
  rw [log_eq, ra_eq, H.ba, H.lam]
  refine congrArg (· * _) (congrArg (_ * ·) (congrArg Ideal.logistic (congrArg (· + _) ?_)))
  exact P.block_gate P.wa ⟨q.val / 256, by omega⟩ q rfl (rowOf t a) _ _ (fun k => xa_at H a _) (fun k => (H.ga _ k _).trans (by
    unfold diag
    refine congrArg₂ (· * ·) (congrArg _ (Fin.ext ?_)) rfl
    show q.val % 256 % 64 = q.val % 64; omega))

theorem dec_at (a : Fin 256) (q : Fin 1024) : T.dec (ix2 a q) = P.dec q (rowOf t a) := by
  show Ideal.exp (T.log (ix2 a q)) = _
  rw [log_at H]; rfl

theorem sq_at (a : Fin 256) (q : Fin 1024) : T.sq (ix2 a q)
    = (0 - Ideal.tanh (lg (P.gate P.wa P.ba q (rowOf t a)) (P.lam q)))
      * (Ideal.exp (lg (P.gate P.wa P.ba q (rowOf t a)) (P.lam q)) * Ideal.exp (lg (P.gate P.wa P.ba q (rowOf t a)) (P.lam q)) + 1) := by
  pointwise [Tile.sq, k0_pay30, k0_pay29]
  rw [show k0_pay28 (F := Ideal) T.ra0 T.ra1 T.ra2 T.xa3 T.b3 T.ba T.lam (ix2 a q) = _ from log_at H a q]

theorem u_at (a : Fin 256) (q : Fin 1024) : T.u (ix2 a q) = P.inp q (rowOf t a) := by
  have hl := lg_nonpos (P.gate P.wa P.ba q (rowOf t a)) (P.lam q) (logistic_nonneg _)
  unfold RnnArgs.inp
  rw [inscale_eq _ hl, ← sq_at H]
  pointwise [Tile.u]
  rw [gx_at H, xa_at H]

/-- The decay and the recurrence's input in group `n`, step by step. -/
abbrev al (P : RnnArgs) (t : Fin cfg0.N) (n : ℕ) (q : Fin 1024) (k : ℕ) : EReal := up (P.dec q) (t.val * 256 + n * 8 + k)
abbrev ups (P : RnnArgs) (t : Fin cfg0.N) (n : ℕ) (q : Fin 1024) (k : ℕ) : EReal := up (P.inp q) (t.val * 256 + n * 8 + k)

theorem dec_fold (n : Fin 32) (q : Fin 1024) (p : Fin 8) : fold T.dec (ix3 n p q) = al P t n.val q p.val := by
  rw [fold_at, dec_at H, ← up_val (P.dec q)]
  exact congrArg (up _) (by show t.val * 256 + (n.val * 8 + p.val) = t.val * 256 + n.val * 8 + p.val; omega)

theorem u_fold (n : Fin 32) (q : Fin 1024) (p : Fin 8) : fold T.u (ix3 n p q) = ups P t n.val q p.val := by
  rw [fold_at, u_at H, ← up_val (P.inp q)]
  exact congrArg (up _) (by show t.val * 256 + (n.val * 8 + p.val) = t.val * 256 + n.val * 8 + p.val; omega)

omit H in
theorem dec_nonneg (q : Fin 1024) (r : Fin 16384) : 0 ≤ P.dec q r := exp_nonneg _

omit H in
theorem dec_ne_top (q : Fin 1024) (r : Fin 16384) : P.dec q r ≠ ⊤ := exp_ne_top _ (lg_nonpos _ _ (logistic_nonneg _))

/-- A doubling step of the products and of the sums, as functions of the step. -/
abbrev two (d : ℕ) (A : ℕ → EReal) (p : ℕ) : EReal := A p * (if d ≤ p then A (p - d) else 1)
abbrev two' (d : ℕ) (A B : ℕ → EReal) (p : ℕ) : EReal := A p * (if d ≤ p then B (p - d) else 0) + B p

/-- The group's products and sums take the steps of the recurrence from the group's first row. -/
theorem sums_prods (n : Fin 32) (q : Fin 1024) (p : Fin 8) (c : EReal) :
    (T.sums (ix3 n p q) : EReal) + T.prods (ix3 n p q) * c = Spec.run (al P t n.val q) (ups P t n.val q) 0 (p.val + 1) c := by
  have l1 := Level.one (al P t n.val q) (ups P t n.val q) (fun k => dec_nonneg _ _) (fun k => dec_ne_top _ _)
  have l8 := l1.double.double.double
  rw [prods_eq, sums_eq]
  have hA1 := dec_fold H n q
  have hB1 := u_fold H n q
  have hA2 : ∀ p : Fin 8, T.prod2 (ix3 n p q) = two 1 (al P t n.val q) p.val := stepA1 hA1
  have hB2 : ∀ p : Fin 8, T.sum2 (ix3 n p q) = two' 1 (al P t n.val q) (ups P t n.val q) p.val := stepB1 hA1 hB1
  have hA4 : ∀ p : Fin 8, T.prod4 (ix3 n p q) = two 2 (two 1 (al P t n.val q)) p.val := stepA2 (A' := two 1 (al P t n.val q)) hA2
  have hB4 : ∀ p : Fin 8, T.sum4 (ix3 n p q) = two' 2 (two 1 (al P t n.val q)) (two' 1 (al P t n.val q) (ups P t n.val q)) p.val :=
    stepB2 (A' := two 1 (al P t n.val q)) (B' := two' 1 (al P t n.val q) (ups P t n.val q)) hA2 hB2
  refine (congrArg₂ (fun a b : EReal => a + b * c) (stepB4 (A' := two 2 (two 1 (al P t n.val q)))
    (B' := two' 2 (two 1 (al P t n.val q)) (two' 1 (al P t n.val q) (ups P t n.val q))) hA4 hB4 p) (stepA4 (A' := two 2 (two 1 (al P t n.val q))) hA4 p)).trans ?_
  refine (l8.eq p.val c).trans ?_
  have hp := p.isLt
  rw [show min (2 * (2 * (2 * 1))) (p.val + 1) = p.val + 1 by omega, Nat.sub_self]

omit H in
theorem grp_at (B A : FVec Ideal S32x8x1024 .f32) (n : ℕ) (s : FVec Ideal S1x1024 .f32) (p : Fin 8) (q : Fin 1024) :
    grp B A n s (ix2 p q) = B (ix3 ⟨n % 32, Nat.mod_lt _ (by decide)⟩ p q) + A (ix3 ⟨n % 32, Nat.mod_lt _ (by decide)⟩ p q) * s (ix2 0 q) := by
  pointwise [grp]

omit H in
theorem lastRow_at (z : FVec Ideal S8x1024 .f32) (q : Fin 1024) : lastRow z (ix2 0 q) = z (ix2 7 q) := by
  pointwise [lastRow]

theorem grp_hid (n : ℕ) (hn : n < 32) (s : FVec Ideal S1x1024 .f32) (q : Fin 1024) (hs : s (ix2 0 q) = before (P.hid q) (t.val * 256 + n * 8)) (p : Fin 8) :
    grp T.sums T.prods n s (ix2 p q) = P.hid q (t.val * 256 + n * 8 + p.val) := by
  rw [grp_at, hs]
  refine (sums_prods H ⟨n % 32, _⟩ q p _).trans ?_
  rw [show (⟨n % 32, Nat.mod_lt _ (by decide)⟩ : Fin 32).val = n from Nat.mod_eq_of_lt hn]
  exact run_hrec (up (P.dec q)) (up (P.inp q)) (t.val * 256 + n * 8) p.val (by omega) p.isLt

theorem group_at (n : ℕ) (hn : n < 32) (p : Fin 8) (q : Fin 1024) : T.group n (ix2 p q) = P.hid q (t.val * 256 + n * 8 + p.val) := by
  induction n generalizing p with
  | zero => exact grp_hid H 0 hn T.h q (by rw [H.h]; rfl) p
  | succ n ih =>
    rw [group_succ]
    refine grp_hid H (n + 1) hn _ q ?_ p
    rw [lastRow_at, ih (by omega) 7, show t.val * 256 + (n + 1) * 8 = t.val * 256 + n * 8 + 7 + 1 by omega, before_succ _ _ (by omega)]
    rfl

theorem hid_at (a : Fin 256) (q : Fin 1024) : T.hid (ix2 a q) = P.hid q (rowOf t a).val := by
  rw [hid_eq]
  refine (concatenate_ofFn_apply (t := S256x1024) (s₁ := S8x1024) 0 (fun n : Fin 32 => T.group n.val) _ rfl 8 rfl (ix2 a q) ⟨a.val / 8, by omega⟩ rfl
    (ix2 ⟨a.val % 8, by omega⟩ q) rfl (fun b hb => by
      match b with
      | ⟨0, _⟩ => exact absurd rfl hb
      | ⟨1, _⟩ => rfl)).trans ?_
  refine (group_at H (a.val / 8) (by omega) ⟨a.val % 8, by omega⟩ q).trans ?_
  exact congrArg _ (by show t.val * 256 + a.val / 8 * 8 + a.val % 8 = t.val * 256 + a.val; omega)

theorem keep_at (j : Fin 8) (q : Fin 1024) : T.keep (ix2 j q) = P.rx q (rowOf t ⟨248 + j.val, by omega⟩) := by
  pointwise [Tile.keep, k0_pay14]
  exact rx_at H _ q

theorem carry_at (q : Fin 1024) : T.carry (ix2 0 q) = P.hid q (rowOf t 255).val := by
  pointwise [Tile.carry, k0_pay80]
  rw [g31_eq]
  exact (group_at H 31 (by omega) 7 q).trans (congrArg _ (by show t.val * 256 + 31 * 8 + 7 = t.val * 256 + 255; omega))

theorem act_at (a : Fin 256) (q : Fin 1024) : k0_pay81 (F := Ideal) T.rg T.hid (ix2 a q) = P.hid q (rowOf t a).val * gel (P.rg q (rowOf t a)) := by
  pointwise [k0_pay81]
  rw [hid_at H, rg_at H]
  refine congrArg (_ * ·) ?_
  unfold gel
  rw [mul_comm (Ideal.ofBits .f32 0x3F000000#32) (P.rg q (rowOf t a)), mul_assoc]

theorem out_at (a : Fin 256) (n : Fin 1024) : T.out (ix2 a n) = P.rnn (rowOf t a) n := by
  pointwise [Tile.out, k0_pay1, k0_pay82]
  exact Finset.sum_congr rfl fun q _ => congrArg₂ (· * ·) (act_at H a q) (H.wo q n)

end Tile
end Cert.RnnIdeal.Value
-- ==== Proof.RnnRefAt.lean ====
module

public import proofs.«01_k».proof.Proof.Gen.RnnRefIdeal.Run
public import proofs.«01_k».proof.Proof.Gen.RnnRefIdeal.Step
public import proofs.«01_k».proof.Proof.RnnSpec
public import Idealize.ShloMosaic.Lib.DynamicIndex
public import Idealize.ShloMosaic.Lib.WordCmp

@[expose] public section

set_option maxRecDepth 16384

noncomputable section

namespace Cert.RnnRefIdeal.Value
open Cert.RnnRefIdeal Cert.RnnRefIdeal.Gen Idealize.ShloMosaic Idealize.ShloMosaic.TcCoe Idealize.SL.Sem
open Idealize.ShloMosaic.StableHlo Idealize.ShloMosaic.Tactic
open Cert.Spec Cert.RnnRefIdeal.Step

/-- The arguments as arrays. -/
structure Arrs where
  a0 : FVec Ideal S16384x1024 .f32
  a1 : FVec Ideal S2x1024 .f32
  a2 : FVec Ideal S2x1024x10312 .f32
  a3 : FVec Ideal S2x4x1024 .f32
  a4 : FVec Ideal S2x1024 .f32
  a5 : FVec Ideal S2x16x64x64 .f32
  a6 : FVec Ideal S2x1024 .f32
  a7 : FVec Ideal S2x16x64x64 .f32
  a8 : FVec Ideal S2x1024 .f32
  a9 : FVec Ideal S2x1024 .f32
  a10 : FVec Ideal S2x1024x1024 .f32

/-- The arrays' entries as the branch's arguments. -/
def Arrs.args (A : Arrs) : RnnArgs where
  x r k := A.a0 (ix2 r k)
  g k := A.a1 (ix2 0 k)
  w k n := A.a2 (ix3 0 k n)
  cw j q := A.a3 (ix3 0 j q)
  cb q := A.a4 (ix2 0 q)
  wa n i j := A.a5 (ix4 0 n i j)
  ba q := A.a6 (ix2 0 q)
  wx n i j := A.a7 (ix4 0 n i j)
  bx q := A.a8 (ix2 0 q)
  lam q := A.a9 (ix2 0 q)
  wo q n := A.a10 (ix3 0 q n)

/-! Values the reference computes before its loop, at the arrays. -/

abbrev Arrs.v18 (A : Arrs) : FVec Ideal S4x4096x10312 .f32 := A_main_v18 (F := Ideal) A.a0 A.a1 A.a2 A.a3 A.a4 A.a5 A.a6 A.a7 A.a8 A.a9
abbrev Arrs.v19 (A : Arrs) : FVec Ideal S4x4096x1024 .f32 := A_main_v19 (F := Ideal) A.a0 A.a1 A.a2 A.a3 A.a4 A.a5 A.a6 A.a7 A.a8 A.a9
abbrev Arrs.v20 (A : Arrs) : FVec Ideal S4x4096x1024 .f32 := A_main_v20 (F := Ideal) A.a0 A.a1 A.a2 A.a3 A.a4 A.a5 A.a6 A.a7 A.a8 A.a9
abbrev Arrs.v57 (A : Arrs) : FVec Ideal S4x4096x1024 .f32 := A_main_v57 (F := Ideal) A.a0 A.a1 A.a2 A.a3 A.a4 A.a5 A.a6 A.a7 A.a8 A.a9
abbrev Arrs.v74 (A : Arrs) : FVec Ideal S4x4096x1024 .f32 := A_main_v74 (F := Ideal) A.a0 A.a1 A.a2 A.a3 A.a4 A.a5 A.a6 A.a7 A.a8 A.a9
abbrev Arrs.v90 (A : Arrs) : FVec Ideal S4x4096x1024 .f32 := A_main_v90 (F := Ideal) A.a0 A.a1 A.a2 A.a3 A.a4 A.a5 A.a6 A.a7 A.a8 A.a9
abbrev Arrs.v99 (A : Arrs) : FVec Ideal S4x4096x1024 .f32 := A_main_v99 (F := Ideal) A.a0 A.a1 A.a2 A.a3 A.a4 A.a5 A.a6 A.a7 A.a8 A.a9
abbrev Arrs.v100 (A : Arrs) : FVec Ideal S4x4096x1024 .f32 := A_main_v100 (F := Ideal) A.a0 A.a1 A.a2 A.a3 A.a4 A.a5 A.a6 A.a7 A.a8 A.a9
abbrev Arrs.v107 (A : Arrs) : FVec Ideal S4x4096x1024 .f32 := A_main_v107 (F := Ideal) A.a0 A.a1 A.a2 A.a3 A.a4 A.a5 A.a6 A.a7 A.a8 A.a9
abbrev Arrs.v120 (A : Arrs) : FVec Ideal S4x4096x1024 .f32 := A_main_v120 (F := Ideal) A.a0 A.a1 A.a2 A.a3 A.a4 A.a5 A.a6 A.a7 A.a8 A.a9
abbrev Arrs.v122 (A : Arrs) : FVec Ideal S4096x4x1024 .f32 := A_main_v122 (F := Ideal) A.a0 A.a1 A.a2 A.a3 A.a4 A.a5 A.a6 A.a7 A.a8 A.a9
abbrev Arrs.v123 (A : Arrs) : FVec Ideal S4096x4x1024 .f32 := A_main_v123 (F := Ideal) A.a0 A.a1 A.a2 A.a3 A.a4 A.a5 A.a6 A.a7 A.a8 A.a9
abbrev Arrs.v124 (A : Arrs) : FVec Ideal S4096x4x1024 .f32 := A_main_v124 (F := Ideal) A.a0 A.a1 A.a2 A.a3 A.a4 A.a5 A.a6 A.a7 A.a8 A.a9

section Arrays
variable (A : Arrs)

theorem proj_at (b : Fin 4) (t : Fin 4096) (n : Fin 10312) :
    A.v18 (ix3 b t n) = proj (A.args.x ⟨b * 4096 + t, by omega⟩) A.args.g fun k => A.args.w k n := by
  pointwise [A_main_v18, A_main_v17, A_main_v16, A_main_v15, A_main_v14, A_main_v13, A_main_v12, A_main_v11, A_main_v10, A_main_v9, A_main_v7, A_main_v5, A_main_v4, A_main_v3, A_main_v2, A_main_v1, A_main_v0, K_main_cst, K_main_v6, K_main_cst_0, K_main_v8, K_main_cst_1, proj, rn, Arrs.args]

theorem rx_at (b : Fin 4) (t : Fin 4096) (q : Fin 1024) :
    A.v19 (ix3 b t q) = A.args.rx q ⟨b * 4096 + t, by omega⟩ := by
  pointwise [A_main_v19]
  exact proj_at A b t _

theorem rg_at (b : Fin 4) (t : Fin 4096) (q : Fin 1024) :
    A.v20 (ix3 b t q) = A.args.rg q ⟨b * 4096 + t, by omega⟩ := by
  pointwise [A_main_v20]
  exact proj_at A b t _

theorem fill : (FloatOps.sitofp .f32 (0#32 : BitVec 32) : Ideal .f32) = (0 : EReal) := by
  show ((((0#32 : BitVec 32).toInt : ℝ)) : EReal) = 0
  simp

theorem rx_lag (b : Fin 4) (t : Fin 4096) (l : ℕ) (p : Prop) [Decidable p] (hp : p ↔ l ≤ t.val) (s : p → Fin 4096)
    (hs : ∀ h, (s h).val = t.val - l) (q : Fin 1024) (z : EReal) (hz : z = 0) :
    (if h : p then A.v19 (ix3 b (s h) q) else z) = lagged (A.args.rx q) l ⟨b * 4096 + t, by omega⟩ := by
  unfold lagged
  by_cases h : p
  · have := hp.mp h; have := hs h
    rw [dif_pos h, if_pos (by dsimp only; omega), rx_at A]
    congr 1; apply Fin.ext; dsimp only; omega
  · have : ¬ l ≤ t.val := fun c => h (hp.mpr c)
    rw [dif_neg h, if_neg (by dsimp only; omega), hz]

set_option maxHeartbeats 1000000 in
theorem xa_at (b : Fin 4) (t : Fin 4096) (q : Fin 1024) :
    A.v57 (ix3 b t q) = A.args.xa q ⟨b * 4096 + t, by omega⟩ := by
  pointwise [A_main_v57, A_main_v56, A_main_v55, A_main_v54, A_main_v53, A_main_v52, A_main_v51, A_main_v50, A_main_v49, A_main_v48, A_main_v47, A_main_v46, A_main_v45, A_main_v44, A_main_v43, A_main_v42, A_main_v41, A_main_v40, A_main_v39, A_main_v38, A_main_v37, A_main_v36, A_main_v35, A_main_v34, A_main_v33, A_main_v32, A_main_v31, A_main_v29, A_main_v28, A_main_v27, A_main_v26, A_main_v25, A_main_v24, A_main_v23, A_main_v22, A_main_v21, K_main_v30, K_main_cst_2, K_main_call0_v0, K_main_c]
  rw [rx_lag A b t 3 _ (by omega) (fun _ => _) (fun _ => rfl) q _ fill,
    rx_lag A b t 2 _ (by omega) (fun _ => _) (fun _ => by show 1 + t.val - 3 = _; omega) q _ fill,
    rx_lag A b t 1 _ (by omega) (fun _ => _) (fun _ => by show 2 + t.val - 3 = _; omega) q _ fill]
  have e := rx_at A b t q
  dsimp only [Arrs.v19] at e
  rw [e]
  rfl

theorem gate_a_at (b : Fin 4) (t : Fin 4096) (q : Fin 1024) :
    A.v74 (ix3 b t q) = A.args.gate A.args.wa A.args.ba q ⟨b * 4096 + t, by omega⟩ := by
  have e := fun q => xa_at A b t q
  dsimp only [Arrs.v57] at e
  pointwise [A_main_v74, A_main_v72, A_main_v70, A_main_v69, A_main_v68, A_main_v67, A_main_v66, A_main_v65, A_main_v64, A_main_v63, A_main_v62, A_main_v61, A_main_v60, A_main_v59, A_main_v58, K_main_v73, K_main_cst_4, K_main_v71, K_main_cst_3]
  unfold RnnArgs.gate Ideal.logistic
  simp only [e, mul_comm (A.a5 _)]
  rfl

theorem gate_x_at (b : Fin 4) (t : Fin 4096) (q : Fin 1024) :
    A.v90 (ix3 b t q) = A.args.gate A.args.wx A.args.bx q ⟨b * 4096 + t, by omega⟩ := by
  have e := fun q => xa_at A b t q
  dsimp only [Arrs.v57] at e
  pointwise [A_main_v90, A_main_v88, A_main_v86, A_main_v85, A_main_v84, A_main_v83, A_main_v82, A_main_v81, A_main_v80, A_main_v79, A_main_v78, A_main_v77, A_main_v76, A_main_v75, A_main_v58, K_main_v89, K_main_cst_6, K_main_v87, K_main_cst_5]
  unfold RnnArgs.gate Ideal.logistic
  simp only [e, mul_comm (A.a7 _)]
  rfl

theorem log_at (b : Fin 4) (t : Fin 4096) (q : Fin 1024) :
    A.v99 (ix3 b t q) = lg (A.args.gate A.args.wa A.args.ba q ⟨b * 4096 + t, by omega⟩) (A.args.lam q) := by
  have e := gate_a_at A b t q
  dsimp only [Arrs.v74] at e
  pointwise [A_main_v99, A_main_v98, A_main_v97, A_main_v96, A_main_v95, A_main_v94, A_main_v93, A_main_v92, A_main_call1_v11, A_main_call1_v10, A_main_call1_v9, A_main_call1_v8, A_main_call1_v7, A_main_call1_v6, A_main_call1_v4, A_main_call1_v3, A_main_call1_v1, K_main_v91, K_main_cst_7, K_main_call1_v0, K_main_call1_v2, K_main_call1_v5, K_main_call1_cst]
  rw [e, if_neg (fun h => h rfl)]
  rfl

theorem dec_at (b : Fin 4) (t : Fin 4096) (q : Fin 1024) : A.v100 (ix3 b t q) = A.args.dec q ⟨b * 4096 + t, by omega⟩ := by
  have e := log_at A b t q
  dsimp only [Arrs.v99] at e
  pointwise [A_main_v100]
  rw [e]
  rfl

theorem inp_at (b : Fin 4) (t : Fin 4096) (q : Fin 1024) : A.v107 (ix3 b t q) = A.args.inp q ⟨b * 4096 + t, by omega⟩ := by
  have e := log_at A b t q
  have e' := gate_x_at A b t q
  have e'' := xa_at A b t q
  dsimp only [Arrs.v99, Arrs.v90, Arrs.v57] at e e' e''
  pointwise [A_main_v107, A_main_v106, A_main_v105, A_main_v104, A_main_v103, A_main_v102, K_main_v101, K_main_cst_8]
  rw [e, e', e'']
  rfl

theorem gel_at (b : Fin 4) (t : Fin 4096) (q : Fin 1024) : A.v120 (ix3 b t q) = gel (A.args.rg q ⟨b * 4096 + t, by omega⟩) := by
  have e := rg_at A b t q
  dsimp only [Arrs.v20] at e
  pointwise [A_main_v120, A_main_v119, A_main_v117, A_main_v115, A_main_v114, A_main_v112, A_main_v111, A_main_v109, A_main_v108, K_main_v118, K_main_v116, K_main_v113, K_main_v110, K_main_cst_9, K_main_cst_10, K_main_cst_11, K_main_cst_12, gel]
  rw [e]

theorem v122_at (t : Fin 4096) (b : Fin 4) (q : Fin 1024) : A.v122 (ix3 t b q) = A.args.dec q ⟨b * 4096 + t, by omega⟩ := by
  pointwise [A_main_v122]
  exact dec_at A b t q

theorem v123_at (t : Fin 4096) (b : Fin 4) (q : Fin 1024) : A.v123 (ix3 t b q) = A.args.inp q ⟨b * 4096 + t, by omega⟩ := by
  pointwise [A_main_v123]
  exact inp_at A b t q

theorem v124_at (t : Fin 4096) (b : Fin 4) (q : Fin 1024) : A.v124 (ix3 t b q) = gel (A.args.rg q ⟨b * 4096 + t, by omega⟩) := by
  pointwise [A_main_v124]
  exact gel_at A b t q

end Arrays

/-- The arrays of the arguments in the memory `m`. -/
def arrs (m : (ℓ : Loc nD τ sig) → Buf (Elt Ideal) ℓ) (c : Dev nD) : Arrs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10)⟩

section Loop
variable (m : (ℓ : Loc nD τ sig) → Buf (Elt Ideal) ℓ) (c : Dev nD)

/-- The buffers after `k` trips of the loop. -/
abbrev after (k : ℕ) : Valuation τ sig (Elt Ideal) := STEP^[k] (entryContents preI m c)

set_option maxRecDepth 65536 in
set_option maxHeartbeats 2000000 in
theorem entry_a : entryContents preI m c (Proc.devRef .tc main_v126_0) = (arrs m c).v122 := by
  simp only [entryContents, afterL_cons, afterL_nil]
  after_reads_simp
  rfl

set_option maxRecDepth 65536 in
set_option maxHeartbeats 2000000 in
theorem entry_u : entryContents preI m c (Proc.devRef .tc main_v126_1) = (arrs m c).v123 := by
  simp only [entryContents, afterL_cons, afterL_nil]
  after_reads_simp
  rfl

set_option maxRecDepth 65536 in
set_option maxHeartbeats 2000000 in
theorem entry_g : entryContents preI m c (Proc.devRef .tc main_v126_2) = (arrs m c).v124 := by
  simp only [entryContents, afterL_cons, afterL_nil]
  after_reads_simp
  rfl

set_option maxRecDepth 65536 in
set_option maxHeartbeats 2000000 in
theorem entry_n : entryContents preI m c (Proc.devRef .tc main_v126_3) = fun _ => 0#32 := by
  simp only [entryContents, afterL_cons, afterL_nil]
  after_reads_simp
  rfl

set_option maxRecDepth 65536 in
set_option maxHeartbeats 2000000 in
theorem entry_h : entryContents preI m c (Proc.devRef .tc main_v126_4) = (K_main_v121 (F := Ideal)) := by
  simp only [entryContents, afterL_cons, afterL_nil]
  after_reads_simp
  rfl

/-- Where a trip reads and writes, of the counter. -/
def start (n : IVec S_ 32) : Fin 3 → Int := fun k => ((![n, constantI S_ 32 0#32, constantI S_ 32 0#32] : Fin 3 → IVec S_ 32) k (Shape.Idx.first h_S_)).toInt

theorem start_eq (k : ℕ) (hk : k < 4096) (a : Fin 3) : start (fun _ => BitVec.ofNat 32 k) a = ((![k, 0, 0] : Fin 3 → ℕ) a : Int) := by
  fin_cases a
  · exact toInt_ofNat_of_lt (by omega)
  · rfl
  · rfl

theorem slices_row (k : ℕ) (hk : k < 4096) : S4096x4x1024.Slices ![k, 0, 0] S1x4x1024 := by
  refine ⟨rfl, fun a => ?_⟩
  fin_cases a
  · show k + 1 ≤ 4096; omega
  · show 0 + 4 ≤ 4; omega
  · show 0 + 1024 ≤ 1024; omega

/-- Row `k` of an array, as a trip reads it. -/
theorem row_at (Z : FVec Ideal S4096x4x1024 .f32) (k : ℕ) (hk : k < 4096) (b : Fin 4) (q : Fin 1024) :
    shapeCast S4x1024 (Host.dynamicSlice S1x4x1024 Z (start fun _ => BitVec.ofNat 32 k) sliceFits_S4096x4x1024_S1x4x1024) shapeCasts_S1x4x1024_S4x1024 (ix2 b q)
      = Z (ix3 ⟨k, hk⟩ b q) := by
  rw [Host.dynamicSlice_eq_extractStridedSlice S1x4x1024 Z _ ![k, 0, 0] _ (slices_row k hk) (start_eq k hk)]
  pointwise []

/-- The array with row `k` replaced, as a trip writes it. -/
theorem put_at (Z : FVec Ideal S4096x4x1024 .f32) (v : FVec Ideal S4x1024 .f32) (k : ℕ) (hk : k < 4096) (t : Fin 4096) (b : Fin 4) (q : Fin 1024) :
    Host.dynamicUpdateSlice Z (broadcastInDim S1x4x1024 ![1, 2] bcast_S4x1024_S1x4x1024_1_2 v) (start fun _ => BitVec.ofNat 32 k) updateFits_S4096x4x1024_S1x4x1024 (ix3 t b q)
      = if t.val = k then v (ix2 b q) else Z (ix3 t b q) := by
  rw [WordCmp.dynamicUpdateSlice_eq_update Z _ _ _ ![k, 0, 0] (slices_row k hk) (start_eq k hk)]
  unfold updateSlice
  by_cases h : t.val = k
  · rw [if_pos h, dif_pos]
    · pointwise []
    · intro a
      fin_cases a
      · show k ≤ t.val ∧ t.val < k + 1; omega
      · show 0 ≤ b.val ∧ b.val < 0 + 4; omega
      · show 0 ≤ q.val ∧ q.val < 0 + 1024; omega
  · rw [if_neg h, dif_neg]
    intro c
    have := c 0
    have : k ≤ t.val ∧ t.val < k + 1 := this
    omega

/-- The state a trip leaves, of the decays, the inputs, the counter and the state before. -/
def next (A U : FVec Ideal S4096x4x1024 .f32) (n : IVec S_ 32) (h : FVec Ideal S4x1024 .f32) : FVec Ideal S4x1024 .f32 :=
  addf (mulf (shapeCast S4x1024 (Host.dynamicSlice S1x4x1024 A (start n) sliceFits_S4096x4x1024_S1x4x1024) shapeCasts_S1x4x1024_S4x1024) h)
    (shapeCast S4x1024 (Host.dynamicSlice S1x4x1024 U (start n) sliceFits_S4096x4x1024_S1x4x1024) shapeCasts_S1x4x1024_S4x1024)

theorem next_at (A U : FVec Ideal S4096x4x1024 .f32) (h : FVec Ideal S4x1024 .f32) (k : ℕ) (hk : k < 4096) (b : Fin 4) (q : Fin 1024) :
    next A U (fun _ => BitVec.ofNat 32 k) h (ix2 b q) = A (ix3 ⟨k, hk⟩ b q) * h (ix2 b q) + U (ix3 ⟨k, hk⟩ b q) :=
  congrArg₂ (· + ·) (congrArg₂ (· * ·) (row_at A k hk b q) rfl) (row_at U k hk b q)

theorem next_eq (V : Valuation τ sig (Elt Ideal)) : res_main_while0b_v136 V
    = next (V (Proc.devRef .tc main_v126_0)) (V (Proc.devRef .tc main_v126_1)) (V (Proc.devRef .tc main_v126_3)) (V (Proc.devRef .tc main_v126_4)) := rfl

/-- The results a trip leaves, of the results before, the new state, the gates and the counter. -/
def store (O : FVec Ideal S4096x4x1024 .f32) (h : FVec Ideal S4x1024 .f32) (G : FVec Ideal S4096x4x1024 .f32) (n : IVec S_ 32) : FVec Ideal S4096x4x1024 .f32 :=
  Host.dynamicUpdateSlice O (broadcastInDim S1x4x1024 ![1, 2] bcast_S4x1024_S1x4x1024_1_2 (mulf h (shapeCast S4x1024 (Host.dynamicSlice S1x4x1024 G (start n) sliceFits_S4096x4x1024_S1x4x1024) shapeCasts_S1x4x1024_S4x1024))) (start n) updateFits_S4096x4x1024_S1x4x1024

theorem store_at (O : FVec Ideal S4096x4x1024 .f32) (h : FVec Ideal S4x1024 .f32) (G : FVec Ideal S4096x4x1024 .f32) (k : ℕ) (hk : k < 4096) (t : Fin 4096) (b : Fin 4) (q : Fin 1024) :
    store O h G (fun _ => BitVec.ofNat 32 k) (ix3 t b q) = if t.val = k then h (ix2 b q) * G (ix3 ⟨k, hk⟩ b q) else O (ix3 t b q) := by
  refine (put_at O _ k hk t b q).trans ?_
  exact congrArg (fun z => if t.val = k then h (ix2 b q) * z else O (ix3 t b q)) (row_at G k hk b q)

theorem store_eq (V : Valuation τ sig (Elt Ideal)) : step_main_v126_5 V
    = store (V (Proc.devRef .tc main_v126_5)) (res_main_while0b_v136 V) (V (Proc.devRef .tc main_v126_2)) (V (Proc.devRef .tc main_v126_3)) := rfl

/-- The projection of the results, back in the arguments' row order. -/
def project (O : FVec Ideal S4096x4x1024 .f32) (W : FVec Ideal S2x1024x1024 .f32) : FVec Ideal S16384x1024 .f32 :=
  shapeCast _ (Host.dotGeneral dot_S4x4096x1024_S1024x1024_S4x4096x1024_2_0_01_1_n_n none (transpose S4x4096x1024 [1, 0, 2] O transposes_S4096x4x1024_S4x4096x1024_1_0_2) (shapeCast _ (extractStridedSlice S1x1024x1024 ![0, 0, 0] W slices_S2x1024x1024_S1x1024x1024_0_0_0) shapeCasts_S1x1024x1024_S1024x1024)) shapeCasts_S4x4096x1024_S16384x1024

theorem project_eq (V : Valuation τ sig (Elt Ideal)) : out_main_v131 V
    = project (V (Proc.devRef .tc main_v126_5)) (V (Proc.devRef .tc main_arg10)) := rfl

theorem project_at (O : FVec Ideal S4096x4x1024 .f32) (W : FVec Ideal S2x1024x1024 .f32) (i : S16384x1024.Idx) (hi : (i 0).val < 16384) :
    project O W i = ∑ q : Fin 1024, O (ix3 ⟨(i 0).val % 4096, Nat.mod_lt _ (by decide)⟩ ⟨(i 0).val / 4096, by omega⟩ q) * W (ix3 0 q (i 1)) := by
  pointwise [project]

/-- What holds of the buffers after `k` trips. -/
structure Inv (k : ℕ) (V : Valuation τ sig (Elt Ideal)) : Prop where
  a : V (Proc.devRef .tc main_v126_0) = (arrs m c).v122
  u : V (Proc.devRef .tc main_v126_1) = (arrs m c).v123
  g : V (Proc.devRef .tc main_v126_2) = (arrs m c).v124
  n : V (Proc.devRef .tc main_v126_3) = fun _ => BitVec.ofNat 32 k
  h : k < 4096 → ∀ (b : Fin 4) (q : Fin 1024), (V (Proc.devRef .tc main_v126_4) : FVec Ideal S4x1024 .f32) (ix2 b q) = before ((arrs m c).args.hid q) (b.val * 4096 + k)
  o : ∀ (t : Fin 4096) (b : Fin 4) (q : Fin 1024), t.val < k → (V (Proc.devRef .tc main_v126_5) : FVec Ideal S4096x4x1024 .f32) (ix3 t b q)
    = (arrs m c).args.hid q (b.val * 4096 + t.val) * gel ((arrs m c).args.rg q ⟨b * 4096 + t, by omega⟩)

theorem inv_zero : Inv m c 0 (entryContents preI m c) := by
  refine ⟨entry_a m c, entry_u m c, entry_g m c, entry_n m c, fun _ b q => ?_, fun t b q h => absurd h (Nat.not_lt_zero _)⟩
  rw [entry_h m c]
  unfold before
  rw [if_pos (by omega)]
  pointwise [K_main_v121, K_main_cst_13]

/-- The state a trip leaves. -/
theorem state_at (V : Valuation τ sig (Elt Ideal)) (k : ℕ) (hk : k < 4096) (H : Inv m c k V) (b : Fin 4) (q : Fin 1024) :
    (res_main_while0b_v136 V : FVec Ideal S4x1024 .f32) (ix2 b q) = (arrs m c).args.hid q (b.val * 4096 + k) := by
  rw [next_eq, H.n, H.a, H.u]
  refine (next_at _ _ _ k hk b q).trans ((congrArg₂ (· + ·) (congrArg₂ (· * ·) (v122_at _ ⟨k, hk⟩ b q) (H.h hk b q)) (v123_at _ ⟨k, hk⟩ b q)).trans ?_)
  unfold RnnArgs.hid
  rw [hrec_eq _ _ (b.val * 4096 + k), ← up_val ((arrs m c).args.dec q), ← up_val ((arrs m c).args.inp q)]

theorem inv_succ (V : Valuation τ sig (Elt Ideal)) (k : ℕ) (hk : k < 4096) (H : Inv m c k V) : Inv m c (k + 1) (STEP V) := by
  refine ⟨(STEP_main_v126_0 V).trans H.a, (STEP_main_v126_1 V).trans H.u, (STEP_main_v126_2 V).trans H.g, ?_, fun h b q => ?_, fun t b q h => ?_⟩
  · rw [STEP_main_v126_3]
    unfold step_main_v126_3
    rw [H.n]
    funext i
    show BitVec.ofNat 32 k + 1#32 = _
    exact (BitVec.ofNat_add k 1).symm
  · rw [STEP_main_v126_4]
    rw [show b.val * 4096 + (k + 1) = b.val * 4096 + k + 1 from rfl, before_succ _ _ (by omega)]
    exact state_at m c V k hk H b q
  · rw [STEP_main_v126_5]
    rw [store_eq, H.n, H.g]
    refine (store_at _ _ _ k hk t b q).trans ?_
    by_cases ht : t.val = k
    · subst ht
      rw [if_pos rfl]
      exact congrArg₂ (· * ·) (state_at m c V _ hk H b q) (v124_at _ t b q)
    · rw [if_neg ht]
      exact H.o t b q (by omega)

theorem inv : ∀ k, k ≤ 4096 → Inv m c k (STEP^[k] (entryContents preI m c))
  | 0, _ => inv_zero m c
  | k + 1, h => by
    rw [Function.iterate_succ_apply']
    exact inv_succ m c _ k (by omega) (inv k (by omega))

end Loop

theorem ref_at (m : (ℓ : Loc nD τ sig) → Buf (Elt Ideal) ℓ) (c : Dev nD) (i : S16384x1024.Idx) :
    out_main_v131 (STEP^[4096] (entryContents preI m c)) i = (arrs m c).args.rnn (i 0) (i 1) := by
  have hi : (i 0).val < 16384 := (i 0).isLt
  have H := inv m c 4096 le_rfl
  have hw := iter_main_arg10 m c 4096
  revert H hw
  generalize STEP^[4096] (entryContents preI m c) = V
  intro H hw
  rw [project_eq, hw]
  refine (project_at _ _ i hi).trans ?_
  refine Finset.sum_congr rfl fun q _ => ?_
  refine congrArg₂ (· * ·) ((H.o _ _ q (Fin.isLt _)).trans ?_) rfl
  have e : (i 0).val / 4096 * 4096 + (i 0).val % 4096 = (i 0).val := by omega
  refine congrArg₂ (· * ·) (congrArg _ e) ?_
  exact congrArg _ (congrArg _ (Fin.ext e))

end Cert.RnnRefIdeal.Value
-- ==== Proof.RnnValue.lean ====
module

public import proofs.«01_k».proof.Proof.RnnPoint
public import proofs.«01_k».proof.Proof.RnnRefAt

@[expose] public section

set_option maxRecDepth 16384

/-! The recurrent branch's kernel leaves the branch's result, point by point. -/

noncomputable section

namespace Cert.RnnIdeal.Value
open Cert.RnnIdeal Cert.RnnIdeal.Gen Idealize.ShloMosaic Idealize.ShloMosaic.TcCoe Idealize.SL.Sem
open Cert.Spec
open Cert.RnnRefIdeal.Value (Arrs)

variable (m : (ℓ : Loc nD τ sig) → Buf (Elt Ideal) ℓ)

/-- The argument arrays. -/
abbrev arrs (c : Dev nD) : Arrs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

/-- The blocks the windows stage at point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0, 0]
    ∧ win0_6.index t = ![0, 0, 0] ∧ win0_7.index t = ![0, 0, 0] ∧ win0_8.index t = ![0, 0, 0] ∧ win0_9.index t = ![0, 0, 0]
    ∧ win0_10.index t = ![t.val, 0] :=
  (by decide +kernel : ∀ t : Fin grid0.N, _)

theorem x_at (c : Dev nD) (t : Fin cfg0.N) (a : Fin 256) (k : Fin 1024) :
    (show FVec Ideal S256x1024 .f32 from iblk m c 0 t) (ix2 a k) = (arrs m c).args.x (rowOf t a) k := by
  show _ = (arrs m c).a0 (ix2 (rowOf t a) k)
  unfold rowOf
  blk_point [iblk, idx t]

theorem g_at (c : Dev nD) (t : Fin cfg0.N) (k : Fin 1024) :
    (show FVec Ideal S1x1x1024 .f32 from iblk m c 1 t) (ix3 0 0 k) = (arrs m c).args.g k := by
  show _ = (arrs m c).a1 (ix2 0 k)
  blk_point [iblk, idx t]

theorem w_at (c : Dev nD) (t : Fin cfg0.N) (k : Fin 1024) (n : Fin 2048) :
    (show FVec Ideal S1x1024x2048 .bf16 from X0_2 m c t) (ix3 0 k n) = (arrs m c).args.w k ⟨n.val, by omega⟩ := by
  show X0_2 m c t (ix3 0 k n) = (arrs m c).a2 (ix3 0 k ⟨n.val, by omega⟩)
  unfold X0_2 Pipeline.Window.fill
  rw [dif_pos (moved0_2 t _)]
  blk_point [iblk, idx t]

theorem cw_at (c : Dev nD) (t : Fin cfg0.N) (j : Fin 4) (q : Fin 1024) :
    (show FVec Ideal S1x4x1024 .f32 from iblk m c 3 t) (ix3 0 j q) = (arrs m c).args.cw j q := by
  show _ = (arrs m c).a3 (ix3 0 j q)
  blk_point [iblk, idx t]

theorem cb_at (c : Dev nD) (t : Fin cfg0.N) (q : Fin 1024) :
    (show FVec Ideal S1x1x1024 .f32 from iblk m c 4 t) (ix3 0 0 q) = (arrs m c).args.cb q := by
  show _ = (arrs m c).a4 (ix2 0 q)
  blk_point [iblk, idx t]

theorem ba_at (c : Dev nD) (t : Fin cfg0.N) (q : Fin 1024) :
    (show FVec Ideal S1x1x1024 .f32 from iblk m c 6 t) (ix3 0 0 q) = (arrs m c).args.ba q := by
  show _ = (arrs m c).a6 (ix2 0 q)
  blk_point [iblk, idx t]

theorem bx_at (c : Dev nD) (t : Fin cfg0.N) (q : Fin 1024) :
    (show FVec Ideal S1x1x1024 .f32 from iblk m c 7 t) (ix3 0 0 q) = (arrs m c).args.bx q := by
  show _ = (arrs m c).a8 (ix2 0 q)
  blk_point [iblk, idx t]

theorem lam_at (c : Dev nD) (t : Fin cfg0.N) (q : Fin 1024) :
    (show FVec Ideal S1x1x1024 .f32 from iblk m c 8 t) (ix3 0 0 q) = (arrs m c).args.lam q := by
  show _ = (arrs m c).a9 (ix2 0 q)
  blk_point [iblk, idx t]

theorem wo_at (c : Dev nD) (t : Fin cfg0.N) (q n : Fin 1024) :
    (show FVec Ideal S1x1024x1024 .bf16 from iblk m c 9 t) (ix3 0 q n) = (arrs m c).args.wo q n := by
  show _ = (arrs m c).a10 (ix3 0 q n)
  blk_point [iblk, idx t]

/-- The gates' matrix as the host lays it out: each gate's diagonal blocks of 64 channels, four to a block of 256. -/
def eye : FVec Ideal S4x4 .f32 :=
  uitofp .f32 (cmpi .eq (addi (iotaInDim S4x4 32 0) (broadcastInDim S4x4 ![] bcast_S_S4x4 (constantI S_ 32 0#32))) (iotaInDim S4x4 32 1))

def half (w : FVec Ideal S2x16x64x64 .f32) : FVec Ideal S2x4x256x256 .f32 :=
  shapeCast S2x4x256x256
    (mulf (broadcastInDim S2x4x4x64x4x64 ![0, 1, 2, 3, 4, 5] bcast_S2x4x4x64x1x64_S2x4x4x64x4x64_0_1_2_3_4_5
        (broadcastInDim S2x4x4x64x1x64 ![0, 1, 2, 3, 5] bcast_S2x4x4x64x64_S2x4x4x64x1x64_0_1_2_3_5 (shapeCast S2x4x4x64x64 w shapeCasts_S2x16x64x64_S2x4x4x64x64)))
      (broadcastInDim S2x4x4x64x4x64 ![0, 1, 2, 3, 4, 5] bcast_S1x1x4x1x4x1_S2x4x4x64x4x64_0_1_2_3_4_5 (broadcastInDim S1x1x4x1x4x1 ![2, 4] bcast_S4x4_S1x1x4x1x4x1_2_4 eye)))
    shapeCasts_S2x4x4x64x4x64_S2x4x256x256

def wbd (w v : FVec Ideal S2x16x64x64 .f32) : FVec Ideal S2x4x256x512 .bf16 :=
  truncf .bf16 (concatenate S2x4x256x512 3 [⟨S2x4x256x256, half w⟩, ⟨S2x4x256x256, half v⟩] concatenates_S2x4x256x256_S2x4x256x256_S2x4x256x512_d3) bitsLt_bf16_f32

theorem V_wbd (c : Dev nD) : V m c main_v27 = wbd (arrs m c).a5 (arrs m c).a7 := by
  entry_read
  rfl

theorem eye_at (i j : Fin 4) : eye (ix2 i j) = if i.val = j.val then 1 else 0 := by
  pointwise [eye]
  have h : ∀ i j : Fin 4, IntOp.cmpi CmpIPredicate.eq (IntOp.addi (BitVec.ofNat 32 i.val) 0#32) (BitVec.ofNat 32 j.val) = if i.val = j.val then 1#1 else 0#1 := by decide
  rw [h]
  by_cases e : i.val = j.val
  · rw [if_pos e, if_pos e]; show (((1#1 : BitVec 1).toNat : ℝ) : EReal) = 1; simp
  · rw [if_neg e, if_neg e]; show (((0#1 : BitVec 1).toNat : ℝ) : EReal) = 0; simp

theorem half_at (w : FVec Ideal S2x16x64x64 .f32) (g : Fin 4) (k n : Fin 256) :
    half w (ix4 0 g k n) = w (ix4 0 ⟨g.val * 4 + k.val / 64, by omega⟩ ⟨k.val % 64, by omega⟩ ⟨n.val % 64, by omega⟩)
      * eye (ix2 ⟨k.val / 64, by omega⟩ ⟨n.val / 64, by omega⟩) := by
  pointwise [half]

theorem wbd_lo (w v : FVec Ideal S2x16x64x64 .f32) (g : Fin 4) (k n : Fin 256) : wbd w v (ix4 0 g k ⟨n.val, by omega⟩) = half w (ix4 0 g k n) := by
  pointwise [wbd]
theorem wbd_hi (w v : FVec Ideal S2x16x64x64 .f32) (g : Fin 4) (k n : Fin 256) : wbd w v (ix4 0 g k ⟨256 + n.val, by omega⟩) = half v (ix4 0 g k n) := by
  pointwise [wbd]
theorem b5_at (c : Dev nD) (t : Fin cfg0.N) (g : Fin 4) (k : Fin 256) (n : Fin 512) :
    (show FVec Ideal S1x4x256x512 .bf16 from iblk m c 5 t) (ix4 0 g k n) = wbd (arrs m c).a5 (arrs m c).a7 (ix4 0 g k n) := by
  rw [← V_wbd]
  blk_ext [iblk, idx t]

theorem diag_eq (w : FVec Ideal S2x16x64x64 .f32) (g : Fin 4) (k n : Fin 256) : half w (ix4 0 g k n) = diag (fun n i j => w (ix4 0 n i j)) g k n := by
  rw [half_at, eye_at]; rfl

theorem ga_at (c : Dev nD) (t : Fin cfg0.N) (g : Fin 4) (k n : Fin 256) :
    (show FVec Ideal S1x4x256x512 .bf16 from iblk m c 5 t) (ix4 0 g k ⟨n.val, by omega⟩) = diag (arrs m c).args.wa g k n :=
  (b5_at m c t g k _).trans ((wbd_lo _ _ g k n).trans (diag_eq _ g k n))

theorem gx_at (c : Dev nD) (t : Fin cfg0.N) (g : Fin 4) (k n : Fin 256) :
    (show FVec Ideal S1x4x256x512 .bf16 from iblk m c 5 t) (ix4 0 g k ⟨256 + n.val, by omega⟩) = diag (arrs m c).args.wx g k n :=
  (b5_at m c t g k _).trans ((wbd_hi _ _ g k n).trans (diag_eq _ g k n))

theorem taps_ld (z : S1x4x1024.Idx → Elt Ideal .f32) (q : Fin 1024) :
    (show FVec Ideal S1x1x1024 .f32 from View.ld z (Rect.unit ![0, 0, 0] S1x1x1024.size inb_S1x4x1024_S1x1x1024_0_0_0)) (ix3 0 0 q) = z (ix3 0 0 q)
    ∧ (show FVec Ideal S1x1x1024 .f32 from View.ld z (Rect.unit ![0, 1, 0] S1x1x1024.size inb_S1x4x1024_S1x1x1024_0_1_0)) (ix3 0 0 q) = z (ix3 0 1 q)
    ∧ (show FVec Ideal S1x1x1024 .f32 from View.ld z (Rect.unit ![0, 2, 0] S1x1x1024.size inb_S1x4x1024_S1x1x1024_0_2_0)) (ix3 0 0 q) = z (ix3 0 2 q)
    ∧ (show FVec Ideal S1x1x1024 .f32 from View.ld z (Rect.unit ![0, 3, 0] S1x1x1024.size inb_S1x4x1024_S1x1x1024_0_3_0)) (ix3 0 0 q) = z (ix3 0 3 q) := by
  refine ⟨?_, ?_, ?_, ?_⟩ <;> pointwise []

theorem gates_ld (z : S1x4x256x512.Idx → Elt Ideal .bf16) (k : Fin 256) (n : Fin 512) :
    (show FVec Ideal S1x1x256x512 .bf16 from View.ld z (Rect.unit ![0, 0, 0, 0] S1x1x256x512.size inb_S1x4x256x512_S1x1x256x512_0_0_0_0)) (ix4 0 0 k n) = z (ix4 0 0 k n)
    ∧ (show FVec Ideal S1x1x256x512 .bf16 from View.ld z (Rect.unit ![0, 1, 0, 0] S1x1x256x512.size inb_S1x4x256x512_S1x1x256x512_0_1_0_0)) (ix4 0 0 k n) = z (ix4 0 1 k n)
    ∧ (show FVec Ideal S1x1x256x512 .bf16 from View.ld z (Rect.unit ![0, 2, 0, 0] S1x1x256x512.size inb_S1x4x256x512_S1x1x256x512_0_2_0_0)) (ix4 0 0 k n) = z (ix4 0 2 k n)
    ∧ (show FVec Ideal S1x1x256x512 .bf16 from View.ld z (Rect.unit ![0, 3, 0, 0] S1x1x256x512.size inb_S1x4x256x512_S1x1x256x512_0_3_0_0)) (ix4 0 0 k n) = z (ix4 0 3 k n) := by
  refine ⟨?_, ?_, ?_, ?_⟩ <;> pointwise []

theorem b_at (c : Dev nD) (t : Fin cfg0.N) (v : FVec Ideal S8x1024 .f32) (h : FVec Ideal S1x1024 .f32) (g : Fin 4) (k : Fin 256) (n : Fin 512) :
    (tile m c t v h).b g (ix4 0 0 k n) = (show FVec Ideal S1x4x256x512 .bf16 from iblk m c 5 t) (ix4 0 g k n) := by
  match g with
  | 0 => exact (gates_ld (iblk m c 5 t) k n).1
  | 1 => exact (gates_ld (iblk m c 5 t) k n).2.1
  | 2 => exact (gates_ld (iblk m c 5 t) k n).2.2.1
  | 3 => exact (gates_ld (iblk m c 5 t) k n).2.2.2

set_option maxHeartbeats 2000000 in
/-- A point's tile reads the arguments, when the scratches hold what the points before it have left. -/
theorem reads (c : Dev nD) (t : Fin cfg0.N) (v : FVec Ideal S8x1024 .f32) (h : FVec Ideal S1x1024 .f32)
    (hv : ∀ (j : Fin 8) (q : Fin 1024), v (ix2 j q) = if t.val * 256 % 4096 = 0 then 0 else (arrs m c).args.rx q (rowBefore t j))
    (hh : ∀ q : Fin 1024, h (ix2 0 q) = before ((arrs m c).args.hid q) (t.val * 256)) :
    (tile m c t v h).Reads (arrs m c).args t := by
  constructor
  · exact x_at m c t
  · exact g_at m c t
  · exact w_at m c t
  · exact hv
  · exact fun q => (taps_ld (iblk m c 3 t) q).1.trans (cw_at m c t 0 q)
  · exact fun q => (taps_ld (iblk m c 3 t) q).2.1.trans (cw_at m c t 1 q)
  · exact fun q => (taps_ld (iblk m c 3 t) q).2.2.1.trans (cw_at m c t 2 q)
  · exact fun q => (taps_ld (iblk m c 3 t) q).2.2.2.trans (cw_at m c t 3 q)
  · exact cb_at m c t
  · exact fun g k n => (b_at m c t v h g k _).trans (ga_at m c t g k n)
  · exact fun g k n => (b_at m c t v h g k _).trans (gx_at m c t g k n)
  · exact ba_at m c t
  · exact bx_at m c t
  · exact lam_at m c t
  · exact hh
  · exact wo_at m c t

/-- What every point leaves is what a tile that reads the arguments computes. -/
theorem state (c : Dev nD) : ∀ n, ∀ t : Fin cfg0.N, t.val = n → ∃ T : Tile, T.Reads (arrs m c).args t
    ∧ (outsAt0 m c t.val t.isLt).1 = T.out ∧ (outsAt0 m c t.val t.isLt).2.1 = T.keep ∧ (outsAt0 m c t.val t.isLt).2.2 = T.carry := by
  intro n
  induction n using Nat.strong_induction_on with
  | _ n ih =>
    intro t ht
    have hN := t_lt t
    by_cases h0 : t.val % 16 = 0
    · refine ⟨tile m c t keptReset carryReset, reads m c t _ _ (fun j q => ?_) (fun q => ?_), ?_, ?_, ?_⟩
      · rw [if_pos (by omega), keptReset_eq]; pointwise [k0_pay2]
      · unfold before; rw [if_pos (by omega), carryReset_eq]; pointwise [k0_pay3]
      · rw [out_A m c t h0, raw_eq]
      · rw [keep_A m c t h0, raw_eq]
      · rw [carry_A m c t h0, raw_eq]
    · obtain ⟨T, hT, -, h1, h2⟩ := ih (t.val - 1) (by omega) ⟨t.val - 1, Nat.lt_of_le_of_lt (Nat.sub_le _ _) t.isLt⟩ rfl
      refine ⟨tile m c t (keptRead m c t) (carryRead m c t), reads m c t _ _ (fun j q => ?_) (fun q => ?_), ?_, ?_, ?_⟩
      · rw [if_neg (by omega), keptRead_eq, h1, Tile.keep_at hT]
        exact congrArg _ (Fin.ext (by show (t.val - 1) * 256 + (248 + j.val) = t.val * 256 - 8 + j.val; omega))
      · unfold before; rw [if_neg (by omega), carryRead_eq, h2, Tile.carry_at hT]
        exact congrArg _ (by show (t.val - 1) * 256 + 255 = t.val * 256 - 1; omega)
      · rw [out_B m c t h0, raw_eq]
      · rw [keep_B m c t h0, raw_eq]
      · rw [carry_B m c t h0, raw_eq]

/-- What every point leaves in the output block. -/
theorem out_at (c : Dev nD) (t : Fin cfg0.N) (y : S256x1024.Idx) :
    (show FVec Ideal S256x1024 .f32 from (outsAt0 m c t.val t.isLt).1) y = (arrs m c).args.rnn (rowOf t (y 0)) (y 1) := by
  obtain ⟨T, hT, h, -, -⟩ := state m c t.val t rfl
  show (outsAt0 m c t.val t.isLt).1 y = _
  rw [h]
  refine Eq.trans (congrArg T.out (?_ : y = ix2 (y 0) (y 1))) (Tile.out_at hT (y 0) (y 1))
  funext b
  match b with
  | ⟨0, _⟩ => rfl
  | ⟨1, _⟩ => rfl

/-- The result array after the run. -/
theorem final (c : Dev nD) : (dats m 0 c).arrAt 10 (cfgs 0).N = fun i : S16384x1024.Idx => (arrs m c).args.rnn (i 0) (i 1) := by
  refine (dats m 0 c).arrAt_eq_of_covers 10 _ (by decide +kernel) fun t hf y => ?_
  have hN := t_lt t
  blk_simp
  rw [after0_10]
  refine (out_at m c t y).trans ?_
  have e0 : (((cfg0.win 10).blk t).view.emb y) 0 = rowOf t (y 0) := by apply Fin.ext; simp only [rowOf]; blk_point [idx t]
  have e1 : (((cfg0.win 10).blk t).view.emb y) 1 = y 1 := by apply Fin.ext; blk_point [idx t]
  rw [e0, e1]

end Cert.RnnIdeal.Value
-- ==== Proof.RnnClaims.lean ====
module

public import proofs.«01_k».proof.Defs
public import Idealize.ShloMosaic.Lib.Quiescent
public import proofs.«01_k».proof.Proof.Gen.Rnn.Frame
public import proofs.«01_k».proof.Proof.Gen.RnnRefIdeal.Run
public import proofs.«01_k».proof.Proof.RnnValue
public import proofs.«01_k».proof.Proof.RnnRefAt

@[expose] public section

set_option maxRecDepth 16384

noncomputable section

open Idealize.ShloMosaic Idealize.SL.Sem

/-! The claims about `Rnn`. -/

namespace Cert.Proof.Rnn

theorem frame : Cert.quiescent_Rnn := fun m g _ => Cert.Rnn.Gen.frame m g

theorem frame_ideal : Cert.quiescent_RnnIdeal := fun m g _ => Cert.RnnIdeal.Gen.frame m g

theorem frame_ref : Cert.quiescent_RnnRefIdeal := fun m g _ =>
  (θ_run _ _ _).mono (fun r h => ⟨fun c => (h c).2, sem_eq_zero_of_no_sems (by decide) r.2⟩)
    (Cert.RnnRefIdeal.Value.run m g)

/-- The reference's run, its result at every entry. -/
theorem run_ref (m : (ℓ : Loc Cert.RnnRefIdeal.nD Cert.RnnRefIdeal.τ Cert.RnnRefIdeal.sig) → Buf (Elt Ideal) ℓ) (g : Dev Cert.RnnRefIdeal.nD → PrngReg) :
    θ_run (Cert.RnnRefIdeal.defs (F := Ideal)) (onTc (τ := Cert.RnnRefIdeal.τ) (Cert.RnnRefIdeal.main (F := Ideal))) ⟨m, fun _ => 0, g⟩ fun r => ∀ c : Dev Cert.RnnRefIdeal.nD,
      r.2.mem ((c.tc : Thread Cert.RnnRefIdeal.nD Cert.RnnRefIdeal.τ).loc Cert.RnnRefIdeal.main_v131)
        = (fun i : Cert.RnnRefIdeal.S16384x1024.Idx => (Cert.RnnRefIdeal.Value.arrs m c).args.rnn (i 0) (i 1))
      ∧ r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6)
      ∧ r.2.mem ((c.tc : Thread Cert.RnnRefIdeal.nD Cert.RnnRefIdeal.τ).loc Cert.RnnRefIdeal.main_arg7) = m ((c.tc : Thread Cert.RnnRefIdeal.nD Cert.RnnRefIdeal.τ).loc Cert.RnnRefIdeal.main_arg7)
      ∧ r.2.mem ((c.tc : Thread Cert.RnnRefIdeal.nD Cert.RnnRefIdeal.τ).loc Cert.RnnRefIdeal.main_arg8) = m ((c.tc : Thread Cert.RnnRefIdeal.nD Cert.RnnRefIdeal.τ).loc Cert.RnnRefIdeal.main_arg8)
      ∧ r.2.mem ((c.tc : Thread Cert.RnnRefIdeal.nD Cert.RnnRefIdeal.τ).loc Cert.RnnRefIdeal.main_arg9) = m ((c.tc : Thread Cert.RnnRefIdeal.nD Cert.RnnRefIdeal.τ).loc Cert.RnnRefIdeal.main_arg9)
      ∧ r.2.mem ((c.tc : Thread Cert.RnnRefIdeal.nD Cert.RnnRefIdeal.τ).loc Cert.RnnRefIdeal.main_arg10) = m ((c.tc : Thread Cert.RnnRefIdeal.nD Cert.RnnRefIdeal.τ).loc Cert.RnnRefIdeal.main_arg10) :=
  (θ_run _ _ _).mono (fun _ h c => ⟨(h c).1.trans (funext (Cert.RnnRefIdeal.Value.ref_at m c)), (h c).2⟩) (Cert.RnnRefIdeal.Value.run m g)

set_option maxHeartbeats 2000000 in
theorem algebraic : Cert.algebraic_RnnIdeal_RnnRefIdeal := by
  pair_intro
  · run_from Cert.RnnIdeal.Gen.run_main m g
  · run_from run_ref m' g'
    rw [Cert.RnnIdeal.Value.final m c]
    simp only [Cert.RnnRefIdeal.Value.arrs, Cert.RnnIdeal.Value.arrs, hagree c]

end Cert.Proof.Rnn
-- ==== Proof.QkvRefAt.lean ====
module

public import proofs.«01_k».proof.Proof.Gen.QkvRefIdeal.Run
public import proofs.«01_k».proof.Proof.Spec

@[expose] public section

set_option maxRecDepth 16384

noncomputable section

namespace Cert.Spec
open Idealize.ShloMosaic

/-- Entry `d` of a head of which the first `2 * half` entries are rotated; `c` and `s` are the row's cosines and sines. -/
def rope (half : ℕ) (x c s : ℕ → EReal) (d : ℕ) : EReal :=
  if d < half then x d * c d - x (d + half) * s d
  else if d < half + half then x d * c (d - half) + x (d - half) * s (d - half)
  else x d

/-- An array's row as a function of the column number. -/
def row {n : ℕ} (x : Fin n → EReal) (j : ℕ) : EReal := if h : j < n then x ⟨j, h⟩ else 0

theorem row_at {n : ℕ} (x : Fin n → EReal) (j : ℕ) (h : j < n) : row x j = x ⟨j, h⟩ := dif_pos h

theorem row_eq {n : ℕ} (x : Fin n → EReal) (i j : ℕ) (h : i < n) (e : i = j) : x ⟨i, h⟩ = row x j := by
  subst e; exact (row_at x i h).symm

theorem rope_dite (half : ℕ) (x c s : ℕ → EReal) (d : ℕ) (A : d < half → EReal) (B : ¬d < half → d - half < half → EReal)
    (C : ¬d < half → ¬d - half < half → EReal) (hA : ∀ h, A h = x d * c d - x (d + half) * s d)
    (hB : ∀ h h', B h h' = x d * c (d - half) + x (d - half) * s (d - half)) (hC : ∀ h h', C h h' = x d) :
    (if h : d < half then A h else if h' : d - half < half then B h h' else C h h') = rope half x c s d := by
  unfold rope
  by_cases h : d < half
  · rw [dif_pos h, if_pos h, hA]
  · rw [dif_neg h, if_neg h]
    by_cases h' : d - half < half
    · rw [dif_pos h', if_pos (by omega), hB]
    · rw [dif_neg h', if_neg (by omega), hC]

end Cert.Spec

namespace Cert.QkvRefIdeal.Value
open Cert.QkvRefIdeal Cert.QkvRefIdeal.Gen Idealize.ShloMosaic Idealize.ShloMosaic.TcCoe Idealize.SL.Sem
open Cert.Spec

/-- Entry `n` of the projection of row `r`. -/
def PR (X : FVec Ideal S16384x1024 .f32) (G : FVec Ideal S2x1024 .f32) (W : FVec Ideal S2x1024x10312 .f32)
    (r : Fin 16384) : ℕ → EReal :=
  row fun n : Fin 10312 => proj (fun k => X (ix2 r k)) (fun k => G (ix2 0 k)) (fun k => W (ix3 0 k n))

theorem PR_eq (X : FVec Ideal S16384x1024 .f32) (G : FVec Ideal S2x1024 .f32) (W : FVec Ideal S2x1024x10312 .f32)
    (r : Fin 16384) (n j : ℕ) (h : n < 10312) (e : n = j) :
    proj (fun k => X (ix2 r k)) (fun k => G (ix2 0 k)) (fun k => W (ix3 0 k ⟨n, h⟩)) = PR X G W r j := by
  subst e
  exact (row_at (fun n : Fin 10312 => proj (fun k => X (ix2 r k)) (fun k => G (ix2 0 k)) (fun k => W (ix3 0 k n))) n h).symm

/-- An entry of a table of cosines or sines. -/
theorem col_eq {n : ℕ} (C : FVec Ideal ⟨2, ![16384, n]⟩ .f32) (r : Fin 16384) (i j : ℕ) (h : i < n) (e : i = j) :
    C (ix2 r ⟨i, h⟩) = row (fun j => C (ix2 r j)) j := row_eq (fun j => C (ix2 r j)) i j h e

/-- The rotated head of row `r` that begins at column `o` of the projection. -/
abbrev head (half o : ℕ) (X : FVec Ideal S16384x1024 .f32) (G : FVec Ideal S2x1024 .f32) (W : FVec Ideal S2x1024x10312 .f32)
    {n : ℕ} (C S : FVec Ideal ⟨2, ![16384, n]⟩ .f32) (r : Fin 16384) (d : ℕ) : EReal :=
  rope half (fun d => PR X G W r (o + d)) (row fun j => C (ix2 r j)) (row fun j => S (ix2 r j)) d

/-- The scale of the queries, `log2 e / sqrt 128`. -/
def scale : EReal := (((Real.sqrt 128)⁻¹ * (Real.log 2)⁻¹ : ℝ) : EReal)

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- Division by `sqrt 128 * log 2` is the product with the scale. -/
theorem div_scale (x : EReal) :
    Ideal.div x (Ideal.sqrt (Ideal.ofBits .f32 0x43000000#32) * Ideal.log (Ideal.ofBits .f32 0x40000000#32)) = x * scale := by
  have hs : Real.sqrt 128 ≠ 0 := (Real.sqrt_pos.mpr (by norm_num)).ne'
  have hl : Real.log 2 ≠ 0 := (Real.log_pos (by norm_num)).ne'
  rw [ofBits_128, ofBits_2, Ideal.sqrt_coe, Ideal.log_coe, if_neg (by norm_num), if_neg (by norm_num), ← EReal.coe_mul,
    Ideal.div_coe (mul_ne_zero hs hl), one_div, mul_inv, scale]

/-- The queries, scaled. -/
def Q (X : FVec Ideal S16384x1024 .f32) (G : FVec Ideal S2x1024 .f32) (W : FVec Ideal S2x1024x10312 .f32)
    (C S : FVec Ideal S16384x16 .f32) (r : Fin 16384) (n : ℕ) : EReal :=
  head 16 (5120 + n / 128 * 128) X G W C S r (n % 128) * scale

/-- The keys. -/
def K (X : FVec Ideal S16384x1024 .f32) (G : FVec Ideal S2x1024 .f32) (W : FVec Ideal S2x1024x10312 .f32)
    (C S : FVec Ideal S16384x16 .f32) (r : Fin 16384) (n : ℕ) : EReal :=
  head 16 (6144 + n / 128 * 128) X G W C S r (n % 128)

/-- The indexer's queries. -/
def QI (X : FVec Ideal S16384x1024 .f32) (G : FVec Ideal S2x1024 .f32) (W : FVec Ideal S2x1024x10312 .f32)
    (C S : FVec Ideal S16384x8 .f32) (r : Fin 16384) (n : ℕ) : EReal :=
  head 8 (6656 + n / 64 * 64) X G W C S r (n % 64)

/-- The indexer's keys. -/
def KI (X : FVec Ideal S16384x1024 .f32) (G : FVec Ideal S2x1024 .f32) (W : FVec Ideal S2x1024x10312 .f32)
    (C S : FVec Ideal S16384x8 .f32) (r : Fin 16384) (n : ℕ) : EReal :=
  head 8 7168 X G W C S r n

set_option maxHeartbeats 2000000 in
theorem q_at (m : (ℓ : Loc nD τ sig) → Buf (Elt Ideal) ℓ) (c : Dev nD) (i : S16384x1024.Idx) :
    res_main_v97 (F := Ideal) m c i
      = Q (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (i 0) (i 1).val := by
  pointwise [res_main_v97]
  refine (div_scale _).trans ?_
  unfold Q
  refine congrArg (· * _) ?_
  refine rope_dite 16 _ _ _ _ _ _ _ (fun h => ?_) (fun h h' => ?_) (fun h h' => ?_)
  · exact congrArg₂ (· - ·)
      (congrArg₂ (· * ·) (PR_eq _ _ _ _ _ _ _ (by omega)) (col_eq (m ((c.tc : Thread nD τ).loc main_arg3)) _ _ _ _ (by omega)))
      (congrArg₂ (· * ·) (PR_eq _ _ _ _ _ _ _ (by omega)) (col_eq (m ((c.tc : Thread nD τ).loc main_arg4)) _ _ _ _ (by omega)))
  · exact congrArg₂ (· + ·)
      (congrArg₂ (· * ·) (PR_eq _ _ _ _ _ _ _ (by omega)) (col_eq (m ((c.tc : Thread nD τ).loc main_arg3)) _ _ _ _ (by omega)))
      (congrArg₂ (· * ·) (PR_eq _ _ _ _ _ _ _ (by omega)) (col_eq (m ((c.tc : Thread nD τ).loc main_arg4)) _ _ _ _ (by omega)))
  · exact PR_eq _ _ _ _ _ _ _ (by omega)

set_option maxHeartbeats 2000000 in
theorem k_at (m : (ℓ : Loc nD τ sig) → Buf (Elt Ideal) ℓ) (c : Dev nD) (i : S16384x256.Idx) :
    res_main_v98 (F := Ideal) m c i
      = K (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (i 0) (i 1).val := by
  pointwise [res_main_v98]
  unfold K
  refine rope_dite 16 _ _ _ _ _ _ _ (fun h => ?_) (fun h h' => ?_) (fun h h' => ?_)
  · exact congrArg₂ (· - ·)
      (congrArg₂ (· * ·) (PR_eq _ _ _ _ _ _ _ (by omega)) (col_eq (m ((c.tc : Thread nD τ).loc main_arg3)) _ _ _ _ (by omega)))
      (congrArg₂ (· * ·) (PR_eq _ _ _ _ _ _ _ (by omega)) (col_eq (m ((c.tc : Thread nD τ).loc main_arg4)) _ _ _ _ (by omega)))
  · exact congrArg₂ (· + ·)
      (congrArg₂ (· * ·) (PR_eq _ _ _ _ _ _ _ (by omega)) (col_eq (m ((c.tc : Thread nD τ).loc main_arg3)) _ _ _ _ (by omega)))
      (congrArg₂ (· * ·) (PR_eq _ _ _ _ _ _ _ (by omega)) (col_eq (m ((c.tc : Thread nD τ).loc main_arg4)) _ _ _ _ (by omega)))
  · exact PR_eq _ _ _ _ _ _ _ (by omega)

set_option maxHeartbeats 2000000 in
theorem qi_at (m : (ℓ : Loc nD τ sig) → Buf (Elt Ideal) ℓ) (c : Dev nD) (i : S16384x512.Idx) :
    res_main_v99 (F := Ideal) m c i
      = QI (m ((c.tc : Thread nD τ).loc main_arg0)) (m ((c.tc : Thread nD τ).loc main_arg1))
          (m ((c.tc : Thread nD τ).loc main_arg2)) (m ((c.tc : Thread nD τ).loc main_arg5))
          (m ((c.tc : Thread nD τ).loc main_arg6)) (i 0) (i 1).val := by
  pointwise [res_main_v99]
  unfold QI
  refine rope_dite 8 _ _ _ _ _ _ _ (fun h => ?_) (fun h h' => ?_) (fun h h' => ?_)
  · exact congrArg₂ (· - ·)
      (congrArg₂ (· * ·) (PR_eq _ _ _ _ _ _ _ (by omega)) (col_eq (m ((c.tc : Thread nD τ).loc main_arg5)) _ _ _ _ (by omega)))
      (congrArg₂ (· * ·) (PR_eq _ _ _ _ _ _ _ (by omega)) (col_eq (m ((c.tc : Thread nD τ).loc main_arg6)) _ _ _ _ (by omega)))
  · exact congrArg₂ (· + ·)
      (congrArg₂ (· * ·) (PR_eq _ _ _ _ _ _ _ (by omega)) (col_eq (m ((c.tc : Thread nD τ).loc main_arg5)) _ _ _ _ (by omega)))
      (congrArg₂ (· * ·) (PR_eq _ _ _ _ _ _ _ (by omega)) (col_eq (m ((c.tc : Thread nD τ).loc main_arg6)) _ _ _ _ (by omega)))
  · exact PR_eq _ _ _ _ _ _ _ (by omega)

set_option maxHeartbeats 2000000 in
theorem ki_at (m : (ℓ : Loc nD τ sig) → Buf (Elt Ideal) ℓ) (c : Dev nD) (i : S16384x64.Idx) :
    res_main_v100 (F := Ideal) m c i
      = KI (m ((c.tc : Thread nD τ).loc main_arg0)) (m ((c.tc : Thread nD τ).loc main_arg1))
          (m ((c.tc : Thread nD τ).loc main_arg2)) (m ((c.tc : Thread nD τ).loc main_arg5))
          (m ((c.tc : Thread nD τ).loc main_arg6)) (i 0) (i 1).val := by
  pointwise [res_main_v100]
  unfold KI
  refine rope_dite 8 _ _ _ _ _ _ _ (fun h => ?_) (fun h h' => ?_) (fun h h' => ?_)
  · exact congrArg₂ (· - ·)
      (congrArg₂ (· * ·) (PR_eq _ _ _ _ _ _ _ (by omega)) (col_eq (m ((c.tc : Thread nD τ).loc main_arg5)) _ _ _ _ (by omega)))
      (congrArg₂ (· * ·) (PR_eq _ _ _ _ _ _ _ (by omega)) (col_eq (m ((c.tc : Thread nD τ).loc main_arg6)) _ _ _ _ (by omega)))
  · exact congrArg₂ (· + ·)
      (congrArg₂ (· * ·) (PR_eq _ _ _ _ _ _ _ (by omega)) (col_eq (m ((c.tc : Thread nD τ).loc main_arg5)) _ _ _ _ (by omega)))
      (congrArg₂ (· * ·) (PR_eq _ _ _ _ _ _ _ (by omega)) (col_eq (m ((c.tc : Thread nD τ).loc main_arg6)) _ _ _ _ (by omega)))
  · exact PR_eq _ _ _ _ _ _ _ (by omega)

set_option maxHeartbeats 4000000 in
/-- The reference's run, its results at every entry. -/
theorem run_at (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v97)
        = (fun i : S16384x1024.Idx => Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1).val)
      ∧ r.2.mem ((c.tc : Thread nD τ).loc main_v98)
        = (fun i : S16384x256.Idx => K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1).val)
      ∧ r.2.mem ((c.tc : Thread nD τ).loc main_v99)
        = (fun i : S16384x512.Idx => QI (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1).val)
      ∧ r.2.mem ((c.tc : Thread nD τ).loc main_v100)
        = (fun i : S16384x64.Idx => KI (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1).val)
      ∧ r.2.mem ((c.tc : Thread nD τ).loc main_v102)
        = (fun i : S256x16384.Idx => PR (m ((c.tc : Thread nD τ).loc main_arg0)) (m ((c.tc : Thread nD τ).loc main_arg1)) (m ((c.tc : Thread nD τ).loc main_arg2)) (i 1) (6400 + (i 0).val))
      ∧ r.2.mem ((c.tc : Thread nD τ).loc main_v103)
        = (fun i : S8x16384.Idx => PR (m ((c.tc : Thread nD τ).loc main_arg0)) (m ((c.tc : Thread nD τ).loc main_arg1)) (m ((c.tc : Thread nD τ).loc main_arg2)) (i 1) (7232 + (i 0).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (funext (q_at m c)), (h c).2.1.trans (funext (k_at m c)),
    (h c).2.2.1.trans (funext (qi_at m c)), (h c).2.2.2.1.trans (funext (ki_at m c)),
    (h c).2.2.2.2.1.trans (funext fun i => by
      pointwise []
      exact PR_eq _ _ _ _ _ _ _ (by omega)),
    (h c).2.2.2.2.2.1.trans (funext fun i => by
      pointwise []
      exact PR_eq _ _ _ _ _ _ _ (by omega)), (h c).2.2.2.2.2.2⟩) (run m g)

end Cert.QkvRefIdeal.Value
-- ==== Proof.QkvValue.lean ====
module

public import proofs.«01_k».proof.Proof.Gen.QkvIdeal.Value
public import proofs.«01_k».proof.Proof.QkvRefAt
public import Idealize.ShloMosaic.Lib.StableHlo.RunRead

@[expose] public section

set_option maxRecDepth 16384

noncomputable section

namespace Cert.Spec
open Idealize.ShloMosaic

/-- A lane of a rotated block: the block times the lane's cosine plus its partner lane, `half` lanes off, times the lane's
    signed sine, is the rotated head's entry. -/
theorem rope_lane (half d : ℕ) (f C S : ℕ → EReal) (x0 xp xm c s : EReal) (b : BitVec 1)
    (hb : b = if d < half then 1#1 else 0#1) (h0 : x0 = f d) (hp : d < half → xp = f (d + half))
    (hm : half ≤ d → d < half + half → xm = f (d - half))
    (hc : c = if d < half then C d else if d < half + half then C (d - half) else 1)
    (hs : s = if d < half then -S d else if d < half + half then S (d - half) else 0) :
    x0 * c + Scalar.select b xp xm * s = rope half f C S d := by
  unfold rope
  by_cases h : d < half
  · rw [if_pos h] at hb hc hs ⊢
    rw [hb, hc, hs, show Scalar.select 1#1 xp xm = xp from rfl, h0, hp h, mul_neg, sub_eq_add_neg]
  · rw [if_neg h] at hb hc hs ⊢
    by_cases h' : d < half + half
    · rw [if_pos h'] at hc hs ⊢
      rw [hb, hc, hs, show Scalar.select 0#1 xp xm = xm from rfl, h0, hm (by omega) h']
    · rw [if_neg h'] at hc hs ⊢
      rw [hc, hs, h0, mul_one, mul_zero, add_zero]

end Cert.Spec

namespace Cert.QkvIdeal.Value
open Cert.QkvIdeal Cert.QkvIdeal.Gen Idealize.ShloMosaic Idealize.ShloMosaic.TcCoe Idealize.SL.Sem
open Cert.Spec
open Cert.QkvRefIdeal.Value (PR PR_eq head Q K QI KI)

variable (m : (ℓ : Loc nD τ sig) → Buf (Elt Ideal) ℓ)

/-- The blocks the windows stage at point `t`. -/
theorem idx : ∀ t : Fin cfg0.N, win0_0.index t = ![t.val, 0] ∧ win0_1.index t = ![0, 0, 0] ∧ win0_2.index t = ![0, 0, 5]
    ∧ win0_3.index t = ![0, 0, 24] ∧ win0_4.index t = ![0, 0, 13] ∧ win0_5.index t = ![0, 0, 56]
    ∧ win0_6.index t = ![0, 0, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![0, t.val] ∧ win0_16.index t = ![0, t.val] :=
  (by decide +kernel : ∀ t : Fin grid0.N, _)

abbrev X (c : Dev nD) : FVec Ideal S16384x1024 .f32 := m ((c : Thread nD τ).loc main_arg0)
abbrev G (c : Dev nD) : FVec Ideal S2x1024 .f32 := m ((c : Thread nD τ).loc main_arg1)
abbrev W (c : Dev nD) : FVec Ideal S2x1024x10312 .f32 := m ((c : Thread nD τ).loc main_arg2)
abbrev C (c : Dev nD) : FVec Ideal S16384x16 .f32 := m ((c : Thread nD τ).loc main_arg3)
abbrev S (c : Dev nD) : FVec Ideal S16384x16 .f32 := m ((c : Thread nD τ).loc main_arg4)
abbrev CI (c : Dev nD) : FVec Ideal S16384x8 .f32 := m ((c : Thread nD τ).loc main_arg5)
abbrev SI (c : Dev nD) : FVec Ideal S16384x8 .f32 := m ((c : Thread nD τ).loc main_arg6)

/-- Window 2 holds 1024 columns of the projection matrix. -/
theorem X2_at (c : Dev nD) (t : Fin cfg0.N) (k : Fin 1024) (n : Fin 1024) :
    (show FVec Ideal S1x1024x1024 .bf16 from X0_2 m c t) (ix3 0 k n) = W m c (ix3 0 k ⟨5120 + n, by omega⟩) := by
  show X0_2 m c t (ix3 0 k n) = _
  unfold X0_2 Pipeline.Window.fill
  rw [dif_pos (moved0_2 t _)]
  blk_point [iblk, idx t]

/-- Window 3 holds 256 columns of the projection matrix. -/
theorem X3_at (c : Dev nD) (t : Fin cfg0.N) (k : Fin 1024) (n : Fin 256) :
    (show FVec Ideal S1x1024x256 .bf16 from X0_3 m c t) (ix3 0 k n) = W m c (ix3 0 k ⟨6144 + n, by omega⟩) := by
  show X0_3 m c t (ix3 0 k n) = _
  unfold X0_3 Pipeline.Window.fill
  rw [dif_pos (moved0_3 t _)]
  blk_point [iblk, idx t]

/-- Window 4 holds 512 columns of the projection matrix. -/
theorem X4_at (c : Dev nD) (t : Fin cfg0.N) (k : Fin 1024) (n : Fin 512) :
    (show FVec Ideal S1x1024x512 .bf16 from X0_4 m c t) (ix3 0 k n) = W m c (ix3 0 k ⟨6656 + n, by omega⟩) := by
  show X0_4 m c t (ix3 0 k n) = _
  unfold X0_4 Pipeline.Window.fill
  rw [dif_pos (moved0_4 t _)]
  blk_point [iblk, idx t]

/-- Window 5 holds 128 columns of the projection matrix. -/
theorem X5_at (c : Dev nD) (t : Fin cfg0.N) (k : Fin 1024) (n : Fin 128) :
    (show FVec Ideal S1x1024x128 .bf16 from X0_5 m c t) (ix3 0 k n) = W m c (ix3 0 k ⟨7168 + n, by omega⟩) := by
  show X0_5 m c t (ix3 0 k n) = _
  unfold X0_5 Pipeline.Window.fill
  rw [dif_pos (moved0_5 t _)]
  blk_point [iblk, idx t]

/-- Row `a` of the block of rows of point `t`, in the array. -/
def rowOf (t : Fin cfg0.N) (a : Fin 512) : Fin 16384 :=
  ⟨t.val * 512 + a, by have := lt_of_lt_of_eq t.isLt (show cfg0.N = 32 from N_0); omega⟩

/-- The normed rows of a point's block. -/
theorem pay5_at (c : Dev nD) (t : Fin cfg0.N) (y : S512x1024.Idx) :
    k0_pay5 (F := Ideal) (iblk m c 0 t) (iblk m c 1 t) y
      = rn (fun k => X m c (ix2 (rowOf t (y 0)) k)) (fun k => G m c (ix2 0 k)) (y 1) := by
  pointwise [k0_pay5, rn, rowOf]
  blk_point [iblk, idx t]

/-- The block's projection onto the queries, the keys, the indexer's queries and its keys. -/
abbrev blk (c : Dev nD) (t : Fin cfg0.N) : FVec Ideal S512x1920 .f32 :=
  k0_pay6 (F := Ideal) (iblk m c 0 t) (iblk m c 1 t) (X0_2 m c t) (X0_3 m c t) (X0_4 m c t) (X0_5 m c t)

theorem blk_at (c : Dev nD) (t : Fin cfg0.N) (a : Fin 512) (j n : ℕ) (h : j < 1920)
    (e : n = if j < 1280 then 5120 + j else 5376 + j) :
    blk m c t (ix2 a ⟨j, h⟩) = PR (X m c) (G m c) (W m c) (rowOf t a) n := by
  pointwise [k0_pay6]
  split
  · refine Eq.trans ?_ (PR_eq _ _ _ _ (5120 + j) _ (by omega) (by rw [e, if_pos (by omega)]))
    unfold proj
    refine Finset.sum_congr rfl fun k _ => ?_
    rw [pay5_at]
    exact congrArg _ (X2_at m c t k _)
  · split
    · refine Eq.trans ?_ (PR_eq _ _ _ _ (6144 + (j - 1024)) _ (by omega) (by rw [e, if_pos (by omega)]; omega))
      unfold proj
      refine Finset.sum_congr rfl fun k _ => ?_
      rw [pay5_at]
      exact congrArg _ (X3_at m c t k _)
    · split
      · refine Eq.trans ?_ (PR_eq _ _ _ _ (6656 + (j - 1024 - 256)) _ (by omega) (by rw [e, if_neg (by omega)]; omega))
        unfold proj
        refine Finset.sum_congr rfl fun k _ => ?_
        rw [pay5_at]
        exact congrArg _ (X4_at m c t k _)
      · refine Eq.trans ?_ (PR_eq _ _ _ _ (7168 + (j - 1024 - 256 - 512)) _ (by omega) (by rw [e, if_neg (by omega)]; omega))
        unfold proj
        refine Finset.sum_congr rfl fun k _ => ?_
        rw [pay5_at]
        exact congrArg _ (X5_at m c t k _)

/-- The host's layout of the rows' tables over the lanes, and of the columns kept transposed. -/
def c128 (x : FVec Ideal S16384x16 .f32) : FVec Ideal S16384x128 .f32 :=
  concatenate S16384x128 1 [⟨S16384x16, x⟩, ⟨S16384x16, x⟩, ⟨S16384x96, broadcastInDim S16384x96 ![] bcast_S_S16384x96 (constant S_ .f32 0x3F800000#32)⟩] concatenates_S16384x16_S16384x16_S16384x96_S16384x128_d1

def s128 (x : FVec Ideal S16384x16 .f32) : FVec Ideal S16384x128 .f32 :=
  concatenate S16384x128 1 [⟨S16384x16, Host.negf x⟩, ⟨S16384x16, x⟩, ⟨S16384x96, broadcastInDim S16384x96 ![] bcast_S_S16384x96 (constant S_ .f32 0x00000000#32)⟩] concatenates_S16384x16_S16384x16_S16384x96_S16384x128_d1

def c64 (x : FVec Ideal S16384x8 .f32) : FVec Ideal S16384x128 .f32 :=
  concatenate S16384x128 1 [⟨S16384x8, x⟩, ⟨S16384x8, x⟩, ⟨S16384x48, broadcastInDim S16384x48 ![] bcast_S_S16384x48 (constant S_ .f32 0x3F800000#32)⟩,
    ⟨S16384x8, x⟩, ⟨S16384x8, x⟩, ⟨S16384x48, broadcastInDim S16384x48 ![] bcast_S_S16384x48 (constant S_ .f32 0x3F800000#32)⟩] concatenates_S16384x8_S16384x8_S16384x48_S16384x8_S16384x8_S16384x48_S16384x128_d1

def s64 (x : FVec Ideal S16384x8 .f32) : FVec Ideal S16384x128 .f32 :=
  concatenate S16384x128 1 [⟨S16384x8, Host.negf x⟩, ⟨S16384x8, x⟩, ⟨S16384x48, broadcastInDim S16384x48 ![] bcast_S_S16384x48 (constant S_ .f32 0x00000000#32)⟩,
    ⟨S16384x8, Host.negf x⟩, ⟨S16384x8, x⟩, ⟨S16384x48, broadcastInDim S16384x48 ![] bcast_S_S16384x48 (constant S_ .f32 0x00000000#32)⟩] concatenates_S16384x8_S16384x8_S16384x48_S16384x8_S16384x8_S16384x48_S16384x128_d1

def wt (w : FVec Ideal S2x1024x10312 .f32) : FVec Ideal S2x264x1024 .bf16 :=
  truncf .bf16 (transpose S2x264x1024 [0, 2, 1]
    (concatenate S2x1024x264 2 [⟨S2x1024x256, extractStridedSlice S2x1024x256 ![0, 0, 6400] w slices_S2x1024x10312_S2x1024x256_0_0_6400⟩,
      ⟨S2x1024x8, extractStridedSlice S2x1024x8 ![0, 0, 7232] w slices_S2x1024x10312_S2x1024x8_0_0_7232⟩] concatenates_S2x1024x256_S2x1024x8_S2x1024x264_d2)
    transposes_S2x1024x264_S2x264x1024_0_2_1) bitsLt_bf16_f32

theorem V_wt (c : Dev nD) : V m c main_v4 = wt (W m c) := by entry_read; rfl

theorem congr2 {α β δ : Type} (f : α → β → δ) {a a' : α} {b b' : β} (h : a = a') (k : b = b') : f a b = f a' b' := by
  subst h k; rfl

theorem congr3 {α β γ δ : Type} (f : α → β → γ → δ) {a a' : α} {b b' : β} {c c' : γ} (h : a = a') (k : b = b') (l : c = c') :
    f a b c = f a' b' c' := by
  subst h k l; rfl

set_option maxHeartbeats 2000000 in
theorem V_c128 (c : Dev nD) : V m c main_v6 = c128 (C m c) := by
  refine (StableHlo.after_last_write (i := 7) [main_v7, main_cst_0, main_v8, main_v9, main_cst_1, main_v10, main_v11, main_v12, main_cst_2, main_v13, main_v14, main_v15, main_v16] rfl rfl (by decide) _).trans ((StableHlo.nary_result _ _ _ _ _ _).trans ?_)
  have ex : StableHlo.upto hostOps0 (fun b => m (c, b)) 7 (Proc.devRef .tc main_arg3) = C m c :=
    (StableHlo.upto_unwritten (r := main_arg3) [main_v0, main_v1, main_v2, main_v3, main_v4, main_cst, main_v5] rfl (by decide) _)
  have k0 : StableHlo.upto hostOps0 (fun b => m (c, b)) 6 (Proc.devRef .tc main_cst) = (constant (F := Ideal) S_ .f32 0x3F800000#32 : FVec Ideal S_ .f32) :=
    by
      refine (StableHlo.upto_last_write (ops := (hostOps0 : List (HloOp τ sig (Elt Ideal)))) (n := 6) (i := 5) (r := main_cst) [] rfl rfl (by decide) _).trans ?_
      exact StableHlo.nullary_result (Val := Elt Ideal) main_cst (constant (F := Ideal) S_ .f32 0x3F800000#32) _ _
  have ez : StableHlo.upto hostOps0 (fun b => m (c, b)) 7 (Proc.devRef .tc main_v5) = broadcastInDim S16384x96 ![] bcast_S_S16384x96 (constant (F := Ideal) S_ .f32 0x3F800000#32) :=
    (StableHlo.upto_last_write (ops := (hostOps0 : List (HloOp τ sig (Elt Ideal)))) (n := 7) (i := 6) (r := main_v5) [] rfl rfl (by decide) _).trans ((StableHlo.unary_result _ _ _ _ _ _).trans (congrArg (broadcastInDim S16384x96 ![] bcast_S_S16384x96) k0))
  exact congr2 (fun (x : FVec Ideal S16384x16 .f32) (z : FVec Ideal S16384x96 .f32) => concatenate S16384x128 1 [⟨S16384x16, x⟩, ⟨S16384x16, x⟩, ⟨S16384x96, z⟩] concatenates_S16384x16_S16384x16_S16384x96_S16384x128_d1) ex ez

set_option maxHeartbeats 2000000 in
theorem V_s128 (c : Dev nD) : V m c main_v9 = s128 (S m c) := by
  refine (StableHlo.after_last_write (i := 11) [main_cst_1, main_v10, main_v11, main_v12, main_cst_2, main_v13, main_v14, main_v15, main_v16] rfl rfl (by decide) _).trans ((StableHlo.nary_result _ _ _ _ _ _).trans ?_)
  have n0 : StableHlo.upto hostOps0 (fun b => m (c, b)) 8 (Proc.devRef .tc main_arg4) = S m c :=
    (StableHlo.upto_unwritten (r := main_arg4) [main_v0, main_v1, main_v2, main_v3, main_v4, main_cst, main_v5, main_v6] rfl (by decide) _)
  have en : StableHlo.upto hostOps0 (fun b => m (c, b)) 11 (Proc.devRef .tc main_v7) = Host.negf (S m c) :=
    (StableHlo.upto_last_write (ops := (hostOps0 : List (HloOp τ sig (Elt Ideal)))) (n := 11) (i := 8) (r := main_v7) [main_cst_0, main_v8] rfl rfl (by decide) _).trans ((StableHlo.unary_result _ _ _ _ _ _).trans (congrArg Host.negf n0))
  have ex : StableHlo.upto hostOps0 (fun b => m (c, b)) 11 (Proc.devRef .tc main_arg4) = S m c :=
    (StableHlo.upto_unwritten (r := main_arg4) [main_v0, main_v1, main_v2, main_v3, main_v4, main_cst, main_v5, main_v6, main_v7, main_cst_0, main_v8] rfl (by decide) _)
  have k0 : StableHlo.upto hostOps0 (fun b => m (c, b)) 10 (Proc.devRef .tc main_cst_0) = (constant (F := Ideal) S_ .f32 0x00000000#32 : FVec Ideal S_ .f32) :=
    by
      refine (StableHlo.upto_last_write (ops := (hostOps0 : List (HloOp τ sig (Elt Ideal)))) (n := 10) (i := 9) (r := main_cst_0) [] rfl rfl (by decide) _).trans ?_
      exact StableHlo.nullary_result (Val := Elt Ideal) main_cst_0 (constant (F := Ideal) S_ .f32 0x00000000#32) _ _
  have ez : StableHlo.upto hostOps0 (fun b => m (c, b)) 11 (Proc.devRef .tc main_v8) = broadcastInDim S16384x96 ![] bcast_S_S16384x96 (constant (F := Ideal) S_ .f32 0x00000000#32) :=
    (StableHlo.upto_last_write (ops := (hostOps0 : List (HloOp τ sig (Elt Ideal)))) (n := 11) (i := 10) (r := main_v8) [] rfl rfl (by decide) _).trans ((StableHlo.unary_result _ _ _ _ _ _).trans (congrArg (broadcastInDim S16384x96 ![] bcast_S_S16384x96) k0))
  exact congr3 (fun (n : FVec Ideal S16384x16 .f32) (x : FVec Ideal S16384x16 .f32) (z : FVec Ideal S16384x96 .f32) => concatenate S16384x128 1 [⟨S16384x16, n⟩, ⟨S16384x16, x⟩, ⟨S16384x96, z⟩] concatenates_S16384x16_S16384x16_S16384x96_S16384x128_d1) en ex ez

set_option maxHeartbeats 2000000 in
theorem V_c64 (c : Dev nD) : V m c main_v11 = c64 (CI m c) := by
  refine (StableHlo.after_last_write (i := 14) [main_v12, main_cst_2, main_v13, main_v14, main_v15, main_v16] rfl rfl (by decide) _).trans ((StableHlo.nary_result _ _ _ _ _ _).trans ?_)
  have ex : StableHlo.upto hostOps0 (fun b => m (c, b)) 14 (Proc.devRef .tc main_arg5) = CI m c :=
    (StableHlo.upto_unwritten (r := main_arg5) [main_v0, main_v1, main_v2, main_v3, main_v4, main_cst, main_v5, main_v6, main_v7, main_cst_0, main_v8, main_v9, main_cst_1, main_v10] rfl (by decide) _)
  have k0 : StableHlo.upto hostOps0 (fun b => m (c, b)) 13 (Proc.devRef .tc main_cst_1) = (constant (F := Ideal) S_ .f32 0x3F800000#32 : FVec Ideal S_ .f32) :=
    by
      refine (StableHlo.upto_last_write (ops := (hostOps0 : List (HloOp τ sig (Elt Ideal)))) (n := 13) (i := 12) (r := main_cst_1) [] rfl rfl (by decide) _).trans ?_
      exact StableHlo.nullary_result (Val := Elt Ideal) main_cst_1 (constant (F := Ideal) S_ .f32 0x3F800000#32) _ _
  have ez : StableHlo.upto hostOps0 (fun b => m (c, b)) 14 (Proc.devRef .tc main_v10) = broadcastInDim S16384x48 ![] bcast_S_S16384x48 (constant (F := Ideal) S_ .f32 0x3F800000#32) :=
    (StableHlo.upto_last_write (ops := (hostOps0 : List (HloOp τ sig (Elt Ideal)))) (n := 14) (i := 13) (r := main_v10) [] rfl rfl (by decide) _).trans ((StableHlo.unary_result _ _ _ _ _ _).trans (congrArg (broadcastInDim S16384x48 ![] bcast_S_S16384x48) k0))
  exact congr2 (fun (x : FVec Ideal S16384x8 .f32) (z : FVec Ideal S16384x48 .f32) => concatenate S16384x128 1 [⟨S16384x8, x⟩, ⟨S16384x8, x⟩, ⟨S16384x48, z⟩, ⟨S16384x8, x⟩, ⟨S16384x8, x⟩, ⟨S16384x48, z⟩] concatenates_S16384x8_S16384x8_S16384x48_S16384x8_S16384x8_S16384x48_S16384x128_d1) ex ez

set_option maxHeartbeats 2000000 in
theorem V_s64 (c : Dev nD) : V m c main_v14 = s64 (SI m c) := by
  refine (StableHlo.after_last_write (i := 18) [main_v15, main_v16] rfl rfl (by decide) _).trans ((StableHlo.nary_result _ _ _ _ _ _).trans ?_)
  have n0 : StableHlo.upto hostOps0 (fun b => m (c, b)) 15 (Proc.devRef .tc main_arg6) = SI m c :=
    (StableHlo.upto_unwritten (r := main_arg6) [main_v0, main_v1, main_v2, main_v3, main_v4, main_cst, main_v5, main_v6, main_v7, main_cst_0, main_v8, main_v9, main_cst_1, main_v10, main_v11] rfl (by decide) _)
  have en : StableHlo.upto hostOps0 (fun b => m (c, b)) 18 (Proc.devRef .tc main_v12) = Host.negf (SI m c) :=
    (StableHlo.upto_last_write (ops := (hostOps0 : List (HloOp τ sig (Elt Ideal)))) (n := 18) (i := 15) (r := main_v12) [main_cst_2, main_v13] rfl rfl (by decide) _).trans ((StableHlo.unary_result _ _ _ _ _ _).trans (congrArg Host.negf n0))
  have ex : StableHlo.upto hostOps0 (fun b => m (c, b)) 18 (Proc.devRef .tc main_arg6) = SI m c :=
    (StableHlo.upto_unwritten (r := main_arg6) [main_v0, main_v1, main_v2, main_v3, main_v4, main_cst, main_v5, main_v6, main_v7, main_cst_0, main_v8, main_v9, main_cst_1, main_v10, main_v11, main_v12, main_cst_2, main_v13] rfl (by decide) _)
  have k0 : StableHlo.upto hostOps0 (fun b => m (c, b)) 17 (Proc.devRef .tc main_cst_2) = (constant (F := Ideal) S_ .f32 0x00000000#32 : FVec Ideal S_ .f32) :=
    by
      refine (StableHlo.upto_last_write (ops := (hostOps0 : List (HloOp τ sig (Elt Ideal)))) (n := 17) (i := 16) (r := main_cst_2) [] rfl rfl (by decide) _).trans ?_
      exact StableHlo.nullary_result (Val := Elt Ideal) main_cst_2 (constant (F := Ideal) S_ .f32 0x00000000#32) _ _
  have ez : StableHlo.upto hostOps0 (fun b => m (c, b)) 18 (Proc.devRef .tc main_v13) = broadcastInDim S16384x48 ![] bcast_S_S16384x48 (constant (F := Ideal) S_ .f32 0x00000000#32) :=
    (StableHlo.upto_last_write (ops := (hostOps0 : List (HloOp τ sig (Elt Ideal)))) (n := 18) (i := 17) (r := main_v13) [] rfl rfl (by decide) _).trans ((StableHlo.unary_result _ _ _ _ _ _).trans (congrArg (broadcastInDim S16384x48 ![] bcast_S_S16384x48) k0))
  exact congr3 (fun (n : FVec Ideal S16384x8 .f32) (x : FVec Ideal S16384x8 .f32) (z : FVec Ideal S16384x48 .f32) => concatenate S16384x128 1 [⟨S16384x8, n⟩, ⟨S16384x8, x⟩, ⟨S16384x48, z⟩, ⟨S16384x8, n⟩, ⟨S16384x8, x⟩, ⟨S16384x48, z⟩] concatenates_S16384x8_S16384x8_S16384x48_S16384x8_S16384x8_S16384x48_S16384x128_d1) en ex ez

theorem tabs_at (c : Dev nD) (t : Fin cfg0.N) (y : S512x128.Idx) :
    (show FVec Ideal S512x128 .f32 from iblk m c 7 t) y = c128 (C m c) (ix2 (rowOf t (y 0)) (y 1))
    ∧ (show FVec Ideal S512x128 .f32 from iblk m c 8 t) y = s128 (S m c) (ix2 (rowOf t (y 0)) (y 1))
    ∧ (show FVec Ideal S512x128 .f32 from iblk m c 9 t) y = c64 (CI m c) (ix2 (rowOf t (y 0)) (y 1))
    ∧ (show FVec Ideal S512x128 .f32 from iblk m c 10 t) y = s64 (SI m c) (ix2 (rowOf t (y 0)) (y 1)) := by
  rw [← V_c128, ← V_s128, ← V_c64, ← V_s64]
  unfold rowOf
  refine ⟨?_, ?_, ?_, ?_⟩ <;> blk_ext [iblk, idx t]

theorem wt_at (c : Dev nD) (t : Fin cfg0.N) (n : Fin 264) (k : Fin 1024) :
    (show FVec Ideal S1x264x1024 .bf16 from iblk m c 6 t) (ix3 0 n k) = wt (W m c) (ix3 0 n k) := by
  rw [← V_wt]
  blk_ext [iblk, idx t]

theorem wt_v (w : FVec Ideal S2x1024x10312 .f32) (n : Fin 256) (k : Fin 1024) :
    wt w (ix3 0 ⟨n.val, by omega⟩ k) = w (ix3 0 k ⟨6400 + n.val, by omega⟩) := by
  pointwise [wt]

theorem wt_wi (w : FVec Ideal S2x1024x10312 .f32) (n : Fin 8) (k : Fin 1024) :
    wt w (ix3 0 ⟨256 + n.val, by omega⟩ k) = w (ix3 0 k ⟨7232 + n.val, by omega⟩) := by
  pointwise [wt]

/-- The same lane of both halves of a table laid out twice, its first entries, its second and the rest. -/
theorem twice (d : ℕ) (hd : d < 128) (f g : ℕ → EReal) (z : EReal) (A : d < 8 → EReal) (B : ¬d < 8 → d - 8 < 8 → EReal)
    (D : ¬d < 8 → ¬d - 8 < 8 → ¬d - 8 - 8 < 48 → d - 8 - 8 - 48 < 8 → EReal)
    (E : ¬d < 8 → ¬d - 8 < 8 → ¬d - 8 - 8 < 48 → ¬d - 8 - 8 - 48 < 8 → d - 8 - 8 - 48 - 8 < 8 → EReal)
    (hA : ∀ h, A h = f d) (hB : ∀ h h', B h h' = g (d - 8)) (hD : ∀ h1 h2 h3 h4, D h1 h2 h3 h4 = f (d - 8 - 8 - 48))
    (hE : ∀ h1 h2 h3 h4 h5, E h1 h2 h3 h4 h5 = g (d - 8 - 8 - 48 - 8)) :
    (if h1 : d < 8 then A h1 else if h2 : d - 8 < 8 then B h1 h2 else if h3 : d - 8 - 8 < 48 then z
      else if h4 : d - 8 - 8 - 48 < 8 then D h1 h2 h3 h4 else if h5 : d - 8 - 8 - 48 - 8 < 8 then E h1 h2 h3 h4 h5 else z)
      = if d % 64 < 8 then f (d % 64) else if d % 64 < 8 + 8 then g (d % 64 - 8) else z := by
  by_cases h1 : d < 8
  · rw [dif_pos h1, if_pos (by omega), hA]; congr 1; omega
  · rw [dif_neg h1]
    by_cases h2 : d - 8 < 8
    · rw [dif_pos h2, if_neg (by omega), if_pos (by omega), hB]; congr 1; omega
    · rw [dif_neg h2]
      by_cases h3 : d - 8 - 8 < 48
      · rw [dif_pos h3, if_neg (by omega), if_neg (by omega)]
      · rw [dif_neg h3]
        by_cases h4 : d - 8 - 8 - 48 < 8
        · rw [dif_pos h4, if_pos (by omega), hD]; congr 1; omega
        · rw [dif_neg h4]
          by_cases h5 : d - 8 - 8 - 48 - 8 < 8
          · rw [dif_pos h5, if_neg (by omega), if_pos (by omega), hE]; congr 1; omega
          · rw [dif_neg h5, if_neg (by omega), if_neg (by omega)]

theorem c64_at (x : FVec Ideal S16384x8 .f32) (r : Fin 16384) (d : Fin 128) :
    c64 x (ix2 r d) = if d.val % 64 < 8 then row (fun j => x (ix2 r j)) (d.val % 64)
      else if d.val % 64 < 8 + 8 then row (fun j => x (ix2 r j)) (d.val % 64 - 8) else 1 := by
  pointwise [c64]
  exact twice d.val d.isLt (row fun j => x (ix2 r j)) (row fun j => x (ix2 r j)) 1 _ _ _ _ (fun h => (row_at (fun j => x (ix2 r j)) _ h).symm)
    (fun _ h => (row_at (fun j => x (ix2 r j)) _ h).symm) (fun _ _ _ h => (row_at (fun j => x (ix2 r j)) _ h).symm) (fun _ _ _ _ h => (row_at (fun j => x (ix2 r j)) _ h).symm)

theorem s64_at (x : FVec Ideal S16384x8 .f32) (r : Fin 16384) (d : Fin 128) :
    s64 x (ix2 r d) = if d.val % 64 < 8 then -row (fun j => x (ix2 r j)) (d.val % 64)
      else if d.val % 64 < 8 + 8 then row (fun j => x (ix2 r j)) (d.val % 64 - 8) else 0 := by
  pointwise [s64]
  exact twice d.val d.isLt (fun n => -row (fun j => x (ix2 r j)) n) (row fun j => x (ix2 r j)) 0 _ _ _ _
    (fun h => congrArg _ (row_at (fun j => x (ix2 r j)) _ h).symm) (fun _ h => (row_at (fun j => x (ix2 r j)) _ h).symm) (fun _ _ _ h => congrArg _ (row_at (fun j => x (ix2 r j)) _ h).symm)
    (fun _ _ _ _ h => (row_at (fun j => x (ix2 r j)) _ h).symm)

/-- A table's first entries, its second and the rest. -/
theorem once (d : ℕ) (f g : ℕ → EReal) (z : EReal) (A : d < 16 → EReal) (B : ¬d < 16 → d - 16 < 16 → EReal)
    (hA : ∀ h, A h = f d) (hB : ∀ h h', B h h' = g (d - 16)) :
    (if h1 : d < 16 then A h1 else if h2 : d - 16 < 16 then B h1 h2 else z)
      = if d < 16 then f d else if d < 16 + 16 then g (d - 16) else z := by
  by_cases h1 : d < 16
  · rw [dif_pos h1, if_pos h1, hA]
  · rw [dif_neg h1, if_neg h1]
    by_cases h2 : d - 16 < 16
    · rw [dif_pos h2, if_pos (by omega), hB]
    · rw [dif_neg h2, if_neg (by omega)]

theorem c128_at (x : FVec Ideal S16384x16 .f32) (r : Fin 16384) (d : Fin 128) :
    c128 x (ix2 r d) = if d.val < 16 then row (fun j => x (ix2 r j)) d.val
      else if d.val < 16 + 16 then row (fun j => x (ix2 r j)) (d.val - 16) else 1 := by
  pointwise [c128]
  exact once d.val (row fun j => x (ix2 r j)) (row fun j => x (ix2 r j)) 1 _ _ (fun h => (row_at (fun j => x (ix2 r j)) _ h).symm) (fun _ h => (row_at (fun j => x (ix2 r j)) _ h).symm)

theorem s128_at (x : FVec Ideal S16384x16 .f32) (r : Fin 16384) (d : Fin 128) :
    s128 x (ix2 r d) = if d.val < 16 then -row (fun j => x (ix2 r j)) d.val
      else if d.val < 16 + 16 then row (fun j => x (ix2 r j)) (d.val - 16) else 0 := by
  pointwise [s128]
  exact once d.val (fun n => -row (fun j => x (ix2 r j)) n) (row fun j => x (ix2 r j)) 0 _ _ (fun h => congrArg _ (row_at (fun j => x (ix2 r j)) _ h).symm)
    (fun _ h => (row_at (fun j => x (ix2 r j)) _ h).symm)

theorem mask16 (y : S512x128.Idx) : k0_pay11 y = if (y 1).val < 16 then 1#1 else 0#1 := by
  pointwise [k0_pay11]
  generalize (y 1) = d
  revert d
  exact (by decide +kernel : ∀ d : Fin 128, IntOp.cmpi CmpIPredicate.slt (BitVec.ofNat 32 d.val) 16#32 = if d.val < 16 then 1#1 else 0#1)

theorem mask8 (y : S512x128.Idx) : k0_pay12 y = if (y 1).val % 64 < 8 then 1#1 else 0#1 := by
  pointwise [k0_pay12]
  generalize (y 1) = d
  revert d
  show ∀ d : Fin 128, _
  decide +kernel

/-- A lane of a block of 128 columns rotated by the main tables. -/
theorem lane16 (c : Dev nD) (t : Fin cfg0.N) (y : S512x128.Idx) (o w j0 jp jm : ℕ) (h0 : j0 < 1920) (hp : jp < 1920) (hm : jm < 1920)
    (ho : o < 1280) (hw : w = 5120 + o) (e0 : j0 = o + (y 1).val) (ep : jp = o + ((y 1).val + 128 - 112) % 128)
    (em : jm = o + ((y 1).val + 128 - 16) % 128) (hd : o % 128 = 0) :
    blk m c t (ix2 (y 0) ⟨j0, h0⟩) * (show FVec Ideal S512x128 .f32 from iblk m c 7 t) y
        + Scalar.select (k0_pay11 y) (blk m c t (ix2 (y 0) ⟨jp, hp⟩)) (blk m c t (ix2 (y 0) ⟨jm, hm⟩))
          * (show FVec Ideal S512x128 .f32 from iblk m c 8 t) y
      = head 16 w (X m c) (G m c) (W m c) (C m c) (S m c) (rowOf t (y 0)) (y 1).val := by
  have l : (y 1).val < 128 := (y 1).isLt
  exact rope_lane 16 (y 1).val _ _ _ _ _ _ _ _ _ (mask16 y)
    (blk_at m c t _ _ _ _ (by rw [if_pos (by omega)]; omega))
    (fun h => blk_at m c t _ _ _ _ (by rw [if_pos (by omega)]; omega))
    (fun h h' => blk_at m c t _ _ _ _ (by rw [if_pos (by omega)]; omega))
    ((tabs_at m c t y).1.trans (c128_at _ _ _)) ((tabs_at m c t y).2.1.trans (s128_at _ _ _))

/-- A lane of a block of 128 columns, two heads, rotated by the indexer's tables. -/
theorem lane8 (c : Dev nD) (t : Fin cfg0.N) (y : S512x128.Idx) (o w j0 jp jm : ℕ) (h0 : j0 < 1920) (hp : jp < 1920) (hm : jm < 1920)
    (ho : 1280 ≤ o) (hw : w = 5376 + o + (y 1).val / 64 * 64) (e0 : j0 = o + (y 1).val) (ep : jp = o + ((y 1).val + 128 - 120) % 128)
    (em : jm = o + ((y 1).val + 128 - 8) % 128) (hd : o % 128 = 0) :
    blk m c t (ix2 (y 0) ⟨j0, h0⟩) * (show FVec Ideal S512x128 .f32 from iblk m c 9 t) y
        + Scalar.select (k0_pay12 y) (blk m c t (ix2 (y 0) ⟨jp, hp⟩)) (blk m c t (ix2 (y 0) ⟨jm, hm⟩))
          * (show FVec Ideal S512x128 .f32 from iblk m c 10 t) y
      = head 8 w (X m c) (G m c) (W m c) (CI m c) (SI m c) (rowOf t (y 0)) ((y 1).val % 64) := by
  have l : (y 1).val < 128 := (y 1).isLt
  exact rope_lane 8 ((y 1).val % 64) _ _ _ _ _ _ _ _ _ (mask8 y)
    (blk_at m c t _ _ _ _ (by rw [if_neg (by omega)]; omega))
    (fun h => blk_at m c t _ _ _ _ (by rw [if_neg (by omega)]; omega))
    (fun h h' => blk_at m c t _ _ _ _ (by rw [if_neg (by omega)]; omega))
    ((tabs_at m c t y).2.2.1.trans (c64_at _ _ _)) ((tabs_at m c t y).2.2.2.trans (s64_at _ _ _))

theorem Q_head (x g w c s) (r : Fin 16384) (n o d : ℕ) (h : o = 5120 + n / 128 * 128) (e : d = n % 128) :
    head 16 o x g w c s r d * Named.named (F := Ideal) Cert.QkvIdeal.κ "q_scale" (φ := .f32) 0x3E0293EE#32 = Q x g w c s r n := by
  subst h e
  exact congrArg (_ * ·) (IdealRules.named_const.ideal_named_scalar _ _ _ _ rfl)

theorem K_head (x g w c s) (r : Fin 16384) (n o d : ℕ) (h : o = 6144 + n / 128 * 128) (e : d = n % 128) :
    head 16 o x g w c s r d = K x g w c s r n := by subst h e; rfl

theorem QI_head (x g w c s) (r : Fin 16384) (n o d : ℕ) (h : o = 6656 + n / 64 * 64) (e : d = n % 64) :
    head 8 o x g w c s r d = QI x g w c s r n := by subst h e; rfl

theorem q_0 (c : Dev nD) (t : Fin cfg0.N) (y : S512x128.Idx) :
    k0_pay19 (F := Ideal) k0_pay11 (k0_pay13 (iblk m c 7 t)) (k0_pay14 (iblk m c 8 t)) (k0_pay17 (blk m c t)) (k0_pay18 (blk m c t)) y
      = Q (X m c) (G m c) (W m c) (C m c) (S m c) (rowOf t (y 0)) (0 + (y 1).val) := by
  have l : (y 1).val < 128 := (y 1).isLt
  pointwise [k0_pay19, k0_pay17, k0_pay18, k0_pay13, k0_pay14]
  exact (congrArg (· * _) (lane16 m c t y 0 5120 _ _ _ _ _ _ (by omega) (by omega) (by omega) (by omega) (by omega) (by omega))).trans
    (Q_head _ _ _ _ _ _ _ _ _ (by omega) (by omega))

theorem q_1 (c : Dev nD) (t : Fin cfg0.N) (y : S512x128.Idx) :
    k0_pay20 (F := Ideal) (blk m c t) k0_pay11 (k0_pay13 (iblk m c 7 t)) (k0_pay14 (iblk m c 8 t)) y
      = Q (X m c) (G m c) (W m c) (C m c) (S m c) (rowOf t (y 0)) (128 + (y 1).val) := by
  have l : (y 1).val < 128 := (y 1).isLt
  pointwise [k0_pay20, k0_pay13, k0_pay14]
  exact (congrArg (· * _) (lane16 m c t y 128 5248 _ _ _ _ _ _ (by omega) (by omega) (by omega) (by omega) (by omega) (by omega))).trans
    (Q_head _ _ _ _ _ _ _ _ _ (by omega) (by omega))

theorem q_2 (c : Dev nD) (t : Fin cfg0.N) (y : S512x128.Idx) :
    k0_pay21 (F := Ideal) (blk m c t) k0_pay11 (k0_pay13 (iblk m c 7 t)) (k0_pay14 (iblk m c 8 t)) y
      = Q (X m c) (G m c) (W m c) (C m c) (S m c) (rowOf t (y 0)) (256 + (y 1).val) := by
  have l : (y 1).val < 128 := (y 1).isLt
  pointwise [k0_pay21, k0_pay13, k0_pay14]
  exact (congrArg (· * _) (lane16 m c t y 256 5376 _ _ _ _ _ _ (by omega) (by omega) (by omega) (by omega) (by omega) (by omega))).trans
    (Q_head _ _ _ _ _ _ _ _ _ (by omega) (by omega))

theorem q_3 (c : Dev nD) (t : Fin cfg0.N) (y : S512x128.Idx) :
    k0_pay23 (F := Ideal) (k0_pay22 (blk m c t) k0_pay11 (k0_pay13 (iblk m c 7 t)) (k0_pay14 (iblk m c 8 t))) y
      = Q (X m c) (G m c) (W m c) (C m c) (S m c) (rowOf t (y 0)) (384 + (y 1).val) := by
  have l : (y 1).val < 128 := (y 1).isLt
  pointwise [k0_pay23, k0_pay22, k0_pay13, k0_pay14]
  exact (congrArg (· * _) (lane16 m c t y 384 5504 _ _ _ _ _ _ (by omega) (by omega) (by omega) (by omega) (by omega) (by omega))).trans
    (Q_head _ _ _ _ _ _ _ _ _ (by omega) (by omega))

theorem q_4 (c : Dev nD) (t : Fin cfg0.N) (y : S512x128.Idx) :
    k0_pay24 (F := Ideal) (blk m c t) k0_pay11 (k0_pay13 (iblk m c 7 t)) (k0_pay14 (iblk m c 8 t)) y
      = Q (X m c) (G m c) (W m c) (C m c) (S m c) (rowOf t (y 0)) (512 + (y 1).val) := by
  have l : (y 1).val < 128 := (y 1).isLt
  pointwise [k0_pay24, k0_pay13, k0_pay14]
  exact (congrArg (· * _) (lane16 m c t y 512 5632 _ _ _ _ _ _ (by omega) (by omega) (by omega) (by omega) (by omega) (by omega))).trans
    (Q_head _ _ _ _ _ _ _ _ _ (by omega) (by omega))

theorem q_5 (c : Dev nD) (t : Fin cfg0.N) (y : S512x128.Idx) :
    k0_pay25 (F := Ideal) (blk m c t) k0_pay11 (k0_pay13 (iblk m c 7 t)) (k0_pay14 (iblk m c 8 t)) y
      = Q (X m c) (G m c) (W m c) (C m c) (S m c) (rowOf t (y 0)) (640 + (y 1).val) := by
  have l : (y 1).val < 128 := (y 1).isLt
  pointwise [k0_pay25, k0_pay13, k0_pay14]
  exact (congrArg (· * _) (lane16 m c t y 640 5760 _ _ _ _ _ _ (by omega) (by omega) (by omega) (by omega) (by omega) (by omega))).trans
    (Q_head _ _ _ _ _ _ _ _ _ (by omega) (by omega))

theorem q_6 (c : Dev nD) (t : Fin cfg0.N) (y : S512x128.Idx) :
    k0_pay26 (F := Ideal) (blk m c t) k0_pay11 (k0_pay13 (iblk m c 7 t)) (k0_pay14 (iblk m c 8 t)) y
      = Q (X m c) (G m c) (W m c) (C m c) (S m c) (rowOf t (y 0)) (768 + (y 1).val) := by
  have l : (y 1).val < 128 := (y 1).isLt
  pointwise [k0_pay26, k0_pay13, k0_pay14]
  exact (congrArg (· * _) (lane16 m c t y 768 5888 _ _ _ _ _ _ (by omega) (by omega) (by omega) (by omega) (by omega) (by omega))).trans
    (Q_head _ _ _ _ _ _ _ _ _ (by omega) (by omega))

theorem q_7 (c : Dev nD) (t : Fin cfg0.N) (y : S512x128.Idx) :
    k0_pay29 (F := Ideal) k0_pay11 (k0_pay13 (iblk m c 7 t)) (k0_pay14 (iblk m c 8 t)) (k0_pay27 (blk m c t)) (k0_pay28 (blk m c t)) 16#32 y
      = Q (X m c) (G m c) (W m c) (C m c) (S m c) (rowOf t (y 0)) (896 + (y 1).val) := by
  have l : (y 1).val < 128 := (y 1).isLt
  pointwise [k0_pay29, k0_pay27, k0_pay28, k0_pay13, k0_pay14]
  exact (congrArg (· * _) (lane16 m c t y 896 6016 _ _ _ _ _ _ (by omega) (by omega) (by omega) (by omega) (by omega) (by omega))).trans
    (Q_head _ _ _ _ _ _ _ _ _ (by omega) (by omega))

theorem k_0 (c : Dev nD) (t : Fin cfg0.N) (y : S512x128.Idx) :
    k0_pay30 (F := Ideal) (blk m c t) k0_pay11 (k0_pay13 (iblk m c 7 t)) (k0_pay14 (iblk m c 8 t)) y
      = K (X m c) (G m c) (W m c) (C m c) (S m c) (rowOf t (y 0)) (0 + (y 1).val) := by
  have l : (y 1).val < 128 := (y 1).isLt
  pointwise [k0_pay30, k0_pay13, k0_pay14]
  exact (lane16 m c t y 1024 6144 _ _ _ _ _ _ (by omega) (by omega) (by omega) (by omega) (by omega) (by omega)).trans
    (K_head _ _ _ _ _ _ _ _ _ (by omega) (by omega))

theorem k_1 (c : Dev nD) (t : Fin cfg0.N) (y : S512x128.Idx) :
    k0_pay31 (F := Ideal) (blk m c t) k0_pay11 (k0_pay13 (iblk m c 7 t)) (k0_pay14 (iblk m c 8 t)) y
      = K (X m c) (G m c) (W m c) (C m c) (S m c) (rowOf t (y 0)) (128 + (y 1).val) := by
  have l : (y 1).val < 128 := (y 1).isLt
  pointwise [k0_pay31, k0_pay13, k0_pay14]
  exact (lane16 m c t y 1152 6272 _ _ _ _ _ _ (by omega) (by omega) (by omega) (by omega) (by omega) (by omega)).trans
    (K_head _ _ _ _ _ _ _ _ _ (by omega) (by omega))

theorem qi_0 (c : Dev nD) (t : Fin cfg0.N) (y : S512x128.Idx) :
    k0_pay32 (F := Ideal) (blk m c t) k0_pay12 (k0_pay15 (iblk m c 9 t)) (k0_pay16 (iblk m c 10 t)) y
      = QI (X m c) (G m c) (W m c) (CI m c) (SI m c) (rowOf t (y 0)) (0 + (y 1).val) := by
  have l : (y 1).val < 128 := (y 1).isLt
  pointwise [k0_pay32, k0_pay15, k0_pay16]
  exact (lane8 m c t y 1280 (6656 + (y 1).val / 64 * 64) _ _ _ _ _ _ (by omega) (by omega) (by omega) (by omega) (by omega) (by omega)).trans
    (QI_head _ _ _ _ _ _ _ _ _ (by omega) (by omega))

theorem qi_1 (c : Dev nD) (t : Fin cfg0.N) (y : S512x128.Idx) :
    k0_pay1 (F := Ideal) k0_pay12 (k0_pay15 (iblk m c 9 t)) (k0_pay16 (iblk m c 10 t)) (k0_pay33 (blk m c t)) (k0_pay34 (blk m c t)) (k0_pay35 (blk m c t)) y
      = QI (X m c) (G m c) (W m c) (CI m c) (SI m c) (rowOf t (y 0)) (128 + (y 1).val) := by
  have l : (y 1).val < 128 := (y 1).isLt
  pointwise [k0_pay1, k0_pay33, k0_pay34, k0_pay35, k0_pay15, k0_pay16]
  exact (lane8 m c t y 1408 (6784 + (y 1).val / 64 * 64) _ _ _ _ _ _ (by omega) (by omega) (by omega) (by omega) (by omega) (by omega)).trans
    (QI_head _ _ _ _ _ _ _ _ _ (by omega) (by omega))

theorem qi_2 (c : Dev nD) (t : Fin cfg0.N) (y : S512x128.Idx) :
    k0_pay2 (F := Ideal) (blk m c t) k0_pay12 (k0_pay15 (iblk m c 9 t)) (k0_pay16 (iblk m c 10 t)) y
      = QI (X m c) (G m c) (W m c) (CI m c) (SI m c) (rowOf t (y 0)) (256 + (y 1).val) := by
  have l : (y 1).val < 128 := (y 1).isLt
  pointwise [k0_pay2, k0_pay15, k0_pay16]
  exact (lane8 m c t y 1536 (6912 + (y 1).val / 64 * 64) _ _ _ _ _ _ (by omega) (by omega) (by omega) (by omega) (by omega) (by omega)).trans
    (QI_head _ _ _ _ _ _ _ _ _ (by omega) (by omega))

theorem qi_3 (c : Dev nD) (t : Fin cfg0.N) (y : S512x128.Idx) :
    k0_pay3 (F := Ideal) (blk m c t) k0_pay12 (k0_pay15 (iblk m c 9 t)) (k0_pay16 (iblk m c 10 t)) y
      = QI (X m c) (G m c) (W m c) (CI m c) (SI m c) (rowOf t (y 0)) (384 + (y 1).val) := by
  have l : (y 1).val < 128 := (y 1).isLt
  pointwise [k0_pay3, k0_pay15, k0_pay16]
  exact (lane8 m c t y 1664 (7040 + (y 1).val / 64 * 64) _ _ _ _ _ _ (by omega) (by omega) (by omega) (by omega) (by omega) (by omega)).trans
    (QI_head _ _ _ _ _ _ _ _ _ (by omega) (by omega))

theorem ki_0 (c : Dev nD) (t : Fin cfg0.N) (y : S512x64.Idx) :
    k0_pay4 (F := Ideal) (blk m c t) k0_pay12 (k0_pay15 (iblk m c 9 t)) (k0_pay16 (iblk m c 10 t)) y = KI (X m c) (G m c) (W m c) (CI m c) (SI m c) (rowOf t (y 0)) (y 1).val := by
  have l : (y 1).val < 64 := (y 1).isLt
  pointwise [k0_pay4, k0_pay15, k0_pay16]
  refine (lane8 m c t (ix2 (y 0) ⟨(y 1).val, by omega⟩) 1792 7168 _ _ _ _ _ _ (by omega) (by show _ = 5376 + 1792 + (y 1).val / 64 * 64; omega)
    (by first | rfl | (show _ = 1792 + (y 1).val; omega)) (by rfl) (by rfl) (by omega)).trans ?_
  unfold KI
  refine congrArg _ (?_ : (y 1).val % 64 = (y 1).val)
  omega

theorem out11 (c : Dev nD) (t : Fin cfg0.N) (y : S512x1024.Idx) :
    (show FVec Ideal S512x1024 .bf16 from (outsAt0 m c t).1) y = Q (X m c) (G m c) (W m c) (C m c) (S m c) (rowOf t (y 0)) (y 1).val := by
  unfold outsAt0
  dsimp only
  frame_out
  refine View.canon_apply_of_pieces (Val := Elt Ideal) (e := .bf16) (fun y : S512x1024.Idx => (show Elt Ideal .bf16 from Q (X m c) (G m c) (W m c) (C m c) (S m c) (rowOf t (y 0)) (y 1).val)) _ (fun p hp x => ?_) y
    (View.cover_of_tiledL (s := S512x1024) _ ![512, 128] (by sl_kernel_rfl) y)
  simp only [List.mem_cons, List.not_mem_nil, or_false] at hp
  rcases hp with rfl | rfl | rfl | rfl | rfl | rfl | rfl | rfl
  · exact (q_7 m c t x).trans (congrArg₂ (Q (X m c) (G m c) (W m c) (C m c) (S m c))
      (congrArg (rowOf t) (Fin.ext (by show (x 0).val = 0 + 1 * (x 0).val; omega))) (by show 896 + (x 1).val = 896 + 1 * (x 1).val; omega))
  · exact (q_6 m c t x).trans (congrArg₂ (Q (X m c) (G m c) (W m c) (C m c) (S m c))
      (congrArg (rowOf t) (Fin.ext (by show (x 0).val = 0 + 1 * (x 0).val; omega))) (by show 768 + (x 1).val = 768 + 1 * (x 1).val; omega))
  · exact (q_5 m c t x).trans (congrArg₂ (Q (X m c) (G m c) (W m c) (C m c) (S m c))
      (congrArg (rowOf t) (Fin.ext (by show (x 0).val = 0 + 1 * (x 0).val; omega))) (by show 640 + (x 1).val = 640 + 1 * (x 1).val; omega))
  · exact (q_4 m c t x).trans (congrArg₂ (Q (X m c) (G m c) (W m c) (C m c) (S m c))
      (congrArg (rowOf t) (Fin.ext (by show (x 0).val = 0 + 1 * (x 0).val; omega))) (by show 512 + (x 1).val = 512 + 1 * (x 1).val; omega))
  · exact (q_3 m c t x).trans (congrArg₂ (Q (X m c) (G m c) (W m c) (C m c) (S m c))
      (congrArg (rowOf t) (Fin.ext (by show (x 0).val = 0 + 1 * (x 0).val; omega))) (by show 384 + (x 1).val = 384 + 1 * (x 1).val; omega))
  · exact (q_2 m c t x).trans (congrArg₂ (Q (X m c) (G m c) (W m c) (C m c) (S m c))
      (congrArg (rowOf t) (Fin.ext (by show (x 0).val = 0 + 1 * (x 0).val; omega))) (by show 256 + (x 1).val = 256 + 1 * (x 1).val; omega))
  · exact (q_1 m c t x).trans (congrArg₂ (Q (X m c) (G m c) (W m c) (C m c) (S m c))
      (congrArg (rowOf t) (Fin.ext (by show (x 0).val = 0 + 1 * (x 0).val; omega))) (by show 128 + (x 1).val = 128 + 1 * (x 1).val; omega))
  · exact (q_0 m c t x).trans (congrArg₂ (Q (X m c) (G m c) (W m c) (C m c) (S m c))
      (congrArg (rowOf t) (Fin.ext (by show (x 0).val = 0 + 1 * (x 0).val; omega))) (by show 0 + (x 1).val = 0 + 1 * (x 1).val; omega))

theorem out12 (c : Dev nD) (t : Fin cfg0.N) (y : S512x256.Idx) :
    (show FVec Ideal S512x256 .bf16 from (outsAt0 m c t).2.1) y = K (X m c) (G m c) (W m c) (C m c) (S m c) (rowOf t (y 0)) (y 1).val := by
  unfold outsAt0
  dsimp only
  frame_out
  refine View.canon_apply_of_pieces (Val := Elt Ideal) (e := .bf16) (fun y : S512x256.Idx => (show Elt Ideal .bf16 from K (X m c) (G m c) (W m c) (C m c) (S m c) (rowOf t (y 0)) (y 1).val)) _ (fun p hp x => ?_) y
    (View.cover_of_tiledL (s := S512x256) _ ![512, 128] (by sl_kernel_rfl) y)
  simp only [List.mem_cons, List.not_mem_nil, or_false] at hp
  rcases hp with rfl | rfl
  · exact (k_1 m c t x).trans (congrArg₂ (K (X m c) (G m c) (W m c) (C m c) (S m c))
      (congrArg (rowOf t) (Fin.ext (by show (x 0).val = 0 + 1 * (x 0).val; omega))) (by show 128 + (x 1).val = 128 + 1 * (x 1).val; omega))
  · exact (k_0 m c t x).trans (congrArg₂ (K (X m c) (G m c) (W m c) (C m c) (S m c))
      (congrArg (rowOf t) (Fin.ext (by show (x 0).val = 0 + 1 * (x 0).val; omega))) (by show 0 + (x 1).val = 0 + 1 * (x 1).val; omega))

theorem out13 (c : Dev nD) (t : Fin cfg0.N) (y : S512x512.Idx) :
    (show FVec Ideal S512x512 .bf16 from (outsAt0 m c t).2.2.1) y = QI (X m c) (G m c) (W m c) (CI m c) (SI m c) (rowOf t (y 0)) (y 1).val := by
  unfold outsAt0
  dsimp only
  frame_out
  refine View.canon_apply_of_pieces (Val := Elt Ideal) (e := .bf16) (fun y : S512x512.Idx => (show Elt Ideal .bf16 from QI (X m c) (G m c) (W m c) (CI m c) (SI m c) (rowOf t (y 0)) (y 1).val)) _ (fun p hp x => ?_) y
    (View.cover_of_tiledL (s := S512x512) _ ![512, 128] (by sl_kernel_rfl) y)
  simp only [List.mem_cons, List.not_mem_nil, or_false] at hp
  rcases hp with rfl | rfl | rfl | rfl
  · exact (qi_3 m c t x).trans (congrArg₂ (QI (X m c) (G m c) (W m c) (CI m c) (SI m c))
      (congrArg (rowOf t) (Fin.ext (by show (x 0).val = 0 + 1 * (x 0).val; omega))) (by show 384 + (x 1).val = 384 + 1 * (x 1).val; omega))
  · exact (qi_2 m c t x).trans (congrArg₂ (QI (X m c) (G m c) (W m c) (CI m c) (SI m c))
      (congrArg (rowOf t) (Fin.ext (by show (x 0).val = 0 + 1 * (x 0).val; omega))) (by show 256 + (x 1).val = 256 + 1 * (x 1).val; omega))
  · exact (qi_1 m c t x).trans (congrArg₂ (QI (X m c) (G m c) (W m c) (CI m c) (SI m c))
      (congrArg (rowOf t) (Fin.ext (by show (x 0).val = 0 + 1 * (x 0).val; omega))) (by show 128 + (x 1).val = 128 + 1 * (x 1).val; omega))
  · exact (qi_0 m c t x).trans (congrArg₂ (QI (X m c) (G m c) (W m c) (CI m c) (SI m c))
      (congrArg (rowOf t) (Fin.ext (by show (x 0).val = 0 + 1 * (x 0).val; omega))) (by show 0 + (x 1).val = 0 + 1 * (x 1).val; omega))

theorem out14 (c : Dev nD) (t : Fin cfg0.N) (y : S512x64.Idx) :
    (show FVec Ideal S512x64 .bf16 from (outsAt0 m c t).2.2.2.1) y = KI (X m c) (G m c) (W m c) (CI m c) (SI m c) (rowOf t (y 0)) (y 1).val := by
  unfold outsAt0
  dsimp only
  frame_out
  exact ki_0 m c t y

theorem out15 (c : Dev nD) (t : Fin cfg0.N) (y : S256x512.Idx) :
    (show FVec Ideal S256x512 .bf16 from (outsAt0 m c t).2.2.2.2.1) y
      = PR (X m c) (G m c) (W m c) (rowOf t (y 1)) (6400 + (y 0).val) := by
  have l : (y 0).val < 256 := (y 0).isLt
  unfold outsAt0
  dsimp only
  frame_out
  pointwise [k0_pay9, k0_pay8, k0_pay7]
  refine Eq.trans ?_ (PR_eq _ _ _ _ (6400 + (y 0).val) _ (by omega) rfl)
  unfold proj
  refine Finset.sum_congr rfl fun k _ => ?_
  rw [pay5_at, mul_comm]
  exact congrArg _ ((wt_at m c t _ k).trans (wt_v (W m c) (y 0) k))

theorem out16 (c : Dev nD) (t : Fin cfg0.N) (y : S8x512.Idx) :
    (show FVec Ideal S8x512 .f32 from (outsAt0 m c t).2.2.2.2.2) y
      = PR (X m c) (G m c) (W m c) (rowOf t (y 1)) (7232 + (y 0).val) := by
  have l : (y 0).val < 8 := (y 0).isLt
  unfold outsAt0
  dsimp only
  frame_out
  pointwise [k0_pay10, k0_pay8, k0_pay7]
  refine Eq.trans ?_ (PR_eq _ _ _ _ (7232 + (y 0).val) _ (by omega) rfl)
  unfold proj
  refine Finset.sum_congr rfl fun k _ => ?_
  rw [pay5_at, mul_comm]
  exact congrArg _ ((wt_at m c t _ k).trans (wt_wi (W m c) (y 0) k))

theorem final11 (c : Dev nD) : (dats m 0 c).arrAt 11 (cfgs 0).N = fun i : S16384x1024.Idx =>
    Q (m ((c : Thread nD τ).loc main_arg0)) (m ((c : Thread nD τ).loc main_arg1)) (m ((c : Thread nD τ).loc main_arg2)) (m ((c : Thread nD τ).loc main_arg3)) (m ((c : Thread nD τ).loc main_arg4)) (i 0) (i 1).val := by
  refine (dats m 0 c).arrAt_eq_of_covers 11 _ (by decide +kernel) fun t hf y => ?_
  have hN := lt_of_lt_of_eq t.isLt (show cfg0.N = 32 from N_0)
  blk_simp
  rw [after0_11]
  refine (out11 m c t y).trans ?_
  have e0 : (((cfg0.win 11).blk t).view.emb y) 0 = rowOf t (y 0) := by apply Fin.ext; simp only [rowOf]; blk_point [idx t]
  rw [e0]
  refine congrArg (fun n => Q (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) n) (?_ : (y 1).val = _)
  simp [idx t]

theorem final12 (c : Dev nD) : (dats m 0 c).arrAt 12 (cfgs 0).N = fun i : S16384x256.Idx =>
    K (m ((c : Thread nD τ).loc main_arg0)) (m ((c : Thread nD τ).loc main_arg1)) (m ((c : Thread nD τ).loc main_arg2)) (m ((c : Thread nD τ).loc main_arg3)) (m ((c : Thread nD τ).loc main_arg4)) (i 0) (i 1).val := by
  refine (dats m 0 c).arrAt_eq_of_covers 12 _ (by decide +kernel) fun t hf y => ?_
  have hN := lt_of_lt_of_eq t.isLt (show cfg0.N = 32 from N_0)
  blk_simp
  rw [after0_12]
  refine (out12 m c t y).trans ?_
  have e0 : (((cfg0.win 12).blk t).view.emb y) 0 = rowOf t (y 0) := by apply Fin.ext; simp only [rowOf]; blk_point [idx t]
  rw [e0]
  refine congrArg (fun n => K (m ((c : Thread nD τ).loc main_arg0)) (m ((c : Thread nD τ).loc main_arg1)) (m ((c : Thread nD τ).loc main_arg2)) (m ((c : Thread nD τ).loc main_arg3)) (m ((c : Thread nD τ).loc main_arg4)) (rowOf t (y 0)) n) (?_ : (y 1).val = _)
  simp [idx t]

theorem final13 (c : Dev nD) : (dats m 0 c).arrAt 13 (cfgs 0).N = fun i : S16384x512.Idx =>
    QI (m ((c : Thread nD τ).loc main_arg0)) (m ((c : Thread nD τ).loc main_arg1)) (m ((c : Thread nD τ).loc main_arg2)) (m ((c : Thread nD τ).loc main_arg5)) (m ((c : Thread nD τ).loc main_arg6)) (i 0) (i 1).val := by
  refine (dats m 0 c).arrAt_eq_of_covers 13 _ (by decide +kernel) fun t hf y => ?_
  have hN := lt_of_lt_of_eq t.isLt (show cfg0.N = 32 from N_0)
  blk_simp
  rw [after0_13]
  refine (out13 m c t y).trans ?_
  have e0 : (((cfg0.win 13).blk t).view.emb y) 0 = rowOf t (y 0) := by apply Fin.ext; simp only [rowOf]; blk_point [idx t]
  rw [e0]
  refine congrArg (fun n => QI (m ((c : Thread nD τ).loc main_arg0)) (m ((c : Thread nD τ).loc main_arg1)) (m ((c : Thread nD τ).loc main_arg2)) (m ((c : Thread nD τ).loc main_arg5)) (m ((c : Thread nD τ).loc main_arg6)) (rowOf t (y 0)) n) (?_ : (y 1).val = _)
  simp [idx t]

theorem final14 (c : Dev nD) : (dats m 0 c).arrAt 14 (cfgs 0).N = fun i : S16384x64.Idx =>
    KI (m ((c : Thread nD τ).loc main_arg0)) (m ((c : Thread nD τ).loc main_arg1)) (m ((c : Thread nD τ).loc main_arg2)) (m ((c : Thread nD τ).loc main_arg5)) (m ((c : Thread nD τ).loc main_arg6)) (i 0) (i 1).val := by
  refine (dats m 0 c).arrAt_eq_of_covers 14 _ (by decide +kernel) fun t hf y => ?_
  have hN := lt_of_lt_of_eq t.isLt (show cfg0.N = 32 from N_0)
  blk_simp
  rw [after0_14]
  refine (out14 m c t y).trans ?_
  have e0 : (((cfg0.win 14).blk t).view.emb y) 0 = rowOf t (y 0) := by apply Fin.ext; simp only [rowOf]; blk_point [idx t]
  rw [e0]
  refine congrArg (fun n => KI (m ((c : Thread nD τ).loc main_arg0)) (m ((c : Thread nD τ).loc main_arg1)) (m ((c : Thread nD τ).loc main_arg2)) (m ((c : Thread nD τ).loc main_arg5)) (m ((c : Thread nD τ).loc main_arg6)) (rowOf t (y 0)) n) (?_ : (y 1).val = _)
  simp [idx t]

theorem final15 (c : Dev nD) : (dats m 0 c).arrAt 15 (cfgs 0).N = fun i : S256x16384.Idx =>
    PR (m ((c : Thread nD τ).loc main_arg0)) (m ((c : Thread nD τ).loc main_arg1)) (m ((c : Thread nD τ).loc main_arg2)) (i 1) (6400 + (i 0).val) := by
  refine (dats m 0 c).arrAt_eq_of_covers 15 _ (by decide +kernel) fun t hf y => ?_
  have hN := lt_of_lt_of_eq t.isLt (show cfg0.N = 32 from N_0)
  blk_simp
  rw [after0_15]
  refine (out15 m c t y).trans ?_
  have e0 : (((cfg0.win 15).blk t).view.emb y) 1 = rowOf t (y 1) := by apply Fin.ext; simp only [rowOf]; blk_point [idx t]
  rw [e0]
  refine congrArg (fun n => PR (m ((c : Thread nD τ).loc main_arg0)) (m ((c : Thread nD τ).loc main_arg1)) (m ((c : Thread nD τ).loc main_arg2)) (rowOf t (y 1)) (6400 + n)) (?_ : (y 0).val = _)
  simp [idx t]

theorem final16 (c : Dev nD) : (dats m 0 c).arrAt 16 (cfgs 0).N = fun i : S8x16384.Idx =>
    PR (m ((c : Thread nD τ).loc main_arg0)) (m ((c : Thread nD τ).loc main_arg1)) (m ((c : Thread nD τ).loc main_arg2)) (i 1) (7232 + (i 0).val) := by
  refine (dats m 0 c).arrAt_eq_of_covers 16 _ (by decide +kernel) fun t hf y => ?_
  have hN := lt_of_lt_of_eq t.isLt (show cfg0.N = 32 from N_0)
  blk_simp
  rw [after0_16]
  refine (out16 m c t y).trans ?_
  have e0 : (((cfg0.win 16).blk t).view.emb y) 1 = rowOf t (y 1) := by apply Fin.ext; simp only [rowOf]; blk_point [idx t]
  rw [e0]
  refine congrArg (fun n => PR (m ((c : Thread nD τ).loc main_arg0)) (m ((c : Thread nD τ).loc main_arg1)) (m ((c : Thread nD τ).loc main_arg2)) (rowOf t (y 1)) (7232 + n)) (?_ : (y 0).val = _)
  simp [idx t]

end Cert.QkvIdeal.Value
-- ==== Proof.QkvClaims.lean ====
module

public import proofs.«01_k».proof.Defs
public import Idealize.ShloMosaic.Lib.Quiescent
public import proofs.«01_k».proof.Proof.Gen.Qkv.Frame
public import proofs.«01_k».proof.Proof.Gen.QkvRefIdeal.Run
public import proofs.«01_k».proof.Proof.QkvValue
public import proofs.«01_k».proof.Proof.QkvRefAt

@[expose] public section

set_option maxRecDepth 16384

noncomputable section

open Idealize.ShloMosaic Idealize.SL.Sem

/-! The claims about `Qkv`. -/

namespace Cert.Proof.Qkv

theorem frame : Cert.quiescent_Qkv := fun m g _ => Cert.Qkv.Gen.frame m g

theorem frame_ideal : Cert.quiescent_QkvIdeal := fun m g _ => Cert.QkvIdeal.Gen.frame m g

theorem frame_ref : Cert.quiescent_QkvRefIdeal := fun m g _ =>
  (θ_run _ _ _).mono (fun r h => ⟨fun c => (h c).2.2.2.2.2.2, sem_eq_zero_of_no_sems (by decide) r.2⟩)
    (Cert.QkvRefIdeal.Value.run_at m g)

/-- The scale of the queries, the constant named in the ideal program, is the real `log2 e / sqrt 128` there. -/
theorem preserves : Cert.preserves_Qkv_QkvIdeal :=
  IdealRules.named_const.statement Cert.QkvIdeal.κ "q_scale" .f32 0x3E0293EE#32 _ rfl

set_option maxHeartbeats 2000000 in
theorem algebraic : Cert.algebraic_QkvIdeal_QkvRefIdeal := by
  pair_intro
  · run_from Cert.QkvIdeal.Value.run_blocks m g
  · run_from Cert.QkvRefIdeal.Value.run_at m' g'
    · rw [Cert.QkvIdeal.Value.final11 m c]
    · rw [Cert.QkvIdeal.Value.final12 m c]
    · rw [Cert.QkvIdeal.Value.final13 m c]
    · rw [Cert.QkvIdeal.Value.final14 m c]
    · rw [Cert.QkvIdeal.Value.final15 m c]
    · rw [Cert.QkvIdeal.Value.final16 m c]

end Cert.Proof.Qkv
-- ==== Proof.lean ====
module

public import proofs.«01_k».proof.Defs
public import proofs.«01_k».proof.Proof.FfnClaims
public import proofs.«01_k».proof.Proof.LastFfnClaims
public import proofs.«01_k».proof.Proof.MergeClaims
public import proofs.«01_k».proof.Proof.SconvClaims
public import proofs.«01_k».proof.Proof.RnnClaims
public import proofs.«01_k».proof.Proof.QkvClaims

@[expose] public section

noncomputable section

open Idealize.ShloMosaic Idealize.SL.Sem

namespace Cert.Proof

theorem claim : Cert.Claim :=
  ⟨Cert.Ffn.Gen.facts, Cert.FfnIdeal.Gen.facts, Cert.FfnRefIdeal.Gen.facts, Cert.LastFfn.Gen.facts, Cert.LastFfnIdeal.Gen.facts, Cert.LastFfnRefIdeal.Gen.facts, Cert.Merge.Gen.facts, Cert.MergeIdeal.Gen.facts, Cert.MergeRefIdeal.Gen.facts, Cert.Sconv.Gen.facts, Cert.SconvIdeal.Gen.facts, Cert.SconvRefIdeal.Gen.facts, Cert.Rnn.Gen.facts, Cert.RnnIdeal.Gen.facts, Cert.RnnRefIdeal.Gen.facts, Cert.Qkv.Gen.facts, Cert.QkvIdeal.Gen.facts, Cert.QkvRefIdeal.Gen.facts,
   Ffn.frame, Ffn.frame_ideal, Ffn.frame_ref,
   LastFfn.frame, LastFfn.frame_ideal, LastFfn.frame_ref,
   Merge.frame, Merge.frame_ideal, Merge.frame_ref,
   Sconv.frame, Sconv.frame_ideal, Sconv.frame_ref,
   Rnn.frame, Rnn.frame_ideal, Rnn.frame_ref,
   Qkv.frame, Qkv.frame_ideal, Qkv.frame_ref,
   trivial, Ffn.algebraic,
   trivial, LastFfn.algebraic,
   trivial, Merge.algebraic,
   trivial, Sconv.algebraic,
   trivial, Rnn.algebraic,
   Qkv.preserves, Qkv.algebraic⟩

end Cert.Proof
